-- ==== Defs.lean ====
def Pre_Kernel [hPre_in_cache : Cert.Pre_in_cache.Facts] (m : (ℓ : Loc Cert.Kernel.nD Cert.Kernel.τ Cert.Kernel.sig) → Buf (Elt Bits) ℓ) : Prop :=
  ∀ c : Dev Cert.Kernel.nD,
    (Cert.Pre_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_cache : Cert.Pre_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_cache [hPre_in_cache : Cert.Pre_in_cache.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_cache.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_cache : Cert.Pre_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_cache : Cert.Pre_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_cache [hReferenceIdeal : Cert.ReferenceIdeal.Facts] [hPre_in_cache : Cert.Pre_in_cache.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_cache m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_in_cache : Cert.Pre_in_cache.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_cache : Cert.Pre_in_cache.Facts),
    quiescent_Kernel (hKernel := hKernel) (hPre_in_cache := hPre_in_cache)
    ∧ quiescent_KernelIdeal (hKernelIdeal := hKernelIdeal) (hPre_in_cache := hPre_in_cache)
    ∧ quiescent_ReferenceIdeal (hReferenceIdeal := hReferenceIdeal)
    ∧ quiescent_ReferenceIdeal_pre_in_cache (hReferenceIdeal := hReferenceIdeal) (hPre_in_cache := hPre_in_cache)
    ∧ preserves_Kernel_KernelIdeal
    ∧ algebraic_KernelIdeal_ReferenceIdeal (hKernelIdeal := hKernelIdeal) (hReferenceIdeal := hReferenceIdeal) (hPre_in_cache := hPre_in_cache)
-- ==== Pre_in_cache.lean ====
abbrev S32x72x40x128 : Shape := ⟨4, ![32, 72, 40, 128]⟩
abbrev S32x72x8x128 : Shape := ⟨4, ![32, 72, 8, 128]⟩
abbrev S32x4096x8x128 : Shape := ⟨4, ![32, 4096, 8, 128]⟩
abbrev S32x4096x8 : Shape := ⟨3, ![32, 4096, 8]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S32x72x40x128 .bf16) (main_arg1 : FVec F S32x72x8x128 .bf16) (main_arg2 : FVec F S32x72x8x128 .bf16) (main_arg3 : FVec F S32x4096x8x128 .fp8e4m3) (main_arg4 : FVec F S32x4096x8x128 .fp8e4m3) (main_arg5 : FVec F S32x4096x8 .f32) (main_arg6 : FVec F S32x4096x8 .f32) (main_arg7 : IVec S32 32) : IVec S_ 1 :=
  let main_c : IVec S_ 32 := constantI S_ 32 0#32
  let main_v0 : IVec S32 32 := broadcastInDim S32 ![] bcast_S_S32 main_c
  let main_v1 : IVec S32 1 := cmpi .sge main_arg7 main_v0
  let main_c_0 : IVec S_ 32 := constantI S_ 32 4096#32
  let main_v2 : IVec S32 32 := broadcastInDim S32 ![] bcast_S_S32 main_c_0
  let main_v3 : IVec S32 1 := cmpi .sle main_arg7 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  main_v5
-- ==== Kernel.lean ====
abbrev S32x72x40x128 : Shape := ⟨4, ![32, 72, 40, 128]⟩
abbrev S32x72x8x128 : Shape := ⟨4, ![32, 72, 8, 128]⟩
abbrev S32x4096x8x128 : Shape := ⟨4, ![32, 4096, 8, 128]⟩
abbrev S32x4096x8 : Shape := ⟨3, ![32, 4096, 8]⟩
abbrev S32 : Shape := ⟨1, ![32]⟩
abbrev S32x8x4096 : Shape := ⟨3, ![32, 8, 4096]⟩
abbrev S1x72x40x128 : Shape := ⟨4, ![1, 72, 40, 128]⟩
abbrev S1x72x8x128 : Shape := ⟨4, ![1, 72, 8, 128]⟩
abbrev S1x4096x8x128 : Shape := ⟨4, ![1, 4096, 8, 128]⟩
abbrev S1x8x4096 : Shape := ⟨3, ![1, 8, 4096]⟩
abbrev S4x4096x128 : Shape := ⟨3, ![4, 4096, 128]⟩
abbrev S360x128 : Shape := ⟨2, ![360, 128]⟩
abbrev S1 : Shape := ⟨1, ![1]⟩
abbrev S1x512 : Shape := ⟨2, ![1, 512]⟩
abbrev S1x128 : Shape := ⟨2, ![1, 128]⟩
abbrev S8x128 : Shape := ⟨2, ![8, 128]⟩
abbrev S72x72 : Shape := ⟨2, ![72, 72]⟩
abbrev S1x512x1x128 : Shape := ⟨4, ![1, 512, 1, 128]⟩
abbrev S512x128 : Shape := ⟨2, ![512, 128]⟩
abbrev S16x4x8x128 : Shape := ⟨4, ![16, 4, 8, 128]⟩
abbrev S16x8x4x128 : Shape := ⟨4, ![16, 8, 4, 128]⟩
abbrev S1x512x128 : Shape := ⟨3, ![1, 512, 128]⟩
abbrev S1x72x1x128 : Shape := ⟨4, ![1, 72, 1, 128]⟩
abbrev S72x128 : Shape := ⟨2, ![72, 128]⟩
abbrev S360x72 : Shape := ⟨2, ![360, 72]⟩
abbrev S360 : Shape := ⟨1, ![360]⟩
abbrev S360x1 : Shape := ⟨2, ![360, 1]⟩
abbrev S1x8x512 : Shape := ⟨3, ![1, 8, 512]⟩
abbrev S8x512 : Shape := ⟨2, ![8, 512]⟩
abbrev S8x128x1 : Shape := ⟨3, ![8, 128, 1]⟩
abbrev S360x512 : Shape := ⟨2, ![360, 512]⟩
abbrev S1x72x2x128 : Shape := ⟨4, ![1, 72, 2, 128]⟩

abbrev nBuf : Space → Nat
  | .hbm => 10
  | .vmem => 21
  | .smem => 1
  | _ => 0

abbrev bufTy : (tb : Table) → Fin (tcTables nBuf tb) → BufTy
  | .hbm, ⟨0, _⟩ => ⟨S32x72x40x128, .bf16⟩
  | .hbm, ⟨1, _⟩ => ⟨S32x72x8x128, .bf16⟩
  | .hbm, ⟨2, _⟩ => ⟨S32x72x8x128, .bf16⟩
  | .hbm, ⟨3, _⟩ => ⟨S32x4096x8x128, .fp8e4m3⟩
  | .hbm, ⟨4, _⟩ => ⟨S32x4096x8x128, .fp8e4m3⟩
  | .hbm, ⟨5, _⟩ => ⟨S32x4096x8, .f32⟩
  | .hbm, ⟨6, _⟩ => ⟨S32x4096x8, .f32⟩
  | .hbm, ⟨7, _⟩ => ⟨S32x8x4096, .f32⟩
  | .hbm, ⟨8, _⟩ => ⟨S32x8x4096, .f32⟩
  | .hbm, ⟨9, _⟩ => ⟨S32x72x40x128, .bf16⟩
  | .local _ .vmem, ⟨0, _⟩ => ⟨S1x72x40x128, .bf16⟩
  | .local _ .vmem, ⟨1, _⟩ => ⟨S1x72x40x128, .bf16⟩
  | .local _ .vmem, ⟨2, _⟩ => ⟨S1x72x8x128, .bf16⟩
  | .local _ .vmem, ⟨3, _⟩ => ⟨S1x72x8x128, .bf16⟩
  | .local _ .vmem, ⟨4, _⟩ => ⟨S1x72x8x128, .bf16⟩
  | .local _ .vmem, ⟨5, _⟩ => ⟨S1x72x8x128, .bf16⟩
  | .local _ .vmem, ⟨6, _⟩ => ⟨S1x4096x8x128, .fp8e4m3⟩
  | .local _ .vmem, ⟨7, _⟩ => ⟨S1x4096x8x128, .fp8e4m3⟩
  | .local _ .vmem, ⟨8, _⟩ => ⟨S1x4096x8x128, .fp8e4m3⟩
  | .local _ .vmem, ⟨9, _⟩ => ⟨S1x4096x8x128, .fp8e4m3⟩
  | .local _ .vmem, ⟨10, _⟩ => ⟨S1x8x4096, .f32⟩
  | .local _ .vmem, ⟨11, _⟩ => ⟨S1x8x4096, .f32⟩
  | .local _ .vmem, ⟨12, _⟩ => ⟨S1x8x4096, .f32⟩
  | .local _ .vmem, ⟨13, _⟩ => ⟨S1x8x4096, .f32⟩
  | .local _ .vmem, ⟨14, _⟩ => ⟨S1x72x40x128, .bf16⟩
  | .local _ .vmem, ⟨15, _⟩ => ⟨S1x72x40x128, .bf16⟩
  | .local _ .vmem, ⟨16, _⟩ => ⟨S4x4096x128, .fp8e4m3⟩
  | .local _ .vmem, ⟨17, _⟩ => ⟨S4x4096x128, .fp8e4m3⟩
  | .local _ .vmem, ⟨18, _⟩ => ⟨S360x128, .f32⟩
  | .local _ .vmem, ⟨19, _⟩ => ⟨S360x128, .f32⟩
  | .local _ .vmem, ⟨20, _⟩ => ⟨S360x128, .f32⟩
  | .local _ .smem, ⟨0, _⟩ => ⟨S32, .i32⟩
  | _, _ => ⟨S32x72x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_2 : BitVec 32 := 1#32
  ⟨c0_i32, v27, c1_i32_2⟩

def k0_mult1 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  v629
def k0_off2 (v1 : BitVec 32) (k0_t1 : Fin (k0_t1_loop v1).trips) : Fin 4 → Nat :=
  let c0_529 : Index := 0#32
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  let v630 : BitVec 32 := v629
  let v631 : Index := Scalar.indexCast v630
  let c0_530 : Index := 0#32
  let c0_531 : Index := 0#32
  ![0, v631.toNat, 0, 0]
def k0_mult2 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  v629
def k0_off3 (v1 : BitVec 32) (k0_t1 : Fin (k0_t1_loop v1).trips) : Fin 4 → Nat :=
  let c0_532 : Index := 0#32
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  let v637 : BitVec 32 := v629
  let v638 : Index := Scalar.indexCast v637
  let c1_533 : Index := 1#32
  let c0_534 : Index := 0#32
  ![0, v638.toNat, 1, 0]
def k0_mult3 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  v629
def k0_off4 (v1 : BitVec 32) (k0_t1 : Fin (k0_t1_loop v1).trips) : Fin 4 → Nat :=
  let c0_535 : Index := 0#32
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  let v644 : BitVec 32 := v629
  let v645 : Index := Scalar.indexCast v644
  let c2_536 : Index := 2#32
  let c0_537 : Index := 0#32
  ![0, v645.toNat, 2, 0]
def k0_mult4 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  v629
def k0_off5 (v1 : BitVec 32) (k0_t1 : Fin (k0_t1_loop v1).trips) : Fin 4 → Nat :=
  let c0_538 : Index := 0#32
  let c0_i32 : BitVec 32 := 0#32
  let c1_i32_2 : BitVec 32 := 1#32
  let arg15 : BitVec 32 := Scf.iv c0_i32 c1_i32_2 k0_t1
  let c512_i32_528 : BitVec 32 := 512#32
  let v629 : BitVec 32 := Scalar.muli arg15 c512_i32_528
  let v651 : BitVec 32 := v629
  let v652 : Index := Scalar.indexCast v651
  let c3_539 : Index := 3#32
  let c0_540 : Index := 0#32
  ![0, v652.toNat, 3, 0]
def k0_mult5 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_541 : BitVec 32 := 512#32
  let v658 : BitVec 32 := Scalar.muli arg15 c512_i32_541
  v658
def k0_mult6 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_541 : BitVec 32 := 512#32
  let v658 : BitVec 32 := Scalar.muli arg15 c512_i32_541
  v658
def k0_mult7 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_541 : BitVec 32 := 512#32
  let v658 : BitVec 32 := Scalar.muli arg15 c512_i32_541
  v658
def k0_mult8 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_541 : BitVec 32 := 512#32
  let v658 : BitVec 32 := Scalar.muli arg15 c512_i32_541
  v658
def k0_mult9 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_554 : BitVec 32 := 512#32
  let v687 : BitVec 32 := Scalar.muli arg15 c512_i32_554
  v687
def k0_off6 (v1 : BitVec 32) (k0_t1 : Fin (k0_t1_loop v1).trips) : Fin 3 → Nat :=
  let c0_555 : Index := 0#32
  let c0_i32 : BitVec 32 := 0#32
  let c1_i32_2 : BitVec 32 := 1#32
  let arg15 : BitVec 32 := Scf.iv c0_i32 c1_i32_2 k0_t1
  let c512_i32_554 : BitVec 32 := 512#32
  let v687 : BitVec 32 := Scalar.muli arg15 c512_i32_554
  let v688 : BitVec 32 := v687
  let v689 : Index := Scalar.indexCast v688
  let c0_556 : Index := 0#32
  ![0, v689.toNat, 0]
def k0_mult10 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_557 : BitVec 32 := 512#32
  let v693 : BitVec 32 := Scalar.muli arg15 c512_i32_557
  v693
def k0_mult11 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_560 : BitVec 32 := 512#32
  let v699 : BitVec 32 := Scalar.muli arg15 c512_i32_560
  v699
def k0_off7 (v1 : BitVec 32) (k0_t1 : Fin (k0_t1_loop v1).trips) : Fin 3 → Nat :=
  let c1_561 : Index := 1#32
  let c0_i32 : BitVec 32 := 0#32
  let c1_i32_2 : BitVec 32 := 1#32
  let arg15 : BitVec 32 := Scf.iv c0_i32 c1_i32_2 k0_t1
  let c512_i32_560 : BitVec 32 := 512#32
  let v699 : BitVec 32 := Scalar.muli arg15 c512_i32_560
  let v700 : BitVec 32 := v699
  let v701 : Index := Scalar.indexCast v700
  let c0_562 : Index := 0#32
  ![1, v701.toNat, 0]
def k0_mult12 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_563 : BitVec 32 := 512#32
  let v705 : BitVec 32 := Scalar.muli arg15 c512_i32_563
  v705
def k0_mult13 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_566 : BitVec 32 := 512#32
  let v711 : BitVec 32 := Scalar.muli arg15 c512_i32_566
  v711
def k0_off8 (v1 : BitVec 32) (k0_t1 : Fin (k0_t1_loop v1).trips) : Fin 3 → Nat :=
  let c2_567 : Index := 2#32
  let c0_i32 : BitVec 32 := 0#32
  let c1_i32_2 : BitVec 32 := 1#32
  let arg15 : BitVec 32 := Scf.iv c0_i32 c1_i32_2 k0_t1
  let c512_i32_566 : BitVec 32 := 512#32
  let v711 : BitVec 32 := Scalar.muli arg15 c512_i32_566
  let v712 : BitVec 32 := v711
  let v713 : Index := Scalar.indexCast v712
  let c0_568 : Index := 0#32
  ![2, v713.toNat, 0]
def k0_mult14 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_569 : BitVec 32 := 512#32
  let v717 : BitVec 32 := Scalar.muli arg15 c512_i32_569
  v717
def k0_mult15 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_572 : BitVec 32 := 512#32
  let v723 : BitVec 32 := Scalar.muli arg15 c512_i32_572
  v723
def k0_off9 (v1 : BitVec 32) (k0_t1 : Fin (k0_t1_loop v1).trips) : Fin 3 → Nat :=
  let c3_573 : Index := 3#32
  let c0_i32 : BitVec 32 := 0#32
  let c1_i32_2 : BitVec 32 := 1#32
  let arg15 : BitVec 32 := Scf.iv c0_i32 c1_i32_2 k0_t1
  let c512_i32_572 : BitVec 32 := 512#32
  let v723 : BitVec 32 := Scalar.muli arg15 c512_i32_572
  let v724 : BitVec 32 := v723
  let v725 : Index := Scalar.indexCast v724
  let c0_574 : Index := 0#32
  ![3, v725.toNat, 0]
def k0_mult16 (v1 : BitVec 32) (k0_t1 : Fin (k0_t1_loop v1).trips) : BitVec 32 :=
  let c0_i32 : BitVec 32 := 0#32
  let c1_i32_2 : BitVec 32 := 1#32
  let arg15 : BitVec 32 := Scf.iv c0_i32 c1_i32_2 k0_t1
  let c512_i32_575 : BitVec 32 := 512#32
  let v729 : BitVec 32 := Scalar.muli arg15 c512_i32_575
  v729
@[reducible] def k0_t2_loop (v1 : BitVec 32) : Scf.Loop 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let v24 : BitVec 32 := Scalar.addi c0_i32 v23
  let c1_i32_3 : BitVec 32 := 1#32
  ⟨v27, v24, c1_i32_3⟩
def k0_mult17 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  v629
def k0_off10 (v1 : BitVec 32) (k0_t2 : Fin (k0_t2_loop v1).trips) : Fin 4 → Nat :=
  let c0_529 : Index := 0#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  let v630 : BitVec 32 := v629
  let v631 : Index := Scalar.indexCast v630
  let c0_530 : Index := 0#32
  let c0_531 : Index := 0#32
  ![0, v631.toNat, 0, 0]
def k0_mult18 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  v629
def k0_off11 (v1 : BitVec 32) (k0_t2 : Fin (k0_t2_loop v1).trips) : Fin 4 → Nat :=
  let c0_532 : Index := 0#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  let v637 : BitVec 32 := v629
  let v638 : Index := Scalar.indexCast v637
  let c1_533 : Index := 1#32
  let c0_534 : Index := 0#32
  ![0, v638.toNat, 1, 0]
def k0_mult19 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  v629
def k0_off12 (v1 : BitVec 32) (k0_t2 : Fin (k0_t2_loop v1).trips) : Fin 4 → Nat :=
  let c0_535 : Index := 0#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  let v644 : BitVec 32 := v629
  let v645 : Index := Scalar.indexCast v644
  let c2_536 : Index := 2#32
  let c0_537 : Index := 0#32
  ![0, v645.toNat, 2, 0]
def k0_mult20 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  v629
def k0_off13 (v1 : BitVec 32) (k0_t2 : Fin (k0_t2_loop v1).trips) : Fin 4 → Nat :=
  let c0_538 : Index := 0#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_528 : BitVec 32 := 512#32
  let v629 : BitVec 32 := Scalar.muli arg15 c512_i32_528
  let v651 : BitVec 32 := v629
  let v652 : Index := Scalar.indexCast v651
  let c3_539 : Index := 3#32
  let c0_540 : Index := 0#32
  ![0, v652.toNat, 3, 0]
def k0_mult21 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_541 : BitVec 32 := 512#32
  let v658 : BitVec 32 := Scalar.muli arg15 c512_i32_541
  v658
def k0_mult22 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_541 : BitVec 32 := 512#32
  let v658 : BitVec 32 := Scalar.muli arg15 c512_i32_541
  v658
def k0_mult23 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_541 : BitVec 32 := 512#32
  let v658 : BitVec 32 := Scalar.muli arg15 c512_i32_541
  v658
def k0_mult24 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_541 : BitVec 32 := 512#32
  let v658 : BitVec 32 := Scalar.muli arg15 c512_i32_541
  v658
def k0_mult25 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_554 : BitVec 32 := 512#32
  let v687 : BitVec 32 := Scalar.muli arg15 c512_i32_554
  v687
def k0_off14 (v1 : BitVec 32) (k0_t2 : Fin (k0_t2_loop v1).trips) : Fin 3 → Nat :=
  let c0_555 : Index := 0#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_554 : BitVec 32 := 512#32
  let v687 : BitVec 32 := Scalar.muli arg15 c512_i32_554
  let v688 : BitVec 32 := v687
  let v689 : Index := Scalar.indexCast v688
  let c0_556 : Index := 0#32
  ![0, v689.toNat, 0]
def k0_mult26 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_557 : BitVec 32 := 512#32
  let v693 : BitVec 32 := Scalar.muli arg15 c512_i32_557
  v693
def k0_mult27 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_560 : BitVec 32 := 512#32
  let v699 : BitVec 32 := Scalar.muli arg15 c512_i32_560
  v699
def k0_off15 (v1 : BitVec 32) (k0_t2 : Fin (k0_t2_loop v1).trips) : Fin 3 → Nat :=
  let c1_561 : Index := 1#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_560 : BitVec 32 := 512#32
  let v699 : BitVec 32 := Scalar.muli arg15 c512_i32_560
  let v700 : BitVec 32 := v699
  let v701 : Index := Scalar.indexCast v700
  let c0_562 : Index := 0#32
  ![1, v701.toNat, 0]
def k0_mult28 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_563 : BitVec 32 := 512#32
  let v705 : BitVec 32 := Scalar.muli arg15 c512_i32_563
  v705
def k0_mult29 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_566 : BitVec 32 := 512#32
  let v711 : BitVec 32 := Scalar.muli arg15 c512_i32_566
  v711
def k0_off16 (v1 : BitVec 32) (k0_t2 : Fin (k0_t2_loop v1).trips) : Fin 3 → Nat :=
  let c2_567 : Index := 2#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_566 : BitVec 32 := 512#32
  let v711 : BitVec 32 := Scalar.muli arg15 c512_i32_566
  let v712 : BitVec 32 := v711
  let v713 : Index := Scalar.indexCast v712
  let c0_568 : Index := 0#32
  ![2, v713.toNat, 0]
def k0_mult30 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_569 : BitVec 32 := 512#32
  let v717 : BitVec 32 := Scalar.muli arg15 c512_i32_569
  v717
def k0_mult31 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_572 : BitVec 32 := 512#32
  let v723 : BitVec 32 := Scalar.muli arg15 c512_i32_572
  v723
def k0_off17 (v1 : BitVec 32) (k0_t2 : Fin (k0_t2_loop v1).trips) : Fin 3 → Nat :=
  let c3_573 : Index := 3#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_572 : BitVec 32 := 512#32
  let v723 : BitVec 32 := Scalar.muli arg15 c512_i32_572
  let v724 : BitVec 32 := v723
  let v725 : Index := Scalar.indexCast v724
  let c0_574 : Index := 0#32
  ![3, v725.toNat, 0]
def k0_mult32 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v23 : BitVec 32 := Scalar.subi v3 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_3 : BitVec 32 := 1#32
  let arg15 : BitVec 32 := Scf.iv v27 c1_i32_3 k0_t2
  let c512_i32_575 : BitVec 32 := 512#32
  let v729 : BitVec 32 := Scalar.muli arg15 c512_i32_575
  v729
@[reducible] def k0_t3_loop (v1 : BitVec 32) : Scf.Loop 32 :=
  let c0_i32_39 : BitVec 32 := 0#32
  let c511_i32 : BitVec 32 := 511#32
  let v2 : BitVec 32 := Scalar.addi v1 c511_i32
  let c512_i32 : BitVec 32 := 512#32
  let v3 : BitVec 32 := Scalar.divsi v2 c512_i32
  let v73 : BitVec 32 := Scalar.subi v3 c0_i32_39
  let c1_i32_41 : BitVec 32 := 1#32
  let v75 : BitVec 32 := Scalar.divsi v73 c1_i32_41
  let v76 : BitVec 32 := Scalar.muli v75 c1_i32_41
  let v77 : BitVec 32 := Scalar.addi c0_i32_39 v76
  let c1_i32_42 : BitVec 32 := 1#32
  ⟨c0_i32_39, v77, c1_i32_42⟩
def k0_mult33 (v1 : BitVec 32) (k0_t3 : Fin (k0_t3_loop v1).trips) : BitVec 32 :=
  let c0_i32_39 : BitVec 32 := 0#32
  let c1_i32_42 : BitVec 32 := 1#32
  let arg15 : BitVec 32 := Scf.iv c0_i32_39 c1_i32_42 k0_t3
  let c512_i32_528 : BitVec 32 := 512#32
  let v629 : BitVec 32 := Scalar.muli arg15 c512_i32_528
  v629
def k0_off18 (v1 : BitVec 32) (k0_t3 : Fin (k0_t3_loop v1).trips) : Fin 3 → Nat :=
  let c0_529 : Index := 0#32
  let c0_i32_39 : BitVec 32 := 0#32
  let c1_i32_42 : BitVec 32 := 1#32
  let arg15 : BitVec 32 := Scf.iv c0_i32_39 c1_i32_42 k0_t3
  let c512_i32_528 : BitVec 32 := 512#32
  let v629 : BitVec 32 := Scalar.muli arg15 c512_i32_528
  let v630 : BitVec 32 := v629
  let v631 : Index := Scalar.indexCast v630
  let c0_530 : Index := 0#32
  ![0, v631.toNat, 0]
def k0_off19 (v1 : BitVec 32) (k0_t3 : Fin (k0_t3_loop v1).trips) : Fin 3 → Nat :=
  let c0_533 : Index := 0#32
  let c0_534 : Index := 0#32
  let c0_i32_39 : BitVec 32 := 0#32
  let c1_i32_42 : BitVec 32 := 1#32
  let arg15 : BitVec 32 := Scf.iv c0_i32_39 c1_i32_42 k0_t3
  let c512_i32_528 : BitVec 32 := 512#32
  let v629 : BitVec 32 := Scalar.muli arg15 c512_i32_528
  let v630 : BitVec 32 := v629
  let v637 : Index := Scalar.indexCast v630
  ![0, 0, v637.toNat]
@[reducible] def k0_t4_loop (v1 : BitVec 32) : Scf.Loop 32 :=
  let c0_i32_39 : BitVec 32 := 0#32
  let c511_i32 : BitVec 32 := 511#32
  let v2 : BitVec 32 := Scalar.addi v1 c511_i32
  let c512_i32 : BitVec 32 := 512#32
  let v3 : BitVec 32 := Scalar.divsi v2 c512_i32
  let v73 : BitVec 32 := Scalar.subi v3 c0_i32_39
  let c1_i32_41 : BitVec 32 := 1#32
  let v75 : BitVec 32 := Scalar.divsi v73 c1_i32_41
  let v76 : BitVec 32 := Scalar.muli v75 c1_i32_41
  let v77 : BitVec 32 := Scalar.addi c0_i32_39 v76
  let v74 : BitVec 32 := Scalar.addi c0_i32_39 v73
  let c1_i32_43 : BitVec 32 := 1#32
  ⟨v77, v74, c1_i32_43⟩
def k0_mult34 (v1 : BitVec 32) (k0_t4 : Fin (k0_t4_loop v1).trips) : BitVec 32 :=
  let c0_i32_39 : BitVec 32 := 0#32
  let c511_i32 : BitVec 32 := 511#32
  let v2 : BitVec 32 := Scalar.addi v1 c511_i32
  let c512_i32 : BitVec 32 := 512#32
  let v3 : BitVec 32 := Scalar.divsi v2 c512_i32
  let v73 : BitVec 32 := Scalar.subi v3 c0_i32_39
  let c1_i32_41 : BitVec 32 := 1#32
  let v75 : BitVec 32 := Scalar.divsi v73 c1_i32_41
  let v76 : BitVec 32 := Scalar.muli v75 c1_i32_41
  let v77 : BitVec 32 := Scalar.addi c0_i32_39 v76
  let c1_i32_43 : BitVec 32 := 1#32
  let arg15 : BitVec 32 := Scf.iv v77 c1_i32_43 k0_t4
  let c512_i32_528 : BitVec 32 := 512#32
  let v629 : BitVec 32 := Scalar.muli arg15 c512_i32_528
  v629
def k0_off20 (v1 : BitVec 32) (k0_t4 : Fin (k0_t4_loop v1).trips) : Fin 3 → Nat :=
  let c0_529 : Index := 0#32
  let c0_i32_39 : BitVec 32 := 0#32
  let c511_i32 : BitVec 32 := 511#32
  let v2 : BitVec 32 := Scalar.addi v1 c511_i32
  let c512_i32 : BitVec 32 := 512#32
  let v3 : BitVec 32 := Scalar.divsi v2 c512_i32
  let v73 : BitVec 32 := Scalar.subi v3 c0_i32_39
  let c1_i32_41 : BitVec 32 := 1#32
  let v75 : BitVec 32 := Scalar.divsi v73 c1_i32_41
  let v76 : BitVec 32 := Scalar.muli v75 c1_i32_41
  let v77 : BitVec 32 := Scalar.addi c0_i32_39 v76
  let c1_i32_43 : BitVec 32 := 1#32
  let arg15 : BitVec 32 := Scf.iv v77 c1_i32_43 k0_t4
  let c512_i32_528 : BitVec 32 := 512#32
  let v629 : BitVec 32 := Scalar.muli arg15 c512_i32_528
  let v630 : BitVec 32 := v629
  let v631 : Index := Scalar.indexCast v630
  let c0_530 : Index := 0#32
  ![0, v631.toNat, 0]
def k0_off21 (v1 : BitVec 32) (k0_t4 : Fin (k0_t4_loop v1).trips) : Fin 3 → Nat :=
  let c0_533 : Index := 0#32
  let c0_534 : Index := 0#32
  let c0_i32_39 : BitVec 32 := 0#32
  let c511_i32 : BitVec 32 := 511#32
  let v2 : BitVec 32 := Scalar.addi v1 c511_i32
  let c512_i32 : BitVec 32 := 512#32
  let v3 : BitVec 32 := Scalar.divsi v2 c512_i32
  let v73 : BitVec 32 := Scalar.subi v3 c0_i32_39
  let c1_i32_41 : BitVec 32 := 1#32
  let v75 : BitVec 32 := Scalar.divsi v73 c1_i32_41
  let v76 : BitVec 32 := Scalar.muli v75 c1_i32_41
  let v77 : BitVec 32 := Scalar.addi c0_i32_39 v76
  let c1_i32_43 : BitVec 32 := 1#32
  let arg15 : BitVec 32 := Scf.iv v77 c1_i32_43 k0_t4
  let c512_i32_528 : BitVec 32 := 512#32
  let v629 : BitVec 32 := Scalar.muli arg15 c512_i32_528
  let v630 : BitVec 32 := v629
  let v637 : Index := Scalar.indexCast v630
  ![0, 0, v637.toNat]
@[reducible] def k0_t5_loop (v1 : BitVec 32) : Scf.Loop 32 :=
  let c0_i32_104 : BitVec 32 := 0#32
  let c511_i32 : BitVec 32 := 511#32
  let v2 : BitVec 32 := Scalar.addi v1 c511_i32
  let c512_i32 : BitVec 32 := 512#32
  let v3 : BitVec 32 := Scalar.divsi v2 c512_i32
  let v147 : BitVec 32 := Scalar.subi v3 c0_i32_104
  let c1_i32_106 : BitVec 32 := 1#32
  let v149 : BitVec 32 := Scalar.divsi v147 c1_i32_106
  let v150 : BitVec 32 := Scalar.muli v149 c1_i32_106
  let v151 : BitVec 32 := Scalar.addi c0_i32_104 v150
  let c1_i32_107 : BitVec 32 := 1#32
  ⟨c0_i32_104, v151, c1_i32_107⟩
def k0_mult35 (v1 : BitVec 32) (k0_t5 : Fin (k0_t5_loop v1).trips) : BitVec 32 :=
  let c0_i32_104 : BitVec 32 := 0#32
  let c1_i32_107 : BitVec 32 := 1#32
  let arg15 : BitVec 32 := Scf.iv c0_i32_104 c1_i32_107 k0_t5
  let c512_i32_528 : BitVec 32 := 512#32
  let v629 : BitVec 32 := Scalar.muli arg15 c512_i32_528
  v629
def k0_off22 (v1 : BitVec 32) (k0_t5 : Fin (k0_t5_loop v1).trips) : Fin 3 → Nat :=
  let c1_529 : Index := 1#32
  let c0_i32_104 : BitVec 32 := 0#32
  let c1_i32_107 : BitVec 32 := 1#32
  let arg15 : BitVec 32 := Scf.iv c0_i32_104 c1_i32_107 k0_t5
  let c512_i32_528 : BitVec 32 := 512#32
  let v629 : BitVec 32 := Scalar.muli arg15 c512_i32_528
  let v630 : BitVec 32 := v629
  let v631 : Index := Scalar.indexCast v630
  let c0_530 : Index := 0#32
  ![1, v631.toNat, 0]
def k0_off23 (v1 : BitVec 32) (k0_t5 : Fin (k0_t5_loop v1).trips) : Fin 3 → Nat :=
  let c0_533 : Index := 0#32
  let c0_534 : Index := 0#32
  let c0_i32_104 : BitVec 32 := 0#32
  let c1_i32_107 : BitVec 32 := 1#32
  let arg15 : BitVec 32 := Scf.iv c0_i32_104 c1_i32_107 k0_t5
  let c512_i32_528 : BitVec 32 := 512#32
  let v629 : BitVec 32 := Scalar.muli arg15 c512_i32_528
  let v630 : BitVec 32 := v629
  let v637 : Index := Scalar.indexCast v630
  ![0, 0, v637.toNat]
@[reducible] def k0_t6_loop (v1 : BitVec 32) : Scf.Loop 32 :=
  let c0_i32_104 : BitVec 32 := 0#32
  let c511_i32 : BitVec 32 := 511#32
  let v2 : BitVec 32 := Scalar.addi v1 c511_i32
  let c512_i32 : BitVec 32 := 512#32
  let v3 : BitVec 32 := Scalar.divsi v2 c512_i32
  let v147 : BitVec 32 := Scalar.subi v3 c0_i32_104
  let c1_i32_106 : BitVec 32 := 1#32
  let v149 : BitVec 32 := Scalar.divsi v147 c1_i32_106
  let v150 : BitVec 32 := Scalar.muli v149 c1_i32_106
  let v151 : BitVec 32 := Scalar.addi c0_i32_104 v150
  let v148 : BitVec 32 := Scalar.addi c0_i32_104 v147
  let c1_i32_108 : BitVec 32 := 1#32
  ⟨v151, v148, c1_i32_108⟩
def k0_mult36 (v1 : BitVec 32) (k0_t6 : Fin (k0_t6_loop v1).trips) : BitVec 32 :=
  let c0_i32_104 : BitVec 32 := 0#32
  let c511_i32 : BitVec 32 := 511#32
  let v2 : BitVec 32 := Scalar.addi v1 c511_i32
  let c512_i32 : BitVec 32 := 512#32
  let v3 : BitVec 32 := Scalar.divsi v2 c512_i32
  let v147 : BitVec 32 := Scalar.subi v3 c0_i32_104
  let c1_i32_106 : BitVec 32 := 1#32
  let v149 : BitVec 32 := Scalar.divsi v147 c1_i32_106
  let v150 : BitVec 32 := Scalar.muli v149 c1_i32_106
  let v151 : BitVec 32 := Scalar.addi c0_i32_104 v150
  let c1_i32_108 : BitVec 32 := 1#32
  let arg15 : BitVec 32 := Scf.iv v151 c1_i32_108 k0_t6
  let c512_i32_528 : BitVec 32 := 512#32
  let v629 : BitVec 32 := Scalar.muli arg15 c512_i32_528
  v629
def k0_off24 (v1 : BitVec 32) (k0_t6 : Fin (k0_t6_loop v1).trips) : Fin 3 → Nat :=
  let c1_529 : Index := 1#32
  let c0_i32_104 : BitVec 32 := 0#32
  let c511_i32 : BitVec 32 := 511#32
  let v2 : BitVec 32 := Scalar.addi v1 c511_i32
  let c512_i32 : BitVec 32 := 512#32
  let v3 : BitVec 32 := Scalar.divsi v2 c512_i32
  let v147 : BitVec 32 := Scalar.subi v3 c0_i32_104
  let c1_i32_106 : BitVec 32 := 1#32
  let v149 : BitVec 32 := Scalar.divsi v147 c1_i32_106
  let v150 : BitVec 32 := Scalar.muli v149 c1_i32_106
  let v151 : BitVec 32 := Scalar.addi c0_i32_104 v150
  let c1_i32_108 : BitVec 32 := 1#32
  let arg15 : BitVec 32 := Scf.iv v151 c1_i32_108 k0_t6
  let c512_i32_528 : BitVec 32 := 512#32
  let v629 : BitVec 32 := Scalar.muli arg15 c512_i32_528
  let v630 : BitVec 32 := v629
  let v631 : Index := Scalar.indexCast v630
  let c0_530 : Index := 0#32
  ![1, v631.toNat, 0]
def k0_off25 (v1 : BitVec 32) (k0_t6 : Fin (k0_t6_loop v1).trips) : Fin 3 → Nat :=
  let c0_533 : Index := 0#32
  let c0_534 : Index := 0#32
  let c0_i32_104 : BitVec 32 := 0#32
  let c511_i32 : BitVec 32 := 511#32
  let v2 : BitVec 32 := Scalar.addi v1 c511_i32
  let c512_i32 : BitVec 32 := 512#32
  let v3 : BitVec 32 := Scalar.divsi v2 c512_i32
  let v147 : BitVec 32 := Scalar.subi v3 c0_i32_104
  let c1_i32_106 : BitVec 32 := 1#32
  let v149 : BitVec 32 := Scalar.divsi v147 c1_i32_106
  let v150 : BitVec 32 := Scalar.muli v149 c1_i32_106
  let v151 : BitVec 32 := Scalar.addi c0_i32_104 v150
  let c1_i32_108 : BitVec 32 := 1#32
  let arg15 : BitVec 32 := Scf.iv v151 c1_i32_108 k0_t6
  let c512_i32_528 : BitVec 32 := 512#32
  let v629 : BitVec 32 := Scalar.muli arg15 c512_i32_528
  let v630 : BitVec 32 := v629
  let v637 : Index := Scalar.indexCast v630
  ![0, 0, v637.toNat]
@[reducible] def k0_t7_loop (v1 : BitVec 32) : Scf.Loop 32 :=
  let c0_i32_169 : BitVec 32 := 0#32
  let c511_i32 : BitVec 32 := 511#32
  let v2 : BitVec 32 := Scalar.addi v1 c511_i32
  let c512_i32 : BitVec 32 := 512#32
  let v3 : BitVec 32 := Scalar.divsi v2 c512_i32
  let v221 : BitVec 32 := Scalar.subi v3 c0_i32_169
  let c1_i32_171 : BitVec 32 := 1#32
  let v223 : BitVec 32 := Scalar.divsi v221 c1_i32_171
  let v224 : BitVec 32 := Scalar.muli v223 c1_i32_171
  let v225 : BitVec 32 := Scalar.addi c0_i32_169 v224
  let c1_i32_172 : BitVec 32 := 1#32
  ⟨c0_i32_169, v225, c1_i32_172⟩
def k0_mult37 (v1 : BitVec 32) (k0_t7 : Fin (k0_t7_loop v1).trips) : BitVec 32 :=
  let c0_i32_169 : BitVec 32 := 0#32
  let c1_i32_172 : BitVec 32 := 1#32
  let arg15 : BitVec 32 := Scf.iv c0_i32_169 c1_i32_172 k0_t7
  let c512_i32_528 : BitVec 32 := 512#32
  let v629 : BitVec 32 := Scalar.muli arg15 c512_i32_528
  v629
def k0_off26 (v1 : BitVec 32) (k0_t7 : Fin (k0_t7_loop v1).trips) : Fin 3 → Nat :=
  let c2_529 : Index := 2#32
  let c0_i32_169 : BitVec 32 := 0#32
  let c1_i32_172 : BitVec 32 := 1#32
  let arg15 : BitVec 32 := Scf.iv c0_i32_169 c1_i32_172 k0_t7
  let c512_i32_528 : BitVec 32 := 512#32
  let v629 : BitVec 32 := Scalar.muli arg15 c512_i32_528
  let v630 : BitVec 32 := v629
  let v631 : Index := Scalar.indexCast v630
  let c0_530 : Index := 0#32
  ![2, v631.toNat, 0]
def k0_off27 (v1 : BitVec 32) (k0_t7 : Fin (k0_t7_loop v1).trips) : Fin 3 → Nat :=
  let c0_533 : Index := 0#32
  let c0_534 : Index := 0#32
  let c0_i32_169 : BitVec 32 := 0#32
  let c1_i32_172 : BitVec 32 := 1#32
  let arg15 : BitVec 32 := Scf.iv c0_i32_169 c1_i32_172 k0_t7
  let c512_i32_528 : BitVec 32 := 512#32
  let v629 : BitVec 32 := Scalar.muli arg15 c512_i32_528
  let v630 : BitVec 32 := v629
  let v637 : Index := Scalar.indexCast v630
  ![0, 0, v637.toNat]
@[reducible] def k0_t8_loop (v1 : BitVec 32) : Scf.Loop 32 :=
  let c0_i32_169 : BitVec 32 := 0#32
  let c511_i32 : BitVec 32 := 511#32
  let v2 : BitVec 32 := Scalar.addi v1 c511_i32
  let c512_i32 : BitVec 32 := 512#32
  let v3 : BitVec 32 := Scalar.divsi v2 c512_i32
  let v221 : BitVec 32 := Scalar.subi v3 c0_i32_169
  let c1_i32_171 : BitVec 32 := 1#32
  let v223 : BitVec 32 := Scalar.divsi v221 c1_i32_171
  let v224 : BitVec 32 := Scalar.muli v223 c1_i32_171
  let v225 : BitVec 32 := Scalar.addi c0_i32_169 v224
  let v222 : BitVec 32 := Scalar.addi c0_i32_169 v221
  let c1_i32_173 : BitVec 32 := 1#32
  ⟨v225, v222, c1_i32_173⟩
def k0_mult38 (v1 : BitVec 32) (k0_t8 : Fin (k0_t8_loop v1).trips) : BitVec 32 :=
  let c0_i32_169 : BitVec 32 := 0#32
  let c511_i32 : BitVec 32 := 511#32
  let v2 : BitVec 32 := Scalar.addi v1 c511_i32
  let c512_i32 : BitVec 32 := 512#32
  let v3 : BitVec 32 := Scalar.divsi v2 c512_i32
  let v221 : BitVec 32 := Scalar.subi v3 c0_i32_169
  let c1_i32_171 : BitVec 32 := 1#32
  let v223 : BitVec 32 := Scalar.divsi v221 c1_i32_171
  let v224 : BitVec 32 := Scalar.muli v223 c1_i32_171
  let v225 : BitVec 32 := Scalar.addi c0_i32_169 v224
  let c1_i32_173 : BitVec 32 := 1#32
  let arg15 : BitVec 32 := Scf.iv v225 c1_i32_173 k0_t8
  let c512_i32_528 : BitVec 32 := 512#32
  let v629 : BitVec 32 := Scalar.muli arg15 c512_i32_528
  v629
def k0_off28 (v1 : BitVec 32) (k0_t8 : Fin (k0_t8_loop v1).trips) : Fin 3 → Nat :=
  let c2_529 : Index := 2#32
  let c0_i32_169 : BitVec 32 := 0#32
  let c511_i32 : BitVec 32 := 511#32
  let v2 : BitVec 32 := Scalar.addi v1 c511_i32
  let c512_i32 : BitVec 32 := 512#32
  let v3 : BitVec 32 := Scalar.divsi v2 c512_i32
  let v221 : BitVec 32 := Scalar.subi v3 c0_i32_169
  let c1_i32_171 : BitVec 32 := 1#32
  let v223 : BitVec 32 := Scalar.divsi v221 c1_i32_171
  let v224 : BitVec 32 := Scalar.muli v223 c1_i32_171
  let v225 : BitVec 32 := Scalar.addi c0_i32_169 v224
  let c1_i32_173 : BitVec 32 := 1#32
  let arg15 : BitVec 32 := Scf.iv v225 c1_i32_173 k0_t8
  let c512_i32_528 : BitVec 32 := 512#32
  let v629 : BitVec 32 := Scalar.muli arg15 c512_i32_528
  let v630 : BitVec 32 := v629
  let v631 : Index := Scalar.indexCast v630
  let c0_530 : Index := 0#32
  ![2, v631.toNat, 0]
def k0_off29 (v1 : BitVec 32) (k0_t8 : Fin (k0_t8_loop v1).trips) : Fin 3 → Nat :=
  let c0_533 : Index := 0#32
  let c0_534 : Index := 0#32
  let c0_i32_169 : BitVec 32 := 0#32
  let c511_i32 : BitVec 32 := 511#32
  let v2 : BitVec 32 := Scalar.addi v1 c511_i32
  let c512_i32 : BitVec 32 := 512#32
  let v3 : BitVec 32 := Scalar.divsi v2 c512_i32
  let v221 : BitVec 32 := Scalar.subi v3 c0_i32_169
  let c1_i32_171 : BitVec 32 := 1#32
  let v223 : BitVec 32 := Scalar.divsi v221 c1_i32_171
  let v224 : BitVec 32 := Scalar.muli v223 c1_i32_171
  let v225 : BitVec 32 := Scalar.addi c0_i32_169 v224
  let c1_i32_173 : BitVec 32 := 1#32
  let arg15 : BitVec 32 := Scf.iv v225 c1_i32_173 k0_t8
  let c512_i32_528 : BitVec 32 := 512#32
  let v629 : BitVec 32 := Scalar.muli arg15 c512_i32_528
  let v630 : BitVec 32 := v629
  let v637 : Index := Scalar.indexCast v630
  ![0, 0, v637.toNat]
@[reducible] def k0_t9_loop (v1 : BitVec 32) : Scf.Loop 32 :=
  let c0_i32_234 : BitVec 32 := 0#32
  let c511_i32 : BitVec 32 := 511#32
  let v2 : BitVec 32 := Scalar.addi v1 c511_i32
  let c512_i32 : BitVec 32 := 512#32
  let v3 : BitVec 32 := Scalar.divsi v2 c512_i32
  let v295 : BitVec 32 := Scalar.subi v3 c0_i32_234
  let c1_i32_236 : BitVec 32 := 1#32
  let v297 : BitVec 32 := Scalar.divsi v295 c1_i32_236
  let v298 : BitVec 32 := Scalar.muli v297 c1_i32_236
  let v299 : BitVec 32 := Scalar.addi c0_i32_234 v298
  let c1_i32_237 : BitVec 32 := 1#32
  ⟨c0_i32_234, v299, c1_i32_237⟩
def k0_mult39 (v1 : BitVec 32) (k0_t9 : Fin (k0_t9_loop v1).trips) : BitVec 32 :=
  let c0_i32_234 : BitVec 32 := 0#32
  let c1_i32_237 : BitVec 32 := 1#32
  let arg15 : BitVec 32 := Scf.iv c0_i32_234 c1_i32_237 k0_t9
  let c512_i32_528 : BitVec 32 := 512#32
  let v629 : BitVec 32 := Scalar.muli arg15 c512_i32_528
  v629
def k0_off30 (v1 : BitVec 32) (k0_t9 : Fin (k0_t9_loop v1).trips) : Fin 3 → Nat :=
  let c3_529 : Index := 3#32
  let c0_i32_234 : BitVec 32 := 0#32
  let c1_i32_237 : BitVec 32 := 1#32
  let arg15 : BitVec 32 := Scf.iv c0_i32_234 c1_i32_237 k0_t9
  let c512_i32_528 : BitVec 32 := 512#32
  let v629 : BitVec 32 := Scalar.muli arg15 c512_i32_528
  let v630 : BitVec 32 := v629
  let v631 : Index := Scalar.indexCast v630
  let c0_530 : Index := 0#32
  ![3, v631.toNat, 0]
def k0_off31 (v1 : BitVec 32) (k0_t9 : Fin (k0_t9_loop v1).trips) : Fin 3 → Nat :=
  let c0_533 : Index := 0#32
  let c0_534 : Index := 0#32
  let c0_i32_234 : BitVec 32 := 0#32
  let c1_i32_237 : BitVec 32 := 1#32
  let arg15 : BitVec 32 := Scf.iv c0_i32_234 c1_i32_237 k0_t9
  let c512_i32_528 : BitVec 32 := 512#32
  let v629 : BitVec 32 := Scalar.muli arg15 c512_i32_528
  let v630 : BitVec 32 := v629
  let v637 : Index := Scalar.indexCast v630
  ![0, 0, v637.toNat]
@[reducible] def k0_t10_loop (v1 : BitVec 32) : Scf.Loop 32 :=
  let c0_i32_234 : BitVec 32 := 0#32
  let c511_i32 : BitVec 32 := 511#32
  let v2 : BitVec 32 := Scalar.addi v1 c511_i32
  let c512_i32 : BitVec 32 := 512#32
  let v3 : BitVec 32 := Scalar.divsi v2 c512_i32
  let v295 : BitVec 32 := Scalar.subi v3 c0_i32_234
  let c1_i32_236 : BitVec 32 := 1#32
  let v297 : BitVec 32 := Scalar.divsi v295 c1_i32_236
  let v298 : BitVec 32 := Scalar.muli v297 c1_i32_236
  let v299 : BitVec 32 := Scalar.addi c0_i32_234 v298
  let v296 : BitVec 32 := Scalar.addi c0_i32_234 v295
  let c1_i32_238 : BitVec 32 := 1#32
  ⟨v299, v296, c1_i32_238⟩
def k0_mult40 (v1 : BitVec 32) (k0_t10 : Fin (k0_t10_loop v1).trips) : BitVec 32 :=
  let c0_i32_234 : BitVec 32 := 0#32
  let c511_i32 : BitVec 32 := 511#32
  let v2 : BitVec 32 := Scalar.addi v1 c511_i32
  let c512_i32 : BitVec 32 := 512#32
  let v3 : BitVec 32 := Scalar.divsi v2 c512_i32
  let v295 : BitVec 32 := Scalar.subi v3 c0_i32_234
  let c1_i32_236 : BitVec 32 := 1#32
  let v297 : BitVec 32 := Scalar.divsi v295 c1_i32_236
  let v298 : BitVec 32 := Scalar.muli v297 c1_i32_236
  let v299 : BitVec 32 := Scalar.addi c0_i32_234 v298
  let c1_i32_238 : BitVec 32 := 1#32
  let arg15 : BitVec 32 := Scf.iv v299 c1_i32_238 k0_t10
  let c512_i32_528 : BitVec 32 := 512#32
  let v629 : BitVec 32 := Scalar.muli arg15 c512_i32_528
  v629
def k0_off32 (v1 : BitVec 32) (k0_t10 : Fin (k0_t10_loop v1).trips) : Fin 3 → Nat :=
  let c3_529 : Index := 3#32
  let c0_i32_234 : BitVec 32 := 0#32
  let c511_i32 : BitVec 32 := 511#32
  let v2 : BitVec 32 := Scalar.addi v1 c511_i32
  let c512_i32 : BitVec 32 := 512#32
  let v3 : BitVec 32 := Scalar.divsi v2 c512_i32
  let v295 : BitVec 32 := Scalar.subi v3 c0_i32_234
  let c1_i32_236 : BitVec 32 := 1#32
  let v297 : BitVec 32 := Scalar.divsi v295 c1_i32_236
  let v298 : BitVec 32 := Scalar.muli v297 c1_i32_236
  let v299 : BitVec 32 := Scalar.addi c0_i32_234 v298
  let c1_i32_238 : BitVec 32 := 1#32
  let arg15 : BitVec 32 := Scf.iv v299 c1_i32_238 k0_t10
  let c512_i32_528 : BitVec 32 := 512#32
  let v629 : BitVec 32 := Scalar.muli arg15 c512_i32_528
  let v630 : BitVec 32 := v629
  let v631 : Index := Scalar.indexCast v630
  let c0_530 : Index := 0#32
  ![3, v631.toNat, 0]
def k0_off33 (v1 : BitVec 32) (k0_t10 : Fin (k0_t10_loop v1).trips) : Fin 3 → Nat :=
  let c0_533 : Index := 0#32
  let c0_534 : Index := 0#32
  let c0_i32_234 : BitVec 32 := 0#32
  let c511_i32 : BitVec 32 := 511#32
  let v2 : BitVec 32 := Scalar.addi v1 c511_i32
  let c512_i32 : BitVec 32 := 512#32
  let v3 : BitVec 32 := Scalar.divsi v2 c512_i32
  let v295 : BitVec 32 := Scalar.subi v3 c0_i32_234
  let c1_i32_236 : BitVec 32 := 1#32
  let v297 : BitVec 32 := Scalar.divsi v295 c1_i32_236
  let v298 : BitVec 32 := Scalar.muli v297 c1_i32_236
  let v299 : BitVec 32 := Scalar.addi c0_i32_234 v298
  let c1_i32_238 : BitVec 32 := 1#32
  let arg15 : BitVec 32 := Scf.iv v299 c1_i32_238 k0_t10
  let c512_i32_528 : BitVec 32 := 512#32
  let v629 : BitVec 32 := Scalar.muli arg15 c512_i32_528
  let v630 : BitVec 32 := v629
  let v637 : Index := Scalar.indexCast v630
  ![0, 0, v637.toNat]
@[reducible] def k0_t11_loop (v1 : BitVec 32) : Scf.Loop 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_266 : BitVec 32 := 1#32
  ⟨c0_i32_263, v330, c1_i32_266⟩
def k0_mult41 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  v629
def k0_off34 (v1 : BitVec 32) (k0_t11 : Fin (k0_t11_loop v1).trips) : Fin 4 → Nat :=
  let c0_529 : Index := 0#32
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  let v630 : BitVec 32 := v629
  let v631 : Index := Scalar.indexCast v630
  let c4_530 : Index := 4#32
  let c0_531 : Index := 0#32
  ![0, v631.toNat, 4, 0]
def k0_mult42 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  v629
def k0_off35 (v1 : BitVec 32) (k0_t11 : Fin (k0_t11_loop v1).trips) : Fin 4 → Nat :=
  let c0_532 : Index := 0#32
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  let v637 : BitVec 32 := v629
  let v638 : Index := Scalar.indexCast v637
  let c5_533 : Index := 5#32
  let c0_534 : Index := 0#32
  ![0, v638.toNat, 5, 0]
def k0_mult43 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  v629
def k0_off36 (v1 : BitVec 32) (k0_t11 : Fin (k0_t11_loop v1).trips) : Fin 4 → Nat :=
  let c0_535 : Index := 0#32
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  let v644 : BitVec 32 := v629
  let v645 : Index := Scalar.indexCast v644
  let c6_536 : Index := 6#32
  let c0_537 : Index := 0#32
  ![0, v645.toNat, 6, 0]
def k0_mult44 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  v629
def k0_off37 (v1 : BitVec 32) (k0_t11 : Fin (k0_t11_loop v1).trips) : Fin 4 → Nat :=
  let c0_538 : Index := 0#32
  let c0_i32_263 : BitVec 32 := 0#32
  let c1_i32_266 : BitVec 32 := 1#32
  let arg15 : BitVec 32 := Scf.iv c0_i32_263 c1_i32_266 k0_t11
  let c512_i32_528 : BitVec 32 := 512#32
  let v629 : BitVec 32 := Scalar.muli arg15 c512_i32_528
  let v651 : BitVec 32 := v629
  let v652 : Index := Scalar.indexCast v651
  let c7_539 : Index := 7#32
  let c0_540 : Index := 0#32
  ![0, v652.toNat, 7, 0]
def k0_mult45 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_541 : BitVec 32 := 512#32
  let v658 : BitVec 32 := Scalar.muli arg15 c512_i32_541
  v658
def k0_mult46 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_541 : BitVec 32 := 512#32
  let v658 : BitVec 32 := Scalar.muli arg15 c512_i32_541
  v658
def k0_mult47 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_541 : BitVec 32 := 512#32
  let v658 : BitVec 32 := Scalar.muli arg15 c512_i32_541
  v658
def k0_mult48 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_541 : BitVec 32 := 512#32
  let v658 : BitVec 32 := Scalar.muli arg15 c512_i32_541
  v658
def k0_mult49 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_554 : BitVec 32 := 512#32
  let v687 : BitVec 32 := Scalar.muli arg15 c512_i32_554
  v687
def k0_off38 (v1 : BitVec 32) (k0_t11 : Fin (k0_t11_loop v1).trips) : Fin 3 → Nat :=
  let c0_555 : Index := 0#32
  let c0_i32_263 : BitVec 32 := 0#32
  let c1_i32_266 : BitVec 32 := 1#32
  let arg15 : BitVec 32 := Scf.iv c0_i32_263 c1_i32_266 k0_t11
  let c512_i32_554 : BitVec 32 := 512#32
  let v687 : BitVec 32 := Scalar.muli arg15 c512_i32_554
  let v688 : BitVec 32 := v687
  let v689 : Index := Scalar.indexCast v688
  let c0_556 : Index := 0#32
  ![0, v689.toNat, 0]
def k0_mult50 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_557 : BitVec 32 := 512#32
  let v693 : BitVec 32 := Scalar.muli arg15 c512_i32_557
  v693
def k0_mult51 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_560 : BitVec 32 := 512#32
  let v699 : BitVec 32 := Scalar.muli arg15 c512_i32_560
  v699
def k0_off39 (v1 : BitVec 32) (k0_t11 : Fin (k0_t11_loop v1).trips) : Fin 3 → Nat :=
  let c1_561 : Index := 1#32
  let c0_i32_263 : BitVec 32 := 0#32
  let c1_i32_266 : BitVec 32 := 1#32
  let arg15 : BitVec 32 := Scf.iv c0_i32_263 c1_i32_266 k0_t11
  let c512_i32_560 : BitVec 32 := 512#32
  let v699 : BitVec 32 := Scalar.muli arg15 c512_i32_560
  let v700 : BitVec 32 := v699
  let v701 : Index := Scalar.indexCast v700
  let c0_562 : Index := 0#32
  ![1, v701.toNat, 0]
def k0_mult52 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_563 : BitVec 32 := 512#32
  let v705 : BitVec 32 := Scalar.muli arg15 c512_i32_563
  v705
def k0_mult53 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_566 : BitVec 32 := 512#32
  let v711 : BitVec 32 := Scalar.muli arg15 c512_i32_566
  v711
def k0_off40 (v1 : BitVec 32) (k0_t11 : Fin (k0_t11_loop v1).trips) : Fin 3 → Nat :=
  let c2_567 : Index := 2#32
  let c0_i32_263 : BitVec 32 := 0#32
  let c1_i32_266 : BitVec 32 := 1#32
  let arg15 : BitVec 32 := Scf.iv c0_i32_263 c1_i32_266 k0_t11
  let c512_i32_566 : BitVec 32 := 512#32
  let v711 : BitVec 32 := Scalar.muli arg15 c512_i32_566
  let v712 : BitVec 32 := v711
  let v713 : Index := Scalar.indexCast v712
  let c0_568 : Index := 0#32
  ![2, v713.toNat, 0]
def k0_mult54 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_569 : BitVec 32 := 512#32
  let v717 : BitVec 32 := Scalar.muli arg15 c512_i32_569
  v717
def k0_mult55 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_572 : BitVec 32 := 512#32
  let v723 : BitVec 32 := Scalar.muli arg15 c512_i32_572
  v723
def k0_off41 (v1 : BitVec 32) (k0_t11 : Fin (k0_t11_loop v1).trips) : Fin 3 → Nat :=
  let c3_573 : Index := 3#32
  let c0_i32_263 : BitVec 32 := 0#32
  let c1_i32_266 : BitVec 32 := 1#32
  let arg15 : BitVec 32 := Scf.iv c0_i32_263 c1_i32_266 k0_t11
  let c512_i32_572 : BitVec 32 := 512#32
  let v723 : BitVec 32 := Scalar.muli arg15 c512_i32_572
  let v724 : BitVec 32 := v723
  let v725 : Index := Scalar.indexCast v724
  let c0_574 : Index := 0#32
  ![3, v725.toNat, 0]
def k0_mult56 (v1 : BitVec 32) (k0_t11 : Fin (k0_t11_loop v1).trips) : BitVec 32 :=
  let c0_i32_263 : BitVec 32 := 0#32
  let c1_i32_266 : BitVec 32 := 1#32
  let arg15 : BitVec 32 := Scf.iv c0_i32_263 c1_i32_266 k0_t11
  let c512_i32_575 : BitVec 32 := 512#32
  let v729 : BitVec 32 := Scalar.muli arg15 c512_i32_575
  v729
@[reducible] def k0_t12_loop (v1 : BitVec 32) : Scf.Loop 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let v327 : BitVec 32 := Scalar.addi c0_i32_263 v326
  let c1_i32_267 : BitVec 32 := 1#32
  ⟨v330, v327, c1_i32_267⟩
def k0_mult57 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  v629
def k0_off42 (v1 : BitVec 32) (k0_t12 : Fin (k0_t12_loop v1).trips) : Fin 4 → Nat :=
  let c0_529 : Index := 0#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  let v630 : BitVec 32 := v629
  let v631 : Index := Scalar.indexCast v630
  let c4_530 : Index := 4#32
  let c0_531 : Index := 0#32
  ![0, v631.toNat, 4, 0]
def k0_mult58 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  v629
def k0_off43 (v1 : BitVec 32) (k0_t12 : Fin (k0_t12_loop v1).trips) : Fin 4 → Nat :=
  let c0_532 : Index := 0#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  let v637 : BitVec 32 := v629
  let v638 : Index := Scalar.indexCast v637
  let c5_533 : Index := 5#32
  let c0_534 : Index := 0#32
  ![0, v638.toNat, 5, 0]
def k0_mult59 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  v629
def k0_off44 (v1 : BitVec 32) (k0_t12 : Fin (k0_t12_loop v1).trips) : Fin 4 → Nat :=
  let c0_535 : Index := 0#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  let v644 : BitVec 32 := v629
  let v645 : Index := Scalar.indexCast v644
  let c6_536 : Index := 6#32
  let c0_537 : Index := 0#32
  ![0, v645.toNat, 6, 0]
def k0_mult60 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  v629
def k0_off45 (v1 : BitVec 32) (k0_t12 : Fin (k0_t12_loop v1).trips) : Fin 4 → Nat :=
  let c0_538 : Index := 0#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_528 : BitVec 32 := 512#32
  let v629 : BitVec 32 := Scalar.muli arg15 c512_i32_528
  let v651 : BitVec 32 := v629
  let v652 : Index := Scalar.indexCast v651
  let c7_539 : Index := 7#32
  let c0_540 : Index := 0#32
  ![0, v652.toNat, 7, 0]
def k0_mult61 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_541 : BitVec 32 := 512#32
  let v658 : BitVec 32 := Scalar.muli arg15 c512_i32_541
  v658
def k0_mult62 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_541 : BitVec 32 := 512#32
  let v658 : BitVec 32 := Scalar.muli arg15 c512_i32_541
  v658
def k0_mult63 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_541 : BitVec 32 := 512#32
  let v658 : BitVec 32 := Scalar.muli arg15 c512_i32_541
  v658
def k0_mult64 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_541 : BitVec 32 := 512#32
  let v658 : BitVec 32 := Scalar.muli arg15 c512_i32_541
  v658
def k0_mult65 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_554 : BitVec 32 := 512#32
  let v687 : BitVec 32 := Scalar.muli arg15 c512_i32_554
  v687
def k0_off46 (v1 : BitVec 32) (k0_t12 : Fin (k0_t12_loop v1).trips) : Fin 3 → Nat :=
  let c0_555 : Index := 0#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_554 : BitVec 32 := 512#32
  let v687 : BitVec 32 := Scalar.muli arg15 c512_i32_554
  let v688 : BitVec 32 := v687
  let v689 : Index := Scalar.indexCast v688
  let c0_556 : Index := 0#32
  ![0, v689.toNat, 0]
def k0_mult66 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_557 : BitVec 32 := 512#32
  let v693 : BitVec 32 := Scalar.muli arg15 c512_i32_557
  v693
def k0_mult67 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_560 : BitVec 32 := 512#32
  let v699 : BitVec 32 := Scalar.muli arg15 c512_i32_560
  v699
def k0_off47 (v1 : BitVec 32) (k0_t12 : Fin (k0_t12_loop v1).trips) : Fin 3 → Nat :=
  let c1_561 : Index := 1#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_560 : BitVec 32 := 512#32
  let v699 : BitVec 32 := Scalar.muli arg15 c512_i32_560
  let v700 : BitVec 32 := v699
  let v701 : Index := Scalar.indexCast v700
  let c0_562 : Index := 0#32
  ![1, v701.toNat, 0]
def k0_mult68 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_563 : BitVec 32 := 512#32
  let v705 : BitVec 32 := Scalar.muli arg15 c512_i32_563
  v705
def k0_mult69 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_566 : BitVec 32 := 512#32
  let v711 : BitVec 32 := Scalar.muli arg15 c512_i32_566
  v711
def k0_off48 (v1 : BitVec 32) (k0_t12 : Fin (k0_t12_loop v1).trips) : Fin 3 → Nat :=
  let c2_567 : Index := 2#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_566 : BitVec 32 := 512#32
  let v711 : BitVec 32 := Scalar.muli arg15 c512_i32_566
  let v712 : BitVec 32 := v711
  let v713 : Index := Scalar.indexCast v712
  let c0_568 : Index := 0#32
  ![2, v713.toNat, 0]
def k0_mult70 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_569 : BitVec 32 := 512#32
  let v717 : BitVec 32 := Scalar.muli arg15 c512_i32_569
  v717
def k0_mult71 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_572 : BitVec 32 := 512#32
  let v723 : BitVec 32 := Scalar.muli arg15 c512_i32_572
  v723
def k0_off49 (v1 : BitVec 32) (k0_t12 : Fin (k0_t12_loop v1).trips) : Fin 3 → Nat :=
  let c3_573 : Index := 3#32
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_572 : BitVec 32 := 512#32
  let v723 : BitVec 32 := Scalar.muli arg15 c512_i32_572
  let v724 : BitVec 32 := v723
  let v725 : Index := Scalar.indexCast v724
  let c0_574 : Index := 0#32
  ![3, v725.toNat, 0]
def k0_mult72 (v1 : BitVec 32) (k0_t12 : Fin (k0_t12_loop v1).trips) : BitVec 32 :=
  let c0_i32_263 : BitVec 32 := 0#32
  let c511_i32 : BitVec 32 := 511#32
  let v2 : BitVec 32 := Scalar.addi v1 c511_i32
  let c512_i32 : BitVec 32 := 512#32
  let v3 : BitVec 32 := Scalar.divsi v2 c512_i32
  let v326 : BitVec 32 := Scalar.subi v3 c0_i32_263
  let c1_i32_265 : BitVec 32 := 1#32
  let v328 : BitVec 32 := Scalar.divsi v326 c1_i32_265
  let v329 : BitVec 32 := Scalar.muli v328 c1_i32_265
  let v330 : BitVec 32 := Scalar.addi c0_i32_263 v329
  let c1_i32_267 : BitVec 32 := 1#32
  let arg15 : BitVec 32 := Scf.iv v330 c1_i32_267 k0_t12
  let c512_i32_575 : BitVec 32 := 512#32
  let v729 : BitVec 32 := Scalar.muli arg15 c512_i32_575
  v729
@[reducible] def k0_t13_loop (v1 : BitVec 32) : Scf.Loop 32 :=
  let c0_i32_304 : BitVec 32 := 0#32
  let c511_i32 : BitVec 32 := 511#32
  let v2 : BitVec 32 := Scalar.addi v1 c511_i32
  let c512_i32 : BitVec 32 := 512#32
  let v3 : BitVec 32 := Scalar.divsi v2 c512_i32
  let v376 : BitVec 32 := Scalar.subi v3 c0_i32_304
  let c1_i32_306 : BitVec 32 := 1#32
  let v378 : BitVec 32 := Scalar.divsi v376 c1_i32_306
  let v379 : BitVec 32 := Scalar.muli v378 c1_i32_306
  let v380 : BitVec 32 := Scalar.addi c0_i32_304 v379
  let c1_i32_307 : BitVec 32 := 1#32
  ⟨c0_i32_304, v380, c1_i32_307⟩
def k0_mult73 (v1 : BitVec 32) (k0_t13 : Fin (k0_t13_loop v1).trips) : BitVec 32 :=
  let c0_i32_304 : BitVec 32 := 0#32
  let c1_i32_307 : BitVec 32 := 1#32
  let arg15 : BitVec 32 := Scf.iv c0_i32_304 c1_i32_307 k0_t13
  let c512_i32_528 : BitVec 32 := 512#32
  let v629 : BitVec 32 := Scalar.muli arg15 c512_i32_528
  v629
def k0_off50 (v1 : BitVec 32) (k0_t13 : Fin (k0_t13_loop v1).trips) : Fin 3 → Nat :=
  let c0_529 : Index := 0#32
  let c0_i32_304 : BitVec 32 := 0#32
  let c1_i32_307 : BitVec 32 := 1#32
  let arg15 : BitVec 32 := Scf.iv c0_i32_304 c1_i32_307 k0_t13
  let c512_i32_528 : BitVec 32 := 512#32
  let v629 : BitVec 32 := Scalar.muli arg15 c512_i32_528
  let v630 : BitVec 32 := v629
  let v631 : Index := Scalar.indexCast v630
  let c0_530 : Index := 0#32
  ![0, v631.toNat, 0]
def k0_off51 (v1 : BitVec 32) (k0_t13 : Fin (k0_t13_loop v1).trips) : Fin 3 → Nat :=
  let c0_533 : Index := 0#32
  let c0_534 : Index := 0#32
  let c0_i32_304 : BitVec 32 := 0#32
  let c1_i32_307 : BitVec 32 := 1#32
  let arg15 : BitVec 32 := Scf.iv c0_i32_304 c1_i32_307 k0_t13
  let c512_i32_528 : BitVec 32 := 512#32
  let v629 : BitVec 32 := Scalar.muli arg15 c512_i32_528
  let v630 : BitVec 32 := v629
  let v637 : Index := Scalar.indexCast v630
  ![0, 0, v637.toNat]
@[reducible] def k0_t14_loop (v1 : BitVec 32) : Scf.Loop 32 :=
  let c0_i32_304 : BitVec 32 := 0#32
  let c511_i32 : BitVec 32 := 511#32
  let v2 : BitVec 32 := Scalar.addi v1 c511_i32
  let c512_i32 : BitVec 32 := 512#32
  let v3 : BitVec 32 := Scalar.divsi v2 c512_i32
  let v376 : BitVec 32 := Scalar.subi v3 c0_i32_304
  let c1_i32_306 : BitVec 32 := 1#32
  let v378 : BitVec 32 := Scalar.divsi v376 c1_i32_306
  let v379 : BitVec 32 := Scalar.muli v378 c1_i32_306
  let v380 : BitVec 32 := Scalar.addi c0_i32_304 v379
  let v377 : BitVec 32 := Scalar.addi c0_i32_304 v376
  let c1_i32_308 : BitVec 32 := 1#32
  ⟨v380, v377, c1_i32_308⟩
def k0_mult74 (v1 : BitVec 32) (k0_t14 : Fin (k0_t14_loop v1).trips) : BitVec 32 :=
  let c0_i32_304 : BitVec 32 := 0#32
  let c511_i32 : BitVec 32 := 511#32
  let v2 : BitVec 32 := Scalar.addi v1 c511_i32
  let c512_i32 : BitVec 32 := 512#32
  let v3 : BitVec 32 := Scalar.divsi v2 c512_i32
  let v376 : BitVec 32 := Scalar.subi v3 c0_i32_304
  let c1_i32_306 : BitVec 32 := 1#32
  let v378 : BitVec 32 := Scalar.divsi v376 c1_i32_306
  let v379 : BitVec 32 := Scalar.muli v378 c1_i32_306
  let v380 : BitVec 32 := Scalar.addi c0_i32_304 v379
  let c1_i32_308 : BitVec 32 := 1#32
  let arg15 : BitVec 32 := Scf.iv v380 c1_i32_308 k0_t14
  let c512_i32_528 : BitVec 32 := 512#32
  let v629 : BitVec 32 := Scalar.muli arg15 c512_i32_528
  v629
def k0_off52 (v1 : BitVec 32) (k0_t14 : Fin (k0_t14_loop v1).trips) : Fin 3 → Nat :=
  let c0_529 : Index := 0#32
  let c0_i32_304 : BitVec 32 := 0#32
  let c511_i32 : BitVec 32 := 511#32
  let v2 : BitVec 32 := Scalar.addi v1 c511_i32
  let c512_i32 : BitVec 32 := 512#32
  let v3 : BitVec 32 := Scalar.divsi v2 c512_i32
  let v376 : BitVec 32 := Scalar.subi v3 c0_i32_304
  let c1_i32_306 : BitVec 32 := 1#32
  let v378 : BitVec 32 := Scalar.divsi v376 c1_i32_306
  let v379 : BitVec 32 := Scalar.muli v378 c1_i32_306
  let v380 : BitVec 32 := Scalar.addi c0_i32_304 v379
  let c1_i32_308 : BitVec 32 := 1#32
  let arg15 : BitVec 32 := Scf.iv v380 c1_i32_308 k0_t14
  let c512_i32_528 : BitVec 32 := 512#32
  let v629 : BitVec 32 := Scalar.muli arg15 c512_i32_528
  let v630 : BitVec 32 := v629
  let v631 : Index := Scalar.indexCast v630
  let c0_530 : Index := 0#32
  ![0, v631.toNat, 0]
def k0_off53 (v1 : BitVec 32) (k0_t14 : Fin (k0_t14_loop v1).trips) : Fin 3 → Nat :=
  let c0_533 : Index := 0#32
  let c0_534 : Index := 0#32
  let c0_i32_304 : BitVec 32 := 0#32
  let c511_i32 : BitVec 32 := 511#32
  let v2 : BitVec 32 := Scalar.addi v1 c511_i32
  let c512_i32 : BitVec 32 := 512#32
  let v3 : BitVec 32 := Scalar.divsi v2 c512_i32
  let v376 : BitVec 32 := Scalar.subi v3 c0_i32_304
  let c1_i32_306 : BitVec 32 := 1#32
  let v378 : BitVec 32 := Scalar.divsi v376 c1_i32_306
  let v379 : BitVec 32 := Scalar.muli v378 c1_i32_306
  let v380 : BitVec 32 := Scalar.addi c0_i32_304 v379
  let c1_i32_308 : BitVec 32 := 1#32
  let arg15 : BitVec 32 := Scf.iv v380 c1_i32_308 k0_t14
  let c512_i32_528 : BitVec 32 := 512#32
  let v629 : BitVec 32 := Scalar.muli arg15 c512_i32_528
  let v630 : BitVec 32 := v629
  let v637 : Index := Scalar.indexCast v630
  ![0, 0, v637.toNat]
@[reducible] def k0_t15_loop (v1 : BitVec 32) : Scf.Loop 32 :=
  let c0_i32_369 : BitVec 32 := 0#32
  let c511_i32 : BitVec 32 := 511#32
  let v2 : BitVec 32 := Scalar.addi v1 c511_i32
  let c512_i32 : BitVec 32 := 512#32
  let v3 : BitVec 32 := Scalar.divsi v2 c512_i32
  let v450 : BitVec 32 := Scalar.subi v3 c0_i32_369
  let c1_i32_371 : BitVec 32 := 1#32
  let v452 : BitVec 32 := Scalar.divsi v450 c1_i32_371
  let v453 : BitVec 32 := Scalar.muli v452 c1_i32_371
  let v454 : BitVec 32 := Scalar.addi c0_i32_369 v453
  let c1_i32_372 : BitVec 32 := 1#32
  ⟨c0_i32_369, v454, c1_i32_372⟩
def k0_mult75 (v1 : BitVec 32) (k0_t15 : Fin (k0_t15_loop v1).trips) : BitVec 32 :=
  let c0_i32_369 : BitVec 32 := 0#32
  let c1_i32_372 : BitVec 32 := 1#32
  let arg15 : BitVec 32 := Scf.iv c0_i32_369 c1_i32_372 k0_t15
  let c512_i32_528 : BitVec 32 := 512#32
  let v629 : BitVec 32 := Scalar.muli arg15 c512_i32_528
  v629
def k0_off54 (v1 : BitVec 32) (k0_t15 : Fin (k0_t15_loop v1).trips) : Fin 3 → Nat :=
  let c1_529 : Index := 1#32
  let c0_i32_369 : BitVec 32 := 0#32
  let c1_i32_372 : BitVec 32 := 1#32
  let arg15 : BitVec 32 := Scf.iv c0_i32_369 c1_i32_372 k0_t15
  let c512_i32_528 : BitVec 32 := 512#32
  let v629 : BitVec 32 := Scalar.muli arg15 c512_i32_528
  let v630 : BitVec 32 := v629
  let v631 : Index := Scalar.indexCast v630
  let c0_530 : Index := 0#32
  ![1, v631.toNat, 0]
def k0_off55 (v1 : BitVec 32) (k0_t15 : Fin (k0_t15_loop v1).trips) : Fin 3 → Nat :=
  let c0_533 : Index := 0#32
  let c0_534 : Index := 0#32
  let c0_i32_369 : BitVec 32 := 0#32
  let c1_i32_372 : BitVec 32 := 1#32
  let arg15 : BitVec 32 := Scf.iv c0_i32_369 c1_i32_372 k0_t15
  let c512_i32_528 : BitVec 32 := 512#32
  let v629 : BitVec 32 := Scalar.muli arg15 c512_i32_528
  let v630 : BitVec 32 := v629
  let v637 : Index := Scalar.indexCast v630
  ![0, 0, v637.toNat]
@[reducible] def k0_t16_loop (v1 : BitVec 32) : Scf.Loop 32 :=
  let c0_i32_369 : BitVec 32 := 0#32
  let c511_i32 : BitVec 32 := 511#32
  let v2 : BitVec 32 := Scalar.addi v1 c511_i32
  let c512_i32 : BitVec 32 := 512#32
  let v3 : BitVec 32 := Scalar.divsi v2 c512_i32
  let v450 : BitVec 32 := Scalar.subi v3 c0_i32_369
  let c1_i32_371 : BitVec 32 := 1#32
  let v452 : BitVec 32 := Scalar.divsi v450 c1_i32_371
  let v453 : BitVec 32 := Scalar.muli v452 c1_i32_371
  let v454 : BitVec 32 := Scalar.addi c0_i32_369 v453
  let v451 : BitVec 32 := Scalar.addi c0_i32_369 v450
  let c1_i32_373 : BitVec 32 := 1#32
  ⟨v454, v451, c1_i32_373⟩
def k0_mult76 (v1 : BitVec 32) (k0_t16 : Fin (k0_t16_loop v1).trips) : BitVec 32 :=
  let c0_i32_369 : BitVec 32 := 0#32
  let c511_i32 : BitVec 32 := 511#32
  let v2 : BitVec 32 := Scalar.addi v1 c511_i32
  let c512_i32 : BitVec 32 := 512#32
  let v3 : BitVec 32 := Scalar.divsi v2 c512_i32
  let v450 : BitVec 32 := Scalar.subi v3 c0_i32_369
  let c1_i32_371 : BitVec 32 := 1#32
  let v452 : BitVec 32 := Scalar.divsi v450 c1_i32_371
  let v453 : BitVec 32 := Scalar.muli v452 c1_i32_371
  let v454 : BitVec 32 := Scalar.addi c0_i32_369 v453
  let c1_i32_373 : BitVec 32 := 1#32
  let arg15 : BitVec 32 := Scf.iv v454 c1_i32_373 k0_t16
  let c512_i32_528 : BitVec 32 := 512#32
  let v629 : BitVec 32 := Scalar.muli arg15 c512_i32_528
  v629
def k0_off56 (v1 : BitVec 32) (k0_t16 : Fin (k0_t16_loop v1).trips) : Fin 3 → Nat :=
  let c1_529 : Index := 1#32
  let c0_i32_369 : BitVec 32 := 0#32
  let c511_i32 : BitVec 32 := 511#32
  let v2 : BitVec 32 := Scalar.addi v1 c511_i32
  let c512_i32 : BitVec 32 := 512#32
  let v3 : BitVec 32 := Scalar.divsi v2 c512_i32
  let v450 : BitVec 32 := Scalar.subi v3 c0_i32_369
  let c1_i32_371 : BitVec 32 := 1#32
  let v452 : BitVec 32 := Scalar.divsi v450 c1_i32_371
  let v453 : BitVec 32 := Scalar.muli v452 c1_i32_371
  let v454 : BitVec 32 := Scalar.addi c0_i32_369 v453
  let c1_i32_373 : BitVec 32 := 1#32
  let arg15 : BitVec 32 := Scf.iv v454 c1_i32_373 k0_t16
  let c512_i32_528 : BitVec 32 := 512#32
  let v629 : BitVec 32 := Scalar.muli arg15 c512_i32_528
  let v630 : BitVec 32 := v629
  let v631 : Index := Scalar.indexCast v630
  let c0_530 : Index := 0#32
  ![1, v631.toNat, 0]
def k0_off57 (v1 : BitVec 32) (k0_t16 : Fin (k0_t16_loop v1).trips) : Fin 3 → Nat :=
  let c0_533 : Index := 0#32
  let c0_534 : Index := 0#32
  let c0_i32_369 : BitVec 32 := 0#32
  let c511_i32 : BitVec 32 := 511#32
  let v2 : BitVec 32 := Scalar.addi v1 c511_i32
  let c512_i32 : BitVec 32 := 512#32
  let v3 : BitVec 32 := Scalar.divsi v2 c512_i32
  let v450 : BitVec 32 := Scalar.subi v3 c0_i32_369
  let c1_i32_371 : BitVec 32 := 1#32
  let v452 : BitVec 32 := Scalar.divsi v450 c1_i32_371
  let v453 : BitVec 32 := Scalar.muli v452 c1_i32_371
  let v454 : BitVec 32 := Scalar.addi c0_i32_369 v453
  let c1_i32_373 : BitVec 32 := 1#32
  let arg15 : BitVec 32 := Scf.iv v454 c1_i32_373 k0_t16
  let c512_i32_528 : BitVec 32 := 512#32
  let v629 : BitVec 32 := Scalar.muli arg15 c512_i32_528
  let v630 : BitVec 32 := v629
  let v637 : Index := Scalar.indexCast v630
  ![0, 0, v637.toNat]
@[reducible] def k0_t17_loop (v1 : BitVec 32) : Scf.Loop 32 :=
  let c0_i32_434 : BitVec 32 := 0#32
  let c511_i32 : BitVec 32 := 511#32
  let v2 : BitVec 32 := Scalar.addi v1 c511_i32
  let c512_i32 : BitVec 32 := 512#32
  let v3 : BitVec 32 := Scalar.divsi v2 c512_i32
  let v524 : BitVec 32 := Scalar.subi v3 c0_i32_434
  let c1_i32_436 : BitVec 32 := 1#32
  let v526 : BitVec 32 := Scalar.divsi v524 c1_i32_436
  let v527 : BitVec 32 := Scalar.muli v526 c1_i32_436
  let v528 : BitVec 32 := Scalar.addi c0_i32_434 v527
  let c1_i32_437 : BitVec 32 := 1#32
  ⟨c0_i32_434, v528, c1_i32_437⟩
def k0_mult77 (v1 : BitVec 32) (k0_t17 : Fin (k0_t17_loop v1).trips) : BitVec 32 :=
  let c0_i32_434 : BitVec 32 := 0#32
  let c1_i32_437 : BitVec 32 := 1#32
  let arg15 : BitVec 32 := Scf.iv c0_i32_434 c1_i32_437 k0_t17
  let c512_i32_528 : BitVec 32 := 512#32
  let v629 : BitVec 32 := Scalar.muli arg15 c512_i32_528
  v629
def k0_off58 (v1 : BitVec 32) (k0_t17 : Fin (k0_t17_loop v1).trips) : Fin 3 → Nat :=
  let c2_529 : Index := 2#32
  let c0_i32_434 : BitVec 32 := 0#32
  let c1_i32_437 : BitVec 32 := 1#32
  let arg15 : BitVec 32 := Scf.iv c0_i32_434 c1_i32_437 k0_t17
  let c512_i32_528 : BitVec 32 := 512#32
  let v629 : BitVec 32 := Scalar.muli arg15 c512_i32_528
  let v630 : BitVec 32 := v629
  let v631 : Index := Scalar.indexCast v630
  let c0_530 : Index := 0#32
  ![2, v631.toNat, 0]
def k0_off59 (v1 : BitVec 32) (k0_t17 : Fin (k0_t17_loop v1).trips) : Fin 3 → Nat :=
  let c0_533 : Index := 0#32
  let c0_534 : Index := 0#32
  let c0_i32_434 : BitVec 32 := 0#32
  let c1_i32_437 : BitVec 32 := 1#32
  let arg15 : BitVec 32 := Scf.iv c0_i32_434 c1_i32_437 k0_t17
  let c512_i32_528 : BitVec 32 := 512#32
  let v629 : BitVec 32 := Scalar.muli arg15 c512_i32_528
  let v630 : BitVec 32 := v629
  let v637 : Index := Scalar.indexCast v630
  ![0, 0, v637.toNat]
@[reducible] def k0_t18_loop (v1 : BitVec 32) : Scf.Loop 32 :=
  let c0_i32_434 : BitVec 32 := 0#32
  let c511_i32 : BitVec 32 := 511#32
  let v2 : BitVec 32 := Scalar.addi v1 c511_i32
  let c512_i32 : BitVec 32 := 512#32
  let v3 : BitVec 32 := Scalar.divsi v2 c512_i32
  let v524 : BitVec 32 := Scalar.subi v3 c0_i32_434
  let c1_i32_436 : BitVec 32 := 1#32
  let v526 : BitVec 32 := Scalar.divsi v524 c1_i32_436
  let v527 : BitVec 32 := Scalar.muli v526 c1_i32_436
  let v528 : BitVec 32 := Scalar.addi c0_i32_434 v527
  let v525 : BitVec 32 := Scalar.addi c0_i32_434 v524
  let c1_i32_438 : BitVec 32 := 1#32
  ⟨v528, v525, c1_i32_438⟩
def k0_mult78 (v1 : BitVec 32) (k0_t18 : Fin (k0_t18_loop v1).trips) : BitVec 32 :=
  let c0_i32_434 : BitVec 32 := 0#32
  let c511_i32 : BitVec 32 := 511#32
  let v2 : BitVec 32 := Scalar.addi v1 c511_i32
  let c512_i32 : BitVec 32 := 512#32
  let v3 : BitVec 32 := Scalar.divsi v2 c512_i32
  let v524 : BitVec 32 := Scalar.subi v3 c0_i32_434
  let c1_i32_436 : BitVec 32 := 1#32
  let v526 : BitVec 32 := Scalar.divsi v524 c1_i32_436
  let v527 : BitVec 32 := Scalar.muli v526 c1_i32_436
  let v528 : BitVec 32 := Scalar.addi c0_i32_434 v527
  let c1_i32_438 : BitVec 32 := 1#32
  let arg15 : BitVec 32 := Scf.iv v528 c1_i32_438 k0_t18
  let c512_i32_528 : BitVec 32 := 512#32
  let v629 : BitVec 32 := Scalar.muli arg15 c512_i32_528
  v629
def k0_off60 (v1 : BitVec 32) (k0_t18 : Fin (k0_t18_loop v1).trips) : Fin 3 → Nat :=
  let c2_529 : Index := 2#32
  let c0_i32_434 : BitVec 32 := 0#32
  let c511_i32 : BitVec 32 := 511#32
  let v2 : BitVec 32 := Scalar.addi v1 c511_i32
  let c512_i32 : BitVec 32 := 512#32
  let v3 : BitVec 32 := Scalar.divsi v2 c512_i32
  let v524 : BitVec 32 := Scalar.subi v3 c0_i32_434
  let c1_i32_436 : BitVec 32 := 1#32
  let v526 : BitVec 32 := Scalar.divsi v524 c1_i32_436
  let v527 : BitVec 32 := Scalar.muli v526 c1_i32_436
  let v528 : BitVec 32 := Scalar.addi c0_i32_434 v527
  let c1_i32_438 : BitVec 32 := 1#32
  let arg15 : BitVec 32 := Scf.iv v528 c1_i32_438 k0_t18
  let c512_i32_528 : BitVec 32 := 512#32
  let v629 : BitVec 32 := Scalar.muli arg15 c512_i32_528
  let v630 : BitVec 32 := v629
  let v631 : Index := Scalar.indexCast v630
  let c0_530 : Index := 0#32
  ![2, v631.toNat, 0]
def k0_off61 (v1 : BitVec 32) (k0_t18 : Fin (k0_t18_loop v1).trips) : Fin 3 → Nat :=
  let c0_533 : Index := 0#32
  let c0_534 : Index := 0#32
  let c0_i32_434 : BitVec 32 := 0#32
  let c511_i32 : BitVec 32 := 511#32
  let v2 : BitVec 32 := Scalar.addi v1 c511_i32
  let c512_i32 : BitVec 32 := 512#32
  let v3 : BitVec 32 := Scalar.divsi v2 c512_i32
  let v524 : BitVec 32 := Scalar.subi v3 c0_i32_434
  let c1_i32_436 : BitVec 32 := 1#32
  let v526 : BitVec 32 := Scalar.divsi v524 c1_i32_436
  let v527 : BitVec 32 := Scalar.muli v526 c1_i32_436
  let v528 : BitVec 32 := Scalar.addi c0_i32_434 v527
  let c1_i32_438 : BitVec 32 := 1#32
  let arg15 : BitVec 32 := Scf.iv v528 c1_i32_438 k0_t18
  let c512_i32_528 : BitVec 32 := 512#32
  let v629 : BitVec 32 := Scalar.muli arg15 c512_i32_528
  let v630 : BitVec 32 := v629
  let v637 : Index := Scalar.indexCast v630
  ![0, 0, v637.toNat]
@[reducible] def k0_t19_loop (v1 : BitVec 32) : Scf.Loop 32 :=
  let c0_i32_499 : BitVec 32 := 0#32
  let c511_i32 : BitVec 32 := 511#32
  let v2 : BitVec 32 := Scalar.addi v1 c511_i32
  let c512_i32 : BitVec 32 := 512#32
  let v3 : BitVec 32 := Scalar.divsi v2 c512_i32
  let v598 : BitVec 32 := Scalar.subi v3 c0_i32_499
  let c1_i32_501 : BitVec 32 := 1#32
  let v600 : BitVec 32 := Scalar.divsi v598 c1_i32_501
  let v601 : BitVec 32 := Scalar.muli v600 c1_i32_501
  let v602 : BitVec 32 := Scalar.addi c0_i32_499 v601
  let c1_i32_502 : BitVec 32 := 1#32
  ⟨c0_i32_499, v602, c1_i32_502⟩
def k0_mult79 (v1 : BitVec 32) (k0_t19 : Fin (k0_t19_loop v1).trips) : BitVec 32 :=
  let c0_i32_499 : BitVec 32 := 0#32
  let c1_i32_502 : BitVec 32 := 1#32
  let arg15 : BitVec 32 := Scf.iv c0_i32_499 c1_i32_502 k0_t19
  let c512_i32_528 : BitVec 32 := 512#32
  let v629 : BitVec 32 := Scalar.muli arg15 c512_i32_528
  v629
def k0_off62 (v1 : BitVec 32) (k0_t19 : Fin (k0_t19_loop v1).trips) : Fin 3 → Nat :=
  let c3_529 : Index := 3#32
  let c0_i32_499 : BitVec 32 := 0#32
  let c1_i32_502 : BitVec 32 := 1#32
  let arg15 : BitVec 32 := Scf.iv c0_i32_499 c1_i32_502 k0_t19
  let c512_i32_528 : BitVec 32 := 512#32
  let v629 : BitVec 32 := Scalar.muli arg15 c512_i32_528
  let v630 : BitVec 32 := v629
  let v631 : Index := Scalar.indexCast v630
  let c0_530 : Index := 0#32
  ![3, v631.toNat, 0]
def k0_off63 (v1 : BitVec 32) (k0_t19 : Fin (k0_t19_loop v1).trips) : Fin 3 → Nat :=
  let c0_533 : Index := 0#32
  let c0_534 : Index := 0#32
  let c0_i32_499 : BitVec 32 := 0#32
  let c1_i32_502 : BitVec 32 := 1#32
  let arg15 : BitVec 32 := Scf.iv c0_i32_499 c1_i32_502 k0_t19
  let c512_i32_528 : BitVec 32 := 512#32
  let v629 : BitVec 32 := Scalar.muli arg15 c512_i32_528
  let v630 : BitVec 32 := v629
  let v637 : Index := Scalar.indexCast v630
  ![0, 0, v637.toNat]
@[reducible] def k0_t20_loop (v1 : BitVec 32) : Scf.Loop 32 :=
  let c0_i32_499 : BitVec 32 := 0#32
  let c511_i32 : BitVec 32 := 511#32
  let v2 : BitVec 32 := Scalar.addi v1 c511_i32
  let c512_i32 : BitVec 32 := 512#32
  let v3 : BitVec 32 := Scalar.divsi v2 c512_i32
  let v598 : BitVec 32 := Scalar.subi v3 c0_i32_499
  let c1_i32_501 : BitVec 32 := 1#32
  let v600 : BitVec 32 := Scalar.divsi v598 c1_i32_501
  let v601 : BitVec 32 := Scalar.muli v600 c1_i32_501
  let v602 : BitVec 32 := Scalar.addi c0_i32_499 v601
  let v599 : BitVec 32 := Scalar.addi c0_i32_499 v598
  let c1_i32_503 : BitVec 32 := 1#32
  ⟨v602, v599, c1_i32_503⟩
def k0_mult80 (v1 : BitVec 32) (k0_t20 : Fin (k0_t20_loop v1).trips) : BitVec 32 :=
  let c0_i32_499 : BitVec 32 := 0#32
  let c511_i32 : BitVec 32 := 511#32
  let v2 : BitVec 32 := Scalar.addi v1 c511_i32
  let c512_i32 : BitVec 32 := 512#32
  let v3 : BitVec 32 := Scalar.divsi v2 c512_i32
  let v598 : BitVec 32 := Scalar.subi v3 c0_i32_499
  let c1_i32_501 : BitVec 32 := 1#32
  let v600 : BitVec 32 := Scalar.divsi v598 c1_i32_501
  let v601 : BitVec 32 := Scalar.muli v600 c1_i32_501
  let v602 : BitVec 32 := Scalar.addi c0_i32_499 v601
  let c1_i32_503 : BitVec 32 := 1#32
  let arg15 : BitVec 32 := Scf.iv v602 c1_i32_503 k0_t20
  let c512_i32_528 : BitVec 32 := 512#32
  let v629 : BitVec 32 := Scalar.muli arg15 c512_i32_528
  v629
def k0_off64 (v1 : BitVec 32) (k0_t20 : Fin (k0_t20_loop v1).trips) : Fin 3 → Nat :=
  let c3_529 : Index := 3#32
  let c0_i32_499 : BitVec 32 := 0#32
  let c511_i32 : BitVec 32 := 511#32
  let v2 : BitVec 32 := Scalar.addi v1 c511_i32
  let c512_i32 : BitVec 32 := 512#32
  let v3 : BitVec 32 := Scalar.divsi v2 c512_i32
  let v598 : BitVec 32 := Scalar.subi v3 c0_i32_499
  let c1_i32_501 : BitVec 32 := 1#32
  let v600 : BitVec 32 := Scalar.divsi v598 c1_i32_501
  let v601 : BitVec 32 := Scalar.muli v600 c1_i32_501
  let v602 : BitVec 32 := Scalar.addi c0_i32_499 v601
  let c1_i32_503 : BitVec 32 := 1#32
  let arg15 : BitVec 32 := Scf.iv v602 c1_i32_503 k0_t20
  let c512_i32_528 : BitVec 32 := 512#32
  let v629 : BitVec 32 := Scalar.muli arg15 c512_i32_528
  let v630 : BitVec 32 := v629
  let v631 : Index := Scalar.indexCast v630
  let c0_530 : Index := 0#32
  ![3, v631.toNat, 0]
def k0_off65 (v1 : BitVec 32) (k0_t20 : Fin (k0_t20_loop v1).trips) : Fin 3 → Nat :=
  let c0_533 : Index := 0#32
  let c0_534 : Index := 0#32
  let c0_i32_499 : BitVec 32 := 0#32
  let c511_i32 : BitVec 32 := 511#32
  let v2 : BitVec 32 := Scalar.addi v1 c511_i32
  let c512_i32 : BitVec 32 := 512#32
  let v3 : BitVec 32 := Scalar.divsi v2 c512_i32
  let v598 : BitVec 32 := Scalar.subi v3 c0_i32_499
  let c1_i32_501 : BitVec 32 := 1#32
  let v600 : BitVec 32 := Scalar.divsi v598 c1_i32_501
  let v601 : BitVec 32 := Scalar.muli v600 c1_i32_501
  let v602 : BitVec 32 := Scalar.addi c0_i32_499 v601
  let c1_i32_503 : BitVec 32 := 1#32
  let arg15 : BitVec 32 := Scf.iv v602 c1_i32_503 k0_t20
  let c512_i32_528 : BitVec 32 := 512#32
  let v629 : BitVec 32 := Scalar.muli arg15 c512_i32_528
  let v630 : BitVec 32 := v629
  let v637 : Index := Scalar.indexCast v630
  ![0, 0, v637.toNat]

def k0_chk1_0 (v1 : BitVec 32) : Prop :=
  ((k0_t1_loop v1).OK) ∧
  (∀ k0_t1 : Fin (k0_t1_loop v1).trips, 512 ∣ (k0_mult1 v1 k0_t1).toNat) ∧
  (∀ k0_t1 : Fin (k0_t1_loop v1).trips, ∀ a, (k0_off2 v1 k0_t1) a + S1x512x1x128.size a ≤ S1x4096x8x128.size a) ∧
  (∀ k0_t1 : Fin (k0_t1_loop v1).trips, 512 ∣ (k0_mult2 v1 k0_t1).toNat) ∧
  (∀ k0_t1 : Fin (k0_t1_loop v1).trips, ∀ a, (k0_off3 v1 k0_t1) a + S1x512x1x128.size a ≤ S1x4096x8x128.size a) ∧
  (∀ k0_t1 : Fin (k0_t1_loop v1).trips, 512 ∣ (k0_mult3 v1 k0_t1).toNat) ∧
  (∀ k0_t1 : Fin (k0_t1_loop v1).trips, ∀ a, (k0_off4 v1 k0_t1) a + S1x512x1x128.size a ≤ S1x4096x8x128.size a) ∧
  (∀ k0_t1 : Fin (k0_t1_loop v1).trips, 512 ∣ (k0_mult4 v1 k0_t1).toNat) ∧
  (∀ k0_t1 : Fin (k0_t1_loop v1).trips, ∀ a, (k0_off5 v1 k0_t1) a + S1x512x1x128.size a ≤ S1x4096x8x128.size a) ∧
  (∀ k0_t1 : Fin (k0_t1_loop v1).trips, 512 ∣ (k0_mult5 v1 k0_t1).toNat) ∧
  (∀ k0_t1 : Fin (k0_t1_loop v1).trips, 512 ∣ (k0_mult6 v1 k0_t1).toNat) ∧
  (∀ k0_t1 : Fin (k0_t1_loop v1).trips, 512 ∣ (k0_mult7 v1 k0_t1).toNat) ∧
  (∀ k0_t1 : Fin (k0_t1_loop v1).trips, 512 ∣ (k0_mult8 v1 k0_t1).toNat) ∧
  (∀ k0_t1 : Fin (k0_t1_loop v1).trips, 512 ∣ (k0_mult9 v1 k0_t1).toNat) ∧
  (∀ k0_t1 : Fin (k0_t1_loop v1).trips, ∀ a, (k0_off6 v1 k0_t1) a + S1x512x128.size a ≤ S4x4096x128.size a) ∧
  (∀ k0_t1 : Fin (k0_t1_loop v1).trips, ∀ (hinb : ∀ a, (k0_off6 v1 k0_t1) a + S1x512x128.size a ≤ S4x4096x128.size a), (Rect.unit (s := S4x4096x128) (k0_off6 v1 k0_t1) S1x512x128.size hinb).PackedRows (EltTy.packing .fp8e4m3)) ∧
  (∀ k0_t1 : Fin (k0_t1_loop v1).trips, 512 ∣ (k0_mult10 v1 k0_t1).toNat) ∧
  (∀ k0_t1 : Fin (k0_t1_loop v1).trips, 512 ∣ (k0_mult11 v1 k0_t1).toNat) ∧
  (∀ k0_t1 : Fin (k0_t1_loop v1).trips, ∀ a, (k0_off7 v1 k0_t1) a + S1x512x128.size a ≤ S4x4096x128.size a) ∧
  (∀ k0_t1 : Fin (k0_t1_loop v1).trips, ∀ (hinb : ∀ a, (k0_off7 v1 k0_t1) a + S1x512x128.size a ≤ S4x4096x128.size a), (Rect.unit (s := S4x4096x128) (k0_off7 v1 k0_t1) S1x512x128.size hinb).PackedRows (EltTy.packing .fp8e4m3)) ∧
  (∀ k0_t1 : Fin (k0_t1_loop v1).trips, 512 ∣ (k0_mult12 v1 k0_t1).toNat) ∧
  (∀ k0_t1 : Fin (k0_t1_loop v1).trips, 512 ∣ (k0_mult13 v1 k0_t1).toNat) ∧
  (∀ k0_t1 : Fin (k0_t1_loop v1).trips, ∀ a, (k0_off8 v1 k0_t1) a + S1x512x128.size a ≤ S4x4096x128.size a) ∧
  (∀ k0_t1 : Fin (k0_t1_loop v1).trips, ∀ (hinb : ∀ a, (k0_off8 v1 k0_t1) a + S1x512x128.size a ≤ S4x4096x128.size a), (Rect.unit (s := S4x4096x128) (k0_off8 v1 k0_t1) S1x512x128.size hinb).PackedRows (EltTy.packing .fp8e4m3)) ∧
  (∀ k0_t1 : Fin (k0_t1_loop v1).trips, 512 ∣ (k0_mult14 v1 k0_t1).toNat) ∧
  (∀ k0_t1 : Fin (k0_t1_loop v1).trips, 512 ∣ (k0_mult15 v1 k0_t1).toNat) ∧
  (∀ k0_t1 : Fin (k0_t1_loop v1).trips, ∀ a, (k0_off9 v1 k0_t1) a + S1x512x128.size a ≤ S4x4096x128.size a) ∧
  (∀ k0_t1 : Fin (k0_t1_loop v1).trips, ∀ (hinb : ∀ a, (k0_off9 v1 k0_t1) a + S1x512x128.size a ≤ S4x4096x128.size a), (Rect.unit (s := S4x4096x128) (k0_off9 v1 k0_t1) S1x512x128.size hinb).PackedRows (EltTy.packing .fp8e4m3)) ∧
  (∀ k0_t1 : Fin (k0_t1_loop v1).trips, 512 ∣ (k0_mult16 v1 k0_t1).toNat) ∧
  ((k0_t2_loop v1).OK) ∧
  (∀ k0_t2 : Fin (k0_t2_loop v1).trips, 512 ∣ (k0_mult17 v1 k0_t2).toNat) ∧
  (∀ k0_t2 : Fin (k0_t2_loop v1).trips, ∀ a, (k0_off10 v1 k0_t2) a + S1x512x1x128.size a ≤ S1x4096x8x128.size a)
def k0_chk1_1 (v1 : BitVec 32) : Prop :=
  (∀ k0_t2 : Fin (k0_t2_loop v1).trips, 512 ∣ (k0_mult18 v1 k0_t2).toNat) ∧
  (∀ k0_t2 : Fin (k0_t2_loop v1).trips, ∀ a, (k0_off11 v1 k0_t2) a + S1x512x1x128.size a ≤ S1x4096x8x128.size a) ∧
  (∀ k0_t2 : Fin (k0_t2_loop v1).trips, 512 ∣ (k0_mult19 v1 k0_t2).toNat) ∧
  (∀ k0_t2 : Fin (k0_t2_loop v1).trips, ∀ a, (k0_off12 v1 k0_t2) a + S1x512x1x128.size a ≤ S1x4096x8x128.size a) ∧
  (∀ k0_t2 : Fin (k0_t2_loop v1).trips, 512 ∣ (k0_mult20 v1 k0_t2).toNat) ∧
  (∀ k0_t2 : Fin (k0_t2_loop v1).trips, ∀ a, (k0_off13 v1 k0_t2) a + S1x512x1x128.size a ≤ S1x4096x8x128.size a) ∧
  (∀ k0_t2 : Fin (k0_t2_loop v1).trips, 512 ∣ (k0_mult21 v1 k0_t2).toNat) ∧
  (∀ k0_t2 : Fin (k0_t2_loop v1).trips, 512 ∣ (k0_mult22 v1 k0_t2).toNat) ∧
  (∀ k0_t2 : Fin (k0_t2_loop v1).trips, 512 ∣ (k0_mult23 v1 k0_t2).toNat) ∧
  (∀ k0_t2 : Fin (k0_t2_loop v1).trips, 512 ∣ (k0_mult24 v1 k0_t2).toNat) ∧
  (∀ k0_t2 : Fin (k0_t2_loop v1).trips, 512 ∣ (k0_mult25 v1 k0_t2).toNat) ∧
  (∀ k0_t2 : Fin (k0_t2_loop v1).trips, ∀ a, (k0_off14 v1 k0_t2) a + S1x512x128.size a ≤ S4x4096x128.size a) ∧
  (∀ k0_t2 : Fin (k0_t2_loop v1).trips, ∀ (hinb : ∀ a, (k0_off14 v1 k0_t2) a + S1x512x128.size a ≤ S4x4096x128.size a), (Rect.unit (s := S4x4096x128) (k0_off14 v1 k0_t2) S1x512x128.size hinb).PackedRows (EltTy.packing .fp8e4m3)) ∧
  (∀ k0_t2 : Fin (k0_t2_loop v1).trips, 512 ∣ (k0_mult26 v1 k0_t2).toNat) ∧
  (∀ k0_t2 : Fin (k0_t2_loop v1).trips, 512 ∣ (k0_mult27 v1 k0_t2).toNat) ∧
  (∀ k0_t2 : Fin (k0_t2_loop v1).trips, ∀ a, (k0_off15 v1 k0_t2) a + S1x512x128.size a ≤ S4x4096x128.size a) ∧
  (∀ k0_t2 : Fin (k0_t2_loop v1).trips, ∀ (hinb : ∀ a, (k0_off15 v1 k0_t2) a + S1x512x128.size a ≤ S4x4096x128.size a), (Rect.unit (s := S4x4096x128) (k0_off15 v1 k0_t2) S1x512x128.size hinb).PackedRows (EltTy.packing .fp8e4m3)) ∧
  (∀ k0_t2 : Fin (k0_t2_loop v1).trips, 512 ∣ (k0_mult28 v1 k0_t2).toNat) ∧
  (∀ k0_t2 : Fin (k0_t2_loop v1).trips, 512 ∣ (k0_mult29 v1 k0_t2).toNat) ∧
  (∀ k0_t2 : Fin (k0_t2_loop v1).trips, ∀ a, (k0_off16 v1 k0_t2) a + S1x512x128.size a ≤ S4x4096x128.size a) ∧
  (∀ k0_t2 : Fin (k0_t2_loop v1).trips, ∀ (hinb : ∀ a, (k0_off16 v1 k0_t2) a + S1x512x128.size a ≤ S4x4096x128.size a), (Rect.unit (s := S4x4096x128) (k0_off16 v1 k0_t2) S1x512x128.size hinb).PackedRows (EltTy.packing .fp8e4m3)) ∧
  (∀ k0_t2 : Fin (k0_t2_loop v1).trips, 512 ∣ (k0_mult30 v1 k0_t2).toNat) ∧
  (∀ k0_t2 : Fin (k0_t2_loop v1).trips, 512 ∣ (k0_mult31 v1 k0_t2).toNat) ∧
  (∀ k0_t2 : Fin (k0_t2_loop v1).trips, ∀ a, (k0_off17 v1 k0_t2) a + S1x512x128.size a ≤ S4x4096x128.size a) ∧
  (∀ k0_t2 : Fin (k0_t2_loop v1).trips, ∀ (hinb : ∀ a, (k0_off17 v1 k0_t2) a + S1x512x128.size a ≤ S4x4096x128.size a), (Rect.unit (s := S4x4096x128) (k0_off17 v1 k0_t2) S1x512x128.size hinb).PackedRows (EltTy.packing .fp8e4m3)) ∧
  (∀ k0_t2 : Fin (k0_t2_loop v1).trips, 512 ∣ (k0_mult32 v1 k0_t2).toNat) ∧
  ((k0_t3_loop v1).OK) ∧
  (∀ k0_t3 : Fin (k0_t3_loop v1).trips, 512 ∣ (k0_mult33 v1 k0_t3).toNat) ∧
  (∀ k0_t3 : Fin (k0_t3_loop v1).trips, ∀ a, (k0_off18 v1 k0_t3) a + S1x512x128.size a ≤ S4x4096x128.size a) ∧
  (∀ k0_t3 : Fin (k0_t3_loop v1).trips, ∀ a, (k0_off19 v1 k0_t3) a + S1x8x512.size a ≤ S1x8x4096.size a) ∧
  ((k0_t4_loop v1).OK) ∧
  (∀ k0_t4 : Fin (k0_t4_loop v1).trips, 512 ∣ (k0_mult34 v1 k0_t4).toNat)
def k0_chk1_2 (v1 : BitVec 32) : Prop :=
  (∀ k0_t4 : Fin (k0_t4_loop v1).trips, ∀ a, (k0_off20 v1 k0_t4) a + S1x512x128.size a ≤ S4x4096x128.size a) ∧
  (∀ k0_t4 : Fin (k0_t4_loop v1).trips, ∀ a, (k0_off21 v1 k0_t4) a + S1x8x512.size a ≤ S1x8x4096.size a) ∧
  ((k0_t5_loop v1).OK) ∧
  (∀ k0_t5 : Fin (k0_t5_loop v1).trips, 512 ∣ (k0_mult35 v1 k0_t5).toNat) ∧
  (∀ k0_t5 : Fin (k0_t5_loop v1).trips, ∀ a, (k0_off22 v1 k0_t5) a + S1x512x128.size a ≤ S4x4096x128.size a) ∧
  (∀ k0_t5 : Fin (k0_t5_loop v1).trips, ∀ a, (k0_off23 v1 k0_t5) a + S1x8x512.size a ≤ S1x8x4096.size a) ∧
  ((k0_t6_loop v1).OK) ∧
  (∀ k0_t6 : Fin (k0_t6_loop v1).trips, 512 ∣ (k0_mult36 v1 k0_t6).toNat) ∧
  (∀ k0_t6 : Fin (k0_t6_loop v1).trips, ∀ a, (k0_off24 v1 k0_t6) a + S1x512x128.size a ≤ S4x4096x128.size a) ∧
  (∀ k0_t6 : Fin (k0_t6_loop v1).trips, ∀ a, (k0_off25 v1 k0_t6) a + S1x8x512.size a ≤ S1x8x4096.size a) ∧
  ((k0_t7_loop v1).OK) ∧
  (∀ k0_t7 : Fin (k0_t7_loop v1).trips, 512 ∣ (k0_mult37 v1 k0_t7).toNat) ∧
  (∀ k0_t7 : Fin (k0_t7_loop v1).trips, ∀ a, (k0_off26 v1 k0_t7) a + S1x512x128.size a ≤ S4x4096x128.size a) ∧
  (∀ k0_t7 : Fin (k0_t7_loop v1).trips, ∀ a, (k0_off27 v1 k0_t7) a + S1x8x512.size a ≤ S1x8x4096.size a) ∧
  ((k0_t8_loop v1).OK) ∧
  (∀ k0_t8 : Fin (k0_t8_loop v1).trips, 512 ∣ (k0_mult38 v1 k0_t8).toNat) ∧
  (∀ k0_t8 : Fin (k0_t8_loop v1).trips, ∀ a, (k0_off28 v1 k0_t8) a + S1x512x128.size a ≤ S4x4096x128.size a) ∧
  (∀ k0_t8 : Fin (k0_t8_loop v1).trips, ∀ a, (k0_off29 v1 k0_t8) a + S1x8x512.size a ≤ S1x8x4096.size a) ∧
  ((k0_t9_loop v1).OK) ∧
  (∀ k0_t9 : Fin (k0_t9_loop v1).trips, 512 ∣ (k0_mult39 v1 k0_t9).toNat) ∧
  (∀ k0_t9 : Fin (k0_t9_loop v1).trips, ∀ a, (k0_off30 v1 k0_t9) a + S1x512x128.size a ≤ S4x4096x128.size a) ∧
  (∀ k0_t9 : Fin (k0_t9_loop v1).trips, ∀ a, (k0_off31 v1 k0_t9) a + S1x8x512.size a ≤ S1x8x4096.size a) ∧
  ((k0_t10_loop v1).OK) ∧
  (∀ k0_t10 : Fin (k0_t10_loop v1).trips, 512 ∣ (k0_mult40 v1 k0_t10).toNat) ∧
  (∀ k0_t10 : Fin (k0_t10_loop v1).trips, ∀ a, (k0_off32 v1 k0_t10) a + S1x512x128.size a ≤ S4x4096x128.size a) ∧
  (∀ k0_t10 : Fin (k0_t10_loop v1).trips, ∀ a, (k0_off33 v1 k0_t10) a + S1x8x512.size a ≤ S1x8x4096.size a) ∧
  ((k0_t11_loop v1).OK) ∧
  (∀ k0_t11 : Fin (k0_t11_loop v1).trips, 512 ∣ (k0_mult41 v1 k0_t11).toNat) ∧
  (∀ k0_t11 : Fin (k0_t11_loop v1).trips, ∀ a, (k0_off34 v1 k0_t11) a + S1x512x1x128.size a ≤ S1x4096x8x128.size a) ∧
  (∀ k0_t11 : Fin (k0_t11_loop v1).trips, 512 ∣ (k0_mult42 v1 k0_t11).toNat) ∧
  (∀ k0_t11 : Fin (k0_t11_loop v1).trips, ∀ a, (k0_off35 v1 k0_t11) a + S1x512x1x128.size a ≤ S1x4096x8x128.size a) ∧
  (∀ k0_t11 : Fin (k0_t11_loop v1).trips, 512 ∣ (k0_mult43 v1 k0_t11).toNat)
def k0_chk1_3 (v1 : BitVec 32) : Prop :=
  (∀ k0_t11 : Fin (k0_t11_loop v1).trips, ∀ a, (k0_off36 v1 k0_t11) a + S1x512x1x128.size a ≤ S1x4096x8x128.size a) ∧
  (∀ k0_t11 : Fin (k0_t11_loop v1).trips, 512 ∣ (k0_mult44 v1 k0_t11).toNat) ∧
  (∀ k0_t11 : Fin (k0_t11_loop v1).trips, ∀ a, (k0_off37 v1 k0_t11) a + S1x512x1x128.size a ≤ S1x4096x8x128.size a) ∧
  (∀ k0_t11 : Fin (k0_t11_loop v1).trips, 512 ∣ (k0_mult45 v1 k0_t11).toNat) ∧
  (∀ k0_t11 : Fin (k0_t11_loop v1).trips, 512 ∣ (k0_mult46 v1 k0_t11).toNat) ∧
  (∀ k0_t11 : Fin (k0_t11_loop v1).trips, 512 ∣ (k0_mult47 v1 k0_t11).toNat) ∧
  (∀ k0_t11 : Fin (k0_t11_loop v1).trips, 512 ∣ (k0_mult48 v1 k0_t11).toNat) ∧
  (∀ k0_t11 : Fin (k0_t11_loop v1).trips, 512 ∣ (k0_mult49 v1 k0_t11).toNat) ∧
  (∀ k0_t11 : Fin (k0_t11_loop v1).trips, ∀ a, (k0_off38 v1 k0_t11) a + S1x512x128.size a ≤ S4x4096x128.size a) ∧
  (∀ k0_t11 : Fin (k0_t11_loop v1).trips, ∀ (hinb : ∀ a, (k0_off38 v1 k0_t11) a + S1x512x128.size a ≤ S4x4096x128.size a), (Rect.unit (s := S4x4096x128) (k0_off38 v1 k0_t11) S1x512x128.size hinb).PackedRows (EltTy.packing .fp8e4m3)) ∧
  (∀ k0_t11 : Fin (k0_t11_loop v1).trips, 512 ∣ (k0_mult50 v1 k0_t11).toNat) ∧
  (∀ k0_t11 : Fin (k0_t11_loop v1).trips, 512 ∣ (k0_mult51 v1 k0_t11).toNat) ∧
  (∀ k0_t11 : Fin (k0_t11_loop v1).trips, ∀ a, (k0_off39 v1 k0_t11) a + S1x512x128.size a ≤ S4x4096x128.size a) ∧
  (∀ k0_t11 : Fin (k0_t11_loop v1).trips, ∀ (hinb : ∀ a, (k0_off39 v1 k0_t11) a + S1x512x128.size a ≤ S4x4096x128.size a), (Rect.unit (s := S4x4096x128) (k0_off39 v1 k0_t11) S1x512x128.size hinb).PackedRows (EltTy.packing .fp8e4m3)) ∧
  (∀ k0_t11 : Fin (k0_t11_loop v1).trips, 512 ∣ (k0_mult52 v1 k0_t11).toNat) ∧
  (∀ k0_t11 : Fin (k0_t11_loop v1).trips, 512 ∣ (k0_mult53 v1 k0_t11).toNat) ∧
  (∀ k0_t11 : Fin (k0_t11_loop v1).trips, ∀ a, (k0_off40 v1 k0_t11) a + S1x512x128.size a ≤ S4x4096x128.size a) ∧
  (∀ k0_t11 : Fin (k0_t11_loop v1).trips, ∀ (hinb : ∀ a, (k0_off40 v1 k0_t11) a + S1x512x128.size a ≤ S4x4096x128.size a), (Rect.unit (s := S4x4096x128) (k0_off40 v1 k0_t11) S1x512x128.size hinb).PackedRows (EltTy.packing .fp8e4m3)) ∧
  (∀ k0_t11 : Fin (k0_t11_loop v1).trips, 512 ∣ (k0_mult54 v1 k0_t11).toNat) ∧
  (∀ k0_t11 : Fin (k0_t11_loop v1).trips, 512 ∣ (k0_mult55 v1 k0_t11).toNat) ∧
  (∀ k0_t11 : Fin (k0_t11_loop v1).trips, ∀ a, (k0_off41 v1 k0_t11) a + S1x512x128.size a ≤ S4x4096x128.size a) ∧
  (∀ k0_t11 : Fin (k0_t11_loop v1).trips, ∀ (hinb : ∀ a, (k0_off41 v1 k0_t11) a + S1x512x128.size a ≤ S4x4096x128.size a), (Rect.unit (s := S4x4096x128) (k0_off41 v1 k0_t11) S1x512x128.size hinb).PackedRows (EltTy.packing .fp8e4m3)) ∧
  (∀ k0_t11 : Fin (k0_t11_loop v1).trips, 512 ∣ (k0_mult56 v1 k0_t11).toNat) ∧
  ((k0_t12_loop v1).OK) ∧
  (∀ k0_t12 : Fin (k0_t12_loop v1).trips, 512 ∣ (k0_mult57 v1 k0_t12).toNat) ∧
  (∀ k0_t12 : Fin (k0_t12_loop v1).trips, ∀ a, (k0_off42 v1 k0_t12) a + S1x512x1x128.size a ≤ S1x4096x8x128.size a) ∧
  (∀ k0_t12 : Fin (k0_t12_loop v1).trips, 512 ∣ (k0_mult58 v1 k0_t12).toNat) ∧
  (∀ k0_t12 : Fin (k0_t12_loop v1).trips, ∀ a, (k0_off43 v1 k0_t12) a + S1x512x1x128.size a ≤ S1x4096x8x128.size a) ∧
  (∀ k0_t12 : Fin (k0_t12_loop v1).trips, 512 ∣ (k0_mult59 v1 k0_t12).toNat) ∧
  (∀ k0_t12 : Fin (k0_t12_loop v1).trips, ∀ a, (k0_off44 v1 k0_t12) a + S1x512x1x128.size a ≤ S1x4096x8x128.size a) ∧
  (∀ k0_t12 : Fin (k0_t12_loop v1).trips, 512 ∣ (k0_mult60 v1 k0_t12).toNat) ∧
  (∀ k0_t12 : Fin (k0_t12_loop v1).trips, ∀ a, (k0_off45 v1 k0_t12) a + S1x512x1x128.size a ≤ S1x4096x8x128.size a)
def k0_chk1_4 (v1 : BitVec 32) : Prop :=
  (∀ k0_t12 : Fin (k0_t12_loop v1).trips, 512 ∣ (k0_mult61 v1 k0_t12).toNat) ∧
  (∀ k0_t12 : Fin (k0_t12_loop v1).trips, 512 ∣ (k0_mult62 v1 k0_t12).toNat) ∧
  (∀ k0_t12 : Fin (k0_t12_loop v1).trips, 512 ∣ (k0_mult63 v1 k0_t12).toNat) ∧
  (∀ k0_t12 : Fin (k0_t12_loop v1).trips, 512 ∣ (k0_mult64 v1 k0_t12).toNat) ∧
  (∀ k0_t12 : Fin (k0_t12_loop v1).trips, 512 ∣ (k0_mult65 v1 k0_t12).toNat) ∧
  (∀ k0_t12 : Fin (k0_t12_loop v1).trips, ∀ a, (k0_off46 v1 k0_t12) a + S1x512x128.size a ≤ S4x4096x128.size a) ∧
  (∀ k0_t12 : Fin (k0_t12_loop v1).trips, ∀ (hinb : ∀ a, (k0_off46 v1 k0_t12) a + S1x512x128.size a ≤ S4x4096x128.size a), (Rect.unit (s := S4x4096x128) (k0_off46 v1 k0_t12) S1x512x128.size hinb).PackedRows (EltTy.packing .fp8e4m3)) ∧
  (∀ k0_t12 : Fin (k0_t12_loop v1).trips, 512 ∣ (k0_mult66 v1 k0_t12).toNat) ∧
  (∀ k0_t12 : Fin (k0_t12_loop v1).trips, 512 ∣ (k0_mult67 v1 k0_t12).toNat) ∧
  (∀ k0_t12 : Fin (k0_t12_loop v1).trips, ∀ a, (k0_off47 v1 k0_t12) a + S1x512x128.size a ≤ S4x4096x128.size a) ∧
  (∀ k0_t12 : Fin (k0_t12_loop v1).trips, ∀ (hinb : ∀ a, (k0_off47 v1 k0_t12) a + S1x512x128.size a ≤ S4x4096x128.size a), (Rect.unit (s := S4x4096x128) (k0_off47 v1 k0_t12) S1x512x128.size hinb).PackedRows (EltTy.packing .fp8e4m3)) ∧
  (∀ k0_t12 : Fin (k0_t12_loop v1).trips, 512 ∣ (k0_mult68 v1 k0_t12).toNat) ∧
  (∀ k0_t12 : Fin (k0_t12_loop v1).trips, 512 ∣ (k0_mult69 v1 k0_t12).toNat) ∧
  (∀ k0_t12 : Fin (k0_t12_loop v1).trips, ∀ a, (k0_off48 v1 k0_t12) a + S1x512x128.size a ≤ S4x4096x128.size a) ∧
  (∀ k0_t12 : Fin (k0_t12_loop v1).trips, ∀ (hinb : ∀ a, (k0_off48 v1 k0_t12) a + S1x512x128.size a ≤ S4x4096x128.size a), (Rect.unit (s := S4x4096x128) (k0_off48 v1 k0_t12) S1x512x128.size hinb).PackedRows (EltTy.packing .fp8e4m3)) ∧
  (∀ k0_t12 : Fin (k0_t12_loop v1).trips, 512 ∣ (k0_mult70 v1 k0_t12).toNat) ∧
  (∀ k0_t12 : Fin (k0_t12_loop v1).trips, 512 ∣ (k0_mult71 v1 k0_t12).toNat) ∧
  (∀ k0_t12 : Fin (k0_t12_loop v1).trips, ∀ a, (k0_off49 v1 k0_t12) a + S1x512x128.size a ≤ S4x4096x128.size a) ∧
  (∀ k0_t12 : Fin (k0_t12_loop v1).trips, ∀ (hinb : ∀ a, (k0_off49 v1 k0_t12) a + S1x512x128.size a ≤ S4x4096x128.size a), (Rect.unit (s := S4x4096x128) (k0_off49 v1 k0_t12) S1x512x128.size hinb).PackedRows (EltTy.packing .fp8e4m3)) ∧
  (∀ k0_t12 : Fin (k0_t12_loop v1).trips, 512 ∣ (k0_mult72 v1 k0_t12).toNat) ∧
  ((k0_t13_loop v1).OK) ∧
  (∀ k0_t13 : Fin (k0_t13_loop v1).trips, 512 ∣ (k0_mult73 v1 k0_t13).toNat) ∧
  (∀ k0_t13 : Fin (k0_t13_loop v1).trips, ∀ a, (k0_off50 v1 k0_t13) a + S1x512x128.size a ≤ S4x4096x128.size a) ∧
  (∀ k0_t13 : Fin (k0_t13_loop v1).trips, ∀ a, (k0_off51 v1 k0_t13) a + S1x8x512.size a ≤ S1x8x4096.size a) ∧
  ((k0_t14_loop v1).OK) ∧
  (∀ k0_t14 : Fin (k0_t14_loop v1).trips, 512 ∣ (k0_mult74 v1 k0_t14).toNat) ∧
  (∀ k0_t14 : Fin (k0_t14_loop v1).trips, ∀ a, (k0_off52 v1 k0_t14) a + S1x512x128.size a ≤ S4x4096x128.size a) ∧
  (∀ k0_t14 : Fin (k0_t14_loop v1).trips, ∀ a, (k0_off53 v1 k0_t14) a + S1x8x512.size a ≤ S1x8x4096.size a) ∧
  ((k0_t15_loop v1).OK) ∧
  (∀ k0_t15 : Fin (k0_t15_loop v1).trips, 512 ∣ (k0_mult75 v1 k0_t15).toNat) ∧
  (∀ k0_t15 : Fin (k0_t15_loop v1).trips, ∀ a, (k0_off54 v1 k0_t15) a + S1x512x128.size a ≤ S4x4096x128.size a) ∧
  (∀ k0_t15 : Fin (k0_t15_loop v1).trips, ∀ a, (k0_off55 v1 k0_t15) a + S1x8x512.size a ≤ S1x8x4096.size a)
def k0_chk1_5 (v1 : BitVec 32) : Prop :=
  ((k0_t16_loop v1).OK) ∧
  (∀ k0_t16 : Fin (k0_t16_loop v1).trips, 512 ∣ (k0_mult76 v1 k0_t16).toNat) ∧
  (∀ k0_t16 : Fin (k0_t16_loop v1).trips, ∀ a, (k0_off56 v1 k0_t16) a + S1x512x128.size a ≤ S4x4096x128.size a) ∧
  (∀ k0_t16 : Fin (k0_t16_loop v1).trips, ∀ a, (k0_off57 v1 k0_t16) a + S1x8x512.size a ≤ S1x8x4096.size a) ∧
  ((k0_t17_loop v1).OK) ∧
  (∀ k0_t17 : Fin (k0_t17_loop v1).trips, 512 ∣ (k0_mult77 v1 k0_t17).toNat) ∧
  (∀ k0_t17 : Fin (k0_t17_loop v1).trips, ∀ a, (k0_off58 v1 k0_t17) a + S1x512x128.size a ≤ S4x4096x128.size a) ∧
  (∀ k0_t17 : Fin (k0_t17_loop v1).trips, ∀ a, (k0_off59 v1 k0_t17) a + S1x8x512.size a ≤ S1x8x4096.size a) ∧
  ((k0_t18_loop v1).OK) ∧
  (∀ k0_t18 : Fin (k0_t18_loop v1).trips, 512 ∣ (k0_mult78 v1 k0_t18).toNat) ∧
  (∀ k0_t18 : Fin (k0_t18_loop v1).trips, ∀ a, (k0_off60 v1 k0_t18) a + S1x512x128.size a ≤ S4x4096x128.size a) ∧
  (∀ k0_t18 : Fin (k0_t18_loop v1).trips, ∀ a, (k0_off61 v1 k0_t18) a + S1x8x512.size a ≤ S1x8x4096.size a) ∧
  ((k0_t19_loop v1).OK) ∧
  (∀ k0_t19 : Fin (k0_t19_loop v1).trips, 512 ∣ (k0_mult79 v1 k0_t19).toNat) ∧
  (∀ k0_t19 : Fin (k0_t19_loop v1).trips, ∀ a, (k0_off62 v1 k0_t19) a + S1x512x128.size a ≤ S4x4096x128.size a) ∧
  (∀ k0_t19 : Fin (k0_t19_loop v1).trips, ∀ a, (k0_off63 v1 k0_t19) a + S1x8x512.size a ≤ S1x8x4096.size a) ∧
  ((k0_t20_loop v1).OK) ∧
  (∀ k0_t20 : Fin (k0_t20_loop v1).trips, 512 ∣ (k0_mult80 v1 k0_t20).toNat) ∧
  (∀ k0_t20 : Fin (k0_t20_loop v1).trips, ∀ a, (k0_off64 v1 k0_t20) a + S1x512x128.size a ≤ S4x4096x128.size a) ∧
  (∀ k0_t20 : Fin (k0_t20_loop v1).trips, ∀ a, (k0_off65 v1 k0_t20) a + S1x8x512.size a ≤ S1x8x4096.size a)
def k0_chk1 (v1 : BitVec 32) : Prop :=
  k0_chk1_0 v1 ∧
  k0_chk1_1 v1 ∧
  k0_chk1_2 v1 ∧
  k0_chk1_3 v1 ∧
  k0_chk1_4 v1 ∧
  k0_chk1_5 v1
theorem k0_t1_ok : ∀ (v1 : BitVec 32) (k0_hw1 : k0_chk1 v1), (k0_t1_loop v1).OK := fun v1 k0_hw1 => k0_hw1.1.1
theorem k0_mult1_dvd : ∀ (v1 : BitVec 32) (k0_hw1 : k0_chk1 v1) (k0_t1 : Fin (k0_t1_loop v1).trips), 512 ∣ (k0_mult1 v1 k0_t1).toNat := fun v1 k0_hw1 k0_t1 => k0_hw1.1.2.1 k0_t1
theorem k0_off2_inb : ∀ (v1 : BitVec 32) (k0_hw1 : k0_chk1 v1) (k0_t1 : Fin (k0_t1_loop v1).trips), ∀ a, (k0_off2 v1 k0_t1) a + S1x512x1x128.size a ≤ S1x4096x8x128.size a := fun v1 k0_hw1 k0_t1 => k0_hw1.1.2.2.1 k0_t1
theorem k0_mult2_dvd : ∀ (v1 : BitVec 32) (k0_hw1 : k0_chk1 v1) (k0_t1 : Fin (k0_t1_loop v1).trips), 512 ∣ (k0_mult2 v1 k0_t1).toNat := fun v1 k0_hw1 k0_t1 => k0_hw1.1.2.2.2.1 k0_t1
theorem k0_off3_inb : ∀ (v1 : BitVec 32) (k0_hw1 : k0_chk1 v1) (k0_t1 : Fin (k0_t1_loop v1).trips), ∀ a, (k0_off3 v1 k0_t1) a + S1x512x1x128.size a ≤ S1x4096x8x128.size a := fun v1 k0_hw1 k0_t1 => k0_hw1.1.2.2.2.2.1 k0_t1
theorem k0_mult3_dvd : ∀ (v1 : BitVec 32) (k0_hw1 : k0_chk1 v1) (k0_t1 : Fin (k0_t1_loop v1).trips), 512 ∣ (k0_mult3 v1 k0_t1).toNat := fun v1 k0_hw1 k0_t1 => k0_hw1.1.2.2.2.2.2.1 k0_t1
theorem k0_off4_inb : ∀ (v1 : BitVec 32) (k0_hw1 : k0_chk1 v1) (k0_t1 : Fin (k0_t1_loop v1).trips), ∀ a, (k0_off4 v1 k0_t1) a + S1x512x1x128.size a ≤ S1x4096x8x128.size a := fun v1 k0_hw1 k0_t1 => k0_hw1.1.2.2.2.2.2.2.1 k0_t1
theorem k0_mult4_dvd : ∀ (v1 : BitVec 32) (k0_hw1 : k0_chk1 v1) (k0_t1 : Fin (k0_t1_loop v1).trips), 512 ∣ (k0_mult4 v1 k0_t1).toNat := fun v1 k0_hw1 k0_t1 => k0_hw1.1.2.2.2.2.2.2.2.1 k0_t1
theorem k0_off5_inb : ∀ (v1 : BitVec 32) (k0_hw1 : k0_chk1 v1) (k0_t1 : Fin (k0_t1_loop v1).trips), ∀ a, (k0_off5 v1 k0_t1) a + S1x512x1x128.size a ≤ S1x4096x8x128.size a := fun v1 k0_hw1 k0_t1 => k0_hw1.1.2.2.2.2.2.2.2.2.1 k0_t1
theorem k0_mult5_dvd : ∀ (v1 : BitVec 32) (k0_hw1 : k0_chk1 v1) (k0_t1 : Fin (k0_t1_loop v1).trips), 512 ∣ (k0_mult5 v1 k0_t1).toNat := fun v1 k0_hw1 k0_t1 => k0_hw1.1.2.2.2.2.2.2.2.2.2.1 k0_t1
theorem k0_mult6_dvd : ∀ (v1 : BitVec 32) (k0_hw1 : k0_chk1 v1) (k0_t1 : Fin (k0_t1_loop v1).trips), 512 ∣ (k0_mult6 v1 k0_t1).toNat := fun v1 k0_hw1 k0_t1 => k0_hw1.1.2.2.2.2.2.2.2.2.2.2.1 k0_t1
theorem k0_mult7_dvd : ∀ (v1 : BitVec 32) (k0_hw1 : k0_chk1 v1) (k0_t1 : Fin (k0_t1_loop v1).trips), 512 ∣ (k0_mult7 v1 k0_t1).toNat := fun v1 k0_hw1 k0_t1 => k0_hw1.1.2.2.2.2.2.2.2.2.2.2.2.1 k0_t1
theorem k0_mult8_dvd : ∀ (v1 : BitVec 32) (k0_hw1 : k0_chk1 v1) (k0_t1 : Fin (k0_t1_loop v1).trips), 512 ∣ (k0_mult8 v1 k0_t1).toNat := fun v1 k0_hw1 k0_t1 => k0_hw1.1.2.2.2.2.2.2.2.2.2.2.2.2.1 k0_t1
theorem k0_mult9_dvd : ∀ (v1 : BitVec 32) (k0_hw1 : k0_chk1 v1) (k0_t1 : Fin (k0_t1_loop v1).trips), 512 ∣ (k0_mult9 v1 k0_t1).toNat := fun v1 k0_hw1 k0_t1 => k0_hw1.1.2.2.2.2.2.2.2.2.2.2.2.2.2.1 k0_t1
theorem k0_off6_inb : ∀ (v1 : BitVec 32) (k0_hw1 : k0_chk1 v1) (k0_t1 : Fin (k0_t1_loop v1).trips), ∀ a, (k0_off6 v1 k0_t1) a + S1x512x128.size a ≤ S4x4096x128.size a := fun v1 k0_hw1 k0_t1 => k0_hw1.1.2.2.2.2.2.2.2.2.2.2.2.2.2.2.1 k0_t1
theorem k0_off6_packedfp8e4m3 : ∀ (v1 : BitVec 32) (k0_hw1 : k0_chk1 v1) (k0_t1 : Fin (k0_t1_loop v1).trips), (Rect.unit (s := S4x4096x128) (k0_off6 v1 k0_t1) S1x512x128.size (k0_off6_inb v1 k0_hw1 k0_t1)).PackedRows (EltTy.packing .fp8e4m3) := fun v1 k0_hw1 k0_t1 => k0_hw1.1.2.2.2.2.2.2.2.2.2.2.2.2.2.2.2.1 k0_t1 (k0_off6_inb v1 k0_hw1 k0_t1)
theorem k0_mult10_dvd : ∀ (v1 : BitVec 32) (k0_hw1 : k0_chk1 v1) (k0_t1 : Fin (k0_t1_loop v1).trips), 512 ∣ (k0_mult10 v1 k0_t1).toNat := fun v1 k0_hw1 k0_t1 => k0_hw1.1.2.2.2.2.2.2.2.2.2.2.2.2.2.2.2.2.1 k0_t1
theorem k0_mult11_dvd : ∀ (v1 : BitVec 32) (k0_hw1 : k0_chk1 v1) (k0_t1 : Fin (k0_t1_loop v1).trips), 512 ∣ (k0_mult11 v1 k0_t1).toNat := fun v1 k0_hw1 k0_t1 => k0_hw1.1.2.2.2.2.2.2.2.2.2.2.2.2.2.2.2.2.2.1 k0_t1
theorem k0_off7_inb : ∀ (v1 : BitVec 32) (k0_hw1 : k0_chk1 v1) (k0_t1 : Fin (k0_t1_loop v1).trips), ∀ a, (k0_off7 v1 k0_t1) a + S1x512x128.size a ≤ S4x4096x128.size a := fun v1 k0_hw1 k0_t1 => k0_hw1.1.2.2.2.2.2.2.2.2.2.2.2.2.2.2.2.2.2.2.1 k0_t1
theorem k0_off7_packedfp8e4m3 : ∀ (v1 : BitVec 32) (k0_hw1 : k0_chk1 v1) (k0_t1 : Fin (k0_t1_loop v1).trips), (Rect.unit (s := S4x4096x128) (k0_off7 v1 k0_t1) S1x512x128.size (k0_off7_inb v1 k0_hw1 k0_t1)).PackedRows (EltTy.packing .fp8e4m3) := fun v1 k0_hw1 k0_t1 => k0_hw1.1.2.2.2.2.2.2.2.2.2.2.2.2.2.2.2.2.2.2.2.1 k0_t1 (k0_off7_inb v1 k0_hw1 k0_t1)
theorem k0_mult12_dvd : ∀ (v1 : BitVec 32) (k0_hw1 : k0_chk1 v1) (k0_t1 : Fin (k0_t1_loop v1).trips), 512 ∣ (k0_mult12 v1 k0_t1).toNat := fun v1 k0_hw1 k0_t1 => k0_hw1.1.2.2.2.2.2.2.2.2.2.2.2.2.2.2.2.2.2.2.2.2.1 k0_t1
theorem k0_mult13_dvd : ∀ (v1 : BitVec 32) (k0_hw1 : k0_chk1 v1) (k0_t1 : Fin (k0_t1_loop v1).trips), 512 ∣ (k0_mult13 v1 k0_t1).toNat := fun v1 k0_hw1 k0_t1 => k0_hw1.1.2.2.2.2.2.2.2.2.2.2.2.2.2.2.2.2.2.2.2.2.2.1 k0_t1
theorem k0_off8_inb : ∀ (v1 : BitVec 32) (k0_hw1 : k0_chk1 v1) (k0_t1 : Fin (k0_t1_loop v1).trips), ∀ a, (k0_off8 v1 k0_t1) a + S1x512x128.size a ≤ S4x4096x128.size a := fun v1 k0_hw1 k0_t1 => k0_hw1.1.2.2.2.2.2.2.2.2.2.2.2.2.2.2.2.2.2.2.2.2.2.2.1 k0_t1
theorem k0_off8_packedfp8e4m3 : ∀ (v1 : BitVec 32) (k0_hw1 : k0_chk1 v1) (k0_t1 : Fin (k0_t1_loop v1).trips), (Rect.unit (s := S4x4096x128) (k0_off8 v1 k0_t1) S1x512x128.size (k0_off8_inb v1 k0_hw1 k0_t1)).PackedRows (EltTy.packing .fp8e4m3) := fun v1 k0_hw1 k0_t1 => k0_hw1.1.2.2.2.2.2.2.2.2.2.2.2.2.2.2.2.2.2.2.2.2.2.2.2.1 k0_t1 (k0_off8_inb v1 k0_hw1 k0_t1)
theorem k0_mult14_dvd : ∀ (v1 : BitVec 32) (k0_hw1 : k0_chk1 v1) (k0_t1 : Fin (k0_t1_loop v1).trips), 512 ∣ (k0_mult14 v1 k0_t1).toNat := fun v1 k0_hw1 k0_t1 => k0_hw1.1.2.2.2.2.2.2.2.2.2.2.2.2.2.2.2.2.2.2.2.2.2.2.2.2.1 k0_t1
theorem k0_mult15_dvd : ∀ (v1 : BitVec 32) (k0_hw1 : k0_chk1 v1) (k0_t1 : Fin (k0_t1_loop v1).trips), 512 ∣ (k0_mult15 v1 k0_t1).toNat := fun v1 k0_hw1 k0_t1 => k0_hw1.1.2.2.2.2.2.2.2.2.2.2.2.2.2.2.2.2.2.2.2.2.2.2.2.2.2.1 k0_t1
theorem k0_off9_inb : ∀ (v1 : BitVec 32) (k0_hw1 : k0_chk1 v1) (k0_t1 : Fin (k0_t1_loop v1).trips), ∀ a, (k0_off9 v1 k0_t1) a + S1x512x128.size a ≤ S4x4096x128.size a := fun v1 k0_hw1 k0_t1 => k0_hw1.1.2.2.2.2.2.2.2.2.2.2.2.2.2.2.2.2.2.2.2.2.2.2.2.2.2.2.1 k0_t1
theorem k0_off9_packedfp8e4m3 : ∀ (v1 : BitVec 32) (k0_hw1 : k0_chk1 v1) (k0_t1 : Fin (k0_t1_loop v1).trips), (Rect.unit (s := S4x4096x128) (k0_off9 v1 k0_t1) S1x512x128.size (k0_off9_inb v1 k0_hw1 k0_t1)).PackedRows (EltTy.packing .fp8e4m3) := fun v1 k0_hw1 k0_t1 => k0_hw1.1.2.2.2.2.2.2.2.2.2.2.2.2.2.2.2.2.2.2.2.2.2.2.2.2.2.2.2.1 k0_t1 (k0_off9_inb v1 k0_hw1 k0_t1)
theorem k0_mult16_dvd : ∀ (v1 : BitVec 32) (k0_hw1 : k0_chk1 v1) (k0_t1 : Fin (k0_t1_loop v1).trips), 512 ∣ (k0_mult16 v1 k0_t1).toNat := fun v1 k0_hw1 k0_t1 => k0_hw1.1.2.2.2.2.2.2.2.2.2.2.2.2.2.2.2.2.2.2.2.2.2.2.2.2.2.2.2.2.1 k0_t1
theorem k0_t2_ok : ∀ (v1 : BitVec 32) (k0_hw1 : k0_chk1 v1), (k0_t2_loop v1).OK := fun v1 k0_hw1 => k0_hw1.1.2.2.2.2.2.2.2.2.2.2.2.2.2.2.2.2.2.2.2.2.2.2.2.2.2.2.2.2.2.1
theorem k0_mult17_dvd : ∀ (v1 : BitVec 32) (k0_hw1 : k0_chk1 v1) (k0_t2 : Fin (k0_t2_loop v1).trips), 512 ∣ (k0_mult17 v1 k0_t2).toNat := fun v1 k0_hw1 k0_t2 => k0_hw1.1.2.2.2.2.2.2.2.2.2.2.2.2.2.2.2.2.2.2.2.2.2.2.2.2.2.2.2.2.2.2.1 k0_t2
theorem k0_off10_inb : ∀ (v1 : BitVec 32) (k0_hw1 : k0_chk1 v1) (k0_t2 : Fin (k0_t2_loop v1).trips), ∀ a, (k0_off10 v1 k0_t2) a + S1x512x1x128.size a ≤ S1x4096x8x128.size a := fun v1 k0_hw1 k0_t2 => k0_hw1.1.2.2.2.2.2.2.2.2.2.2.2.2.2.2.2.2.2.2.2.2.2.2.2.2.2.2.2.2.2.2.2 k0_t2
theorem k0_mult18_dvd : ∀ (v1 : BitVec 32) (k0_hw1 : k0_chk1 v1) (k0_t2 : Fin (k0_t2_loop v1).trips), 512 ∣ (k0_mult18 v1 k0_t2).toNat := fun v1 k0_hw1 k0_t2 => k0_hw1.2.1.1 k0_t2
theorem k0_off11_inb : ∀ (v1 : BitVec 32) (k0_hw1 : k0_chk1 v1) (k0_t2 : Fin (k0_t2_loop v1).trips), ∀ a, (k0_off11 v1 k0_t2) a + S1x512x1x128.size a ≤ S1x4096x8x128.size a := fun v1 k0_hw1 k0_t2 => k0_hw1.2.1.2.1 k0_t2
theorem k0_mult19_dvd : ∀ (v1 : BitVec 32) (k0_hw1 : k0_chk1 v1) (k0_t2 : Fin (k0_t2_loop v1).trips), 512 ∣ (k0_mult19 v1 k0_t2).toNat := fun v1 k0_hw1 k0_t2 => k0_hw1.2.1.2.2.1 k0_t2
theorem k0_off12_inb : ∀ (v1 : BitVec 32) (k0_hw1 : k0_chk1 v1) (k0_t2 : Fin (k0_t2_loop v1).trips), ∀ a, (k0_off12 v1 k0_t2) a + S1x512x1x128.size a ≤ S1x4096x8x128.size a := fun v1 k0_hw1 k0_t2 => k0_hw1.2.1.2.2.2.1 k0_t2
theorem k0_mult20_dvd : ∀ (v1 : BitVec 32) (k0_hw1 : k0_chk1 v1) (k0_t2 : Fin (k0_t2_loop v1).trips), 512 ∣ (k0_mult20 v1 k0_t2).toNat := fun v1 k0_hw1 k0_t2 => k0_hw1.2.1.2.2.2.2.1 k0_t2
theorem k0_off13_inb : ∀ (v1 : BitVec 32) (k0_hw1 : k0_chk1 v1) (k0_t2 : Fin (k0_t2_loop v1).trips), ∀ a, (k0_off13 v1 k0_t2) a + S1x512x1x128.size a ≤ S1x4096x8x128.size a := fun v1 k0_hw1 k0_t2 => k0_hw1.2.1.2.2.2.2.2.1 k0_t2
theorem k0_mult21_dvd : ∀ (v1 : BitVec 32) (k0_hw1 : k0_chk1 v1) (k0_t2 : Fin (k0_t2_loop v1).trips), 512 ∣ (k0_mult21 v1 k0_t2).toNat := fun v1 k0_hw1 k0_t2 => k0_hw1.2.1.2.2.2.2.2.2.1 k0_t2
theorem k0_mult22_dvd : ∀ (v1 : BitVec 32) (k0_hw1 : k0_chk1 v1) (k0_t2 : Fin (k0_t2_loop v1).trips), 512 ∣ (k0_mult22 v1 k0_t2).toNat := fun v1 k0_hw1 k0_t2 => k0_hw1.2.1.2.2.2.2.2.2.2.1 k0_t2
theorem k0_mult23_dvd : ∀ (v1 : BitVec 32) (k0_hw1 : k0_chk1 v1) (k0_t2 : Fin (k0_t2_loop v1).trips), 512 ∣ (k0_mult23 v1 k0_t2).toNat := fun v1 k0_hw1 k0_t2 => k0_hw1.2.1.2.2.2.2.2.2.2.2.1 k0_t2
theorem k0_mult24_dvd : ∀ (v1 : BitVec 32) (k0_hw1 : k0_chk1 v1) (k0_t2 : Fin (k0_t2_loop v1).trips), 512 ∣ (k0_mult24 v1 k0_t2).toNat := fun v1 k0_hw1 k0_t2 => k0_hw1.2.1.2.2.2.2.2.2.2.2.2.1 k0_t2
theorem k0_mult25_dvd : ∀ (v1 : BitVec 32) (k0_hw1 : k0_chk1 v1) (k0_t2 : Fin (k0_t2_loop v1).trips), 512 ∣ (k0_mult25 v1 k0_t2).toNat := fun v1 k0_hw1 k0_t2 => k0_hw1.2.1.2.2.2.2.2.2.2.2.2.2.1 k0_t2
theorem k0_off14_inb : ∀ (v1 : BitVec 32) (k0_hw1 : k0_chk1 v1) (k0_t2 : Fin (k0_t2_loop v1).trips), ∀ a, (k0_off14 v1 k0_t2) a + S1x512x128.size a ≤ S4x4096x128.size a := fun v1 k0_hw1 k0_t2 => k0_hw1.2.1.2.2.2.2.2.2.2.2.2.2.2.1 k0_t2
theorem k0_off14_packedfp8e4m3 : ∀ (v1 : BitVec 32) (k0_hw1 : k0_chk1 v1) (k0_t2 : Fin (k0_t2_loop v1).trips), (Rect.unit (s := S4x4096x128) (k0_off14 v1 k0_t2) S1x512x128.size (k0_off14_inb v1 k0_hw1 k0_t2)).PackedRows (EltTy.packing .fp8e4m3) := fun v1 k0_hw1 k0_t2 => k0_hw1.2.1.2.2.2.2.2.2.2.2.2.2.2.2.1 k0_t2 (k0_off14_inb v1 k0_hw1 k0_t2)
theorem k0_mult26_dvd : ∀ (v1 : BitVec 32) (k0_hw1 : k0_chk1 v1) (k0_t2 : Fin (k0_t2_loop v1).trips), 512 ∣ (k0_mult26 v1 k0_t2).toNat := fun v1 k0_hw1 k0_t2 => k0_hw1.2.1.2.2.2.2.2.2.2.2.2.2.2.2.2.1 k0_t2
theorem k0_mult27_dvd : ∀ (v1 : BitVec 32) (k0_hw1 : k0_chk1 v1) (k0_t2 : Fin (k0_t2_loop v1).trips), 512 ∣ (k0_mult27 v1 k0_t2).toNat := fun v1 k0_hw1 k0_t2 => k0_hw1.2.1.2.2.2.2.2.2.2.2.2.2.2.2.2.2.1 k0_t2
theorem k0_off15_inb : ∀ (v1 : BitVec 32) (k0_hw1 : k0_chk1 v1) (k0_t2 : Fin (k0_t2_loop v1).trips), ∀ a, (k0_off15 v1 k0_t2) a + S1x512x128.size a ≤ S4x4096x128.size a := fun v1 k0_hw1 k0_t2 => k0_hw1.2.1.2.2.2.2.2.2.2.2.2.2.2.2.2.2.2.1 k0_t2
theorem k0_off15_packedfp8e4m3 : ∀ (v1 : BitVec 32) (k0_hw1 : k0_chk1 v1) (k0_t2 : Fin (k0_t2_loop v1).trips), (Rect.unit (s := S4x4096x128) (k0_off15 v1 k0_t2) S1x512x128.size (k0_off15_inb v1 k0_hw1 k0_t2)).PackedRows (EltTy.packing .fp8e4m3) := fun v1 k0_hw1 k0_t2 => k0_hw1.2.1.2.2.2.2.2.2.2.2.2.2.2.2.2.2.2.2.1 k0_t2 (k0_off15_inb v1 k0_hw1 k0_t2)
theorem k0_mult28_dvd : ∀ (v1 : BitVec 32) (k0_hw1 : k0_chk1 v1) (k0_t2 : Fin (k0_t2_loop v1).trips), 512 ∣ (k0_mult28 v1 k0_t2).toNat := fun v1 k0_hw1 k0_t2 => k0_hw1.2.1.2.2.2.2.2.2.2.2.2.2.2.2.2.2.2.2.2.1 k0_t2
theorem k0_mult29_dvd : ∀ (v1 : BitVec 32) (k0_hw1 : k0_chk1 v1) (k0_t2 : Fin (k0_t2_loop v1).trips), 512 ∣ (k0_mult29 v1 k0_t2).toNat := fun v1 k0_hw1 k0_t2 => k0_hw1.2.1.2.2.2.2.2.2.2.2.2.2.2.2.2.2.2.2.2.2.1 k0_t2
theorem k0_off16_inb : ∀ (v1 : BitVec 32) (k0_hw1 : k0_chk1 v1) (k0_t2 : Fin (k0_t2_loop v1).trips), ∀ a, (k0_off16 v1 k0_t2) a + S1x512x128.size a ≤ S4x4096x128.size a := fun v1 k0_hw1 k0_t2 => k0_hw1.2.1.2.2.2.2.2.2.2.2.2.2.2.2.2.2.2.2.2.2.2.1 k0_t2
theorem k0_off16_packedfp8e4m3 : ∀ (v1 : BitVec 32) (k0_hw1 : k0_chk1 v1) (k0_t2 : Fin (k0_t2_loop v1).trips), (Rect.unit (s := S4x4096x128) (k0_off16 v1 k0_t2) S1x512x128.size (k0_off16_inb v1 k0_hw1 k0_t2)).PackedRows (EltTy.packing .fp8e4m3) := fun v1 k0_hw1 k0_t2 => k0_hw1.2.1.2.2.2.2.2.2.2.2.2.2.2.2.2.2.2.2.2.2.2.2.1 k0_t2 (k0_off16_inb v1 k0_hw1 k0_t2)
theorem k0_mult30_dvd : ∀ (v1 : BitVec 32) (k0_hw1 : k0_chk1 v1) (k0_t2 : Fin (k0_t2_loop v1).trips), 512 ∣ (k0_mult30 v1 k0_t2).toNat := fun v1 k0_hw1 k0_t2 => k0_hw1.2.1.2.2.2.2.2.2.2.2.2.2.2.2.2.2.2.2.2.2.2.2.2.1 k0_t2
theorem k0_mult31_dvd : ∀ (v1 : BitVec 32) (k0_hw1 : k0_chk1 v1) (k0_t2 : Fin (k0_t2_loop v1).trips), 512 ∣ (k0_mult31 v1 k0_t2).toNat := fun v1 k0_hw1 k0_t2 => k0_hw1.2.1.2.2.2.2.2.2.2.2.2.2.2.2.2.2.2.2.2.2.2.2.2.2.1 k0_t2
theorem k0_off17_inb : ∀ (v1 : BitVec 32) (k0_hw1 : k0_chk1 v1) (k0_t2 : Fin (k0_t2_loop v1).trips), ∀ a, (k0_off17 v1 k0_t2) a + S1x512x128.size a ≤ S4x4096x128.size a := fun v1 k0_hw1 k0_t2 => k0_hw1.2.1.2.2.2.2.2.2.2.2.2.2.2.2.2.2.2.2.2.2.2.2.2.2.2.1 k0_t2
theorem k0_off17_packedfp8e4m3 : ∀ (v1 : BitVec 32) (k0_hw1 : k0_chk1 v1) (k0_t2 : Fin (k0_t2_loop v1).trips), (Rect.unit (s := S4x4096x128) (k0_off17 v1 k0_t2) S1x512x128.size (k0_off17_inb v1 k0_hw1 k0_t2)).PackedRows (EltTy.packing .fp8e4m3) := fun v1 k0_hw1 k0_t2 => k0_hw1.2.1.2.2.2.2.2.2.2.2.2.2.2.2.2.2.2.2.2.2.2.2.2.2.2.2.1 k0_t2 (k0_off17_inb v1 k0_hw1 k0_t2)
theorem k0_mult32_dvd : ∀ (v1 : BitVec 32) (k0_hw1 : k0_chk1 v1) (k0_t2 : Fin (k0_t2_loop v1).trips), 512 ∣ (k0_mult32 v1 k0_t2).toNat := fun v1 k0_hw1 k0_t2 => k0_hw1.2.1.2.2.2.2.2.2.2.2.2.2.2.2.2.2.2.2.2.2.2.2.2.2.2.2.2.1 k0_t2
theorem k0_t3_ok : ∀ (v1 : BitVec 32) (k0_hw1 : k0_chk1 v1), (k0_t3_loop v1).OK := fun v1 k0_hw1 => k0_hw1.2.1.2.2.2.2.2.2.2.2.2.2.2.2.2.2.2.2.2.2.2.2.2.2.2.2.2.2.1
theorem k0_mult33_dvd : ∀ (v1 : BitVec 32) (k0_hw1 : k0_chk1 v1) (k0_t3 : Fin (k0_t3_loop v1).trips), 512 ∣ (k0_mult33 v1 k0_t3).toNat := fun v1 k0_hw1 k0_t3 => k0_hw1.2.1.2.2.2.2.2.2.2.2.2.2.2.2.2.2.2.2.2.2.2.2.2.2.2.2.2.2.2.1 k0_t3
theorem k0_off18_inb : ∀ (v1 : BitVec 32) (k0_hw1 : k0_chk1 v1) (k0_t3 : Fin (k0_t3_loop v1).trips), ∀ a, (k0_off18 v1 k0_t3) a + S1x512x128.size a ≤ S4x4096x128.size a := fun v1 k0_hw1 k0_t3 => k0_hw1.2.1.2.2.2.2.2.2.2.2.2.2.2.2.2.2.2.2.2.2.2.2.2.2.2.2.2.2.2.2.1 k0_t3
theorem k0_off19_inb : ∀ (v1 : BitVec 32) (k0_hw1 : k0_chk1 v1) (k0_t3 : Fin (k0_t3_loop v1).trips), ∀ a, (k0_off19 v1 k0_t3) a + S1x8x512.size a ≤ S1x8x4096.size a := fun v1 k0_hw1 k0_t3 => k0_hw1.2.1.2.2.2.2.2.2.2.2.2.2.2.2.2.2.2.2.2.2.2.2.2.2.2.2.2.2.2.2.2.1 k0_t3
theorem k0_t4_ok : ∀ (v1 : BitVec 32) (k0_hw1 : k0_chk1 v1), (k0_t4_loop v1).OK := fun v1 k0_hw1 => k0_hw1.2.1.2.2.2.2.2.2.2.2.2.2.2.2.2.2.2.2.2.2.2.2.2.2.2.2.2.2.2.2.2.2.1
theorem k0_mult34_dvd : ∀ (v1 : BitVec 32) (k0_hw1 : k0_chk1 v1) (k0_t4 : Fin (k0_t4_loop v1).trips), 512 ∣ (k0_mult34 v1 k0_t4).toNat := fun v1 k0_hw1 k0_t4 => k0_hw1.2.1.2.2.2.2.2.2.2.2.2.2.2.2.2.2.2.2.2.2.2.2.2.2.2.2.2.2.2.2.2.2.2 k0_t4
theorem k0_off20_inb : ∀ (v1 : BitVec 32) (k0_hw1 : k0_chk1 v1) (k0_t4 : Fin (k0_t4_loop v1).trips), ∀ a, (k0_off20 v1 k0_t4) a + S1x512x128.size a ≤ S4x4096x128.size a := fun v1 k0_hw1 k0_t4 => k0_hw1.2.2.1.1 k0_t4
theorem k0_off21_inb : ∀ (v1 : BitVec 32) (k0_hw1 : k0_chk1 v1) (k0_t4 : Fin (k0_t4_loop v1).trips), ∀ a, (k0_off21 v1 k0_t4) a + S1x8x512.size a ≤ S1x8x4096.size a := fun v1 k0_hw1 k0_t4 => k0_hw1.2.2.1.2.1 k0_t4
theorem k0_t5_ok : ∀ (v1 : BitVec 32) (k0_hw1 : k0_chk1 v1), (k0_t5_loop v1).OK := fun v1 k0_hw1 => k0_hw1.2.2.1.2.2.1
theorem k0_mult35_dvd : ∀ (v1 : BitVec 32) (k0_hw1 : k0_chk1 v1) (k0_t5 : Fin (k0_t5_loop v1).trips), 512 ∣ (k0_mult35 v1 k0_t5).toNat := fun v1 k0_hw1 k0_t5 => k0_hw1.2.2.1.2.2.2.1 k0_t5
theorem k0_off22_inb : ∀ (v1 : BitVec 32) (k0_hw1 : k0_chk1 v1) (k0_t5 : Fin (k0_t5_loop v1).trips), ∀ a, (k0_off22 v1 k0_t5) a + S1x512x128.size a ≤ S4x4096x128.size a := fun v1 k0_hw1 k0_t5 => k0_hw1.2.2.1.2.2.2.2.1 k0_t5
theorem k0_off23_inb : ∀ (v1 : BitVec 32) (k0_hw1 : k0_chk1 v1) (k0_t5 : Fin (k0_t5_loop v1).trips), ∀ a, (k0_off23 v1 k0_t5) a + S1x8x512.size a ≤ S1x8x4096.size a := fun v1 k0_hw1 k0_t5 => k0_hw1.2.2.1.2.2.2.2.2.1 k0_t5
theorem k0_t6_ok : ∀ (v1 : BitVec 32) (k0_hw1 : k0_chk1 v1), (k0_t6_loop v1).OK := fun v1 k0_hw1 => k0_hw1.2.2.1.2.2.2.2.2.2.1
theorem k0_mult36_dvd : ∀ (v1 : BitVec 32) (k0_hw1 : k0_chk1 v1) (k0_t6 : Fin (k0_t6_loop v1).trips), 512 ∣ (k0_mult36 v1 k0_t6).toNat := fun v1 k0_hw1 k0_t6 => k0_hw1.2.2.1.2.2.2.2.2.2.2.1 k0_t6
theorem k0_off24_inb : ∀ (v1 : BitVec 32) (k0_hw1 : k0_chk1 v1) (k0_t6 : Fin (k0_t6_loop v1).trips), ∀ a, (k0_off24 v1 k0_t6) a + S1x512x128.size a ≤ S4x4096x128.size a := fun v1 k0_hw1 k0_t6 => k0_hw1.2.2.1.2.2.2.2.2.2.2.2.1 k0_t6
theorem k0_off25_inb : ∀ (v1 : BitVec 32) (k0_hw1 : k0_chk1 v1) (k0_t6 : Fin (k0_t6_loop v1).trips), ∀ a, (k0_off25 v1 k0_t6) a + S1x8x512.size a ≤ S1x8x4096.size a := fun v1 k0_hw1 k0_t6 => k0_hw1.2.2.1.2.2.2.2.2.2.2.2.2.1 k0_t6
theorem k0_t7_ok : ∀ (v1 : BitVec 32) (k0_hw1 : k0_chk1 v1), (k0_t7_loop v1).OK := fun v1 k0_hw1 => k0_hw1.2.2.1.2.2.2.2.2.2.2.2.2.2.1
theorem k0_mult37_dvd : ∀ (v1 : BitVec 32) (k0_hw1 : k0_chk1 v1) (k0_t7 : Fin (k0_t7_loop v1).trips), 512 ∣ (k0_mult37 v1 k0_t7).toNat := fun v1 k0_hw1 k0_t7 => k0_hw1.2.2.1.2.2.2.2.2.2.2.2.2.2.2.1 k0_t7
theorem k0_off26_inb : ∀ (v1 : BitVec 32) (k0_hw1 : k0_chk1 v1) (k0_t7 : Fin (k0_t7_loop v1).trips), ∀ a, (k0_off26 v1 k0_t7) a + S1x512x128.size a ≤ S4x4096x128.size a := fun v1 k0_hw1 k0_t7 => k0_hw1.2.2.1.2.2.2.2.2.2.2.2.2.2.2.2.1 k0_t7
theorem k0_off27_inb : ∀ (v1 : BitVec 32) (k0_hw1 : k0_chk1 v1) (k0_t7 : Fin (k0_t7_loop v1).trips), ∀ a, (k0_off27 v1 k0_t7) a + S1x8x512.size a ≤ S1x8x4096.size a := fun v1 k0_hw1 k0_t7 => k0_hw1.2.2.1.2.2.2.2.2.2.2.2.2.2.2.2.2.1 k0_t7
theorem k0_t8_ok : ∀ (v1 : BitVec 32) (k0_hw1 : k0_chk1 v1), (k0_t8_loop v1).OK := fun v1 k0_hw1 => k0_hw1.2.2.1.2.2.2.2.2.2.2.2.2.2.2.2.2.2.1
theorem k0_mult38_dvd : ∀ (v1 : BitVec 32) (k0_hw1 : k0_chk1 v1) (k0_t8 : Fin (k0_t8_loop v1).trips), 512 ∣ (k0_mult38 v1 k0_t8).toNat := fun v1 k0_hw1 k0_t8 => k0_hw1.2.2.1.2.2.2.2.2.2.2.2.2.2.2.2.2.2.2.1 k0_t8
theorem k0_off28_inb : ∀ (v1 : BitVec 32) (k0_hw1 : k0_chk1 v1) (k0_t8 : Fin (k0_t8_loop v1).trips), ∀ a, (k0_off28 v1 k0_t8) a + S1x512x128.size a ≤ S4x4096x128.size a := fun v1 k0_hw1 k0_t8 => k0_hw1.2.2.1.2.2.2.2.2.2.2.2.2.2.2.2.2.2.2.2.1 k0_t8
theorem k0_off29_inb : ∀ (v1 : BitVec 32) (k0_hw1 : k0_chk1 v1) (k0_t8 : Fin (k0_t8_loop v1).trips), ∀ a, (k0_off29 v1 k0_t8) a + S1x8x512.size a ≤ S1x8x4096.size a := fun v1 k0_hw1 k0_t8 => k0_hw1.2.2.1.2.2.2.2.2.2.2.2.2.2.2.2.2.2.2.2.2.1 k0_t8
theorem k0_t9_ok : ∀ (v1 : BitVec 32) (k0_hw1 : k0_chk1 v1), (k0_t9_loop v1).OK := fun v1 k0_hw1 => k0_hw1.2.2.1.2.2.2.2.2.2.2.2.2.2.2.2.2.2.2.2.2.2.1
theorem k0_mult39_dvd : ∀ (v1 : BitVec 32) (k0_hw1 : k0_chk1 v1) (k0_t9 : Fin (k0_t9_loop v1).trips), 512 ∣ (k0_mult39 v1 k0_t9).toNat := fun v1 k0_hw1 k0_t9 => k0_hw1.2.2.1.2.2.2.2.2.2.2.2.2.2.2.2.2.2.2.2.2.2.2.1 k0_t9
theorem k0_off30_inb : ∀ (v1 : BitVec 32) (k0_hw1 : k0_chk1 v1) (k0_t9 : Fin (k0_t9_loop v1).trips), ∀ a, (k0_off30 v1 k0_t9) a + S1x512x128.size a ≤ S4x4096x128.size a := fun v1 k0_hw1 k0_t9 => k0_hw1.2.2.1.2.2.2.2.2.2.2.2.2.2.2.2.2.2.2.2.2.2.2.2.1 k0_t9
theorem k0_off31_inb : ∀ (v1 : BitVec 32) (k0_hw1 : k0_chk1 v1) (k0_t9 : Fin (k0_t9_loop v1).trips), ∀ a, (k0_off31 v1 k0_t9) a + S1x8x512.size a ≤ S1x8x4096.size a := fun v1 k0_hw1 k0_t9 => k0_hw1.2.2.1.2.2.2.2.2.2.2.2.2.2.2.2.2.2.2.2.2.2.2.2.2.1 k0_t9
theorem k0_t10_ok : ∀ (v1 : BitVec 32) (k0_hw1 : k0_chk1 v1), (k0_t10_loop v1).OK := fun v1 k0_hw1 => k0_hw1.2.2.1.2.2.2.2.2.2.2.2.2.2.2.2.2.2.2.2.2.2.2.2.2.2.1
theorem k0_mult40_dvd : ∀ (v1 : BitVec 32) (k0_hw1 : k0_chk1 v1) (k0_t10 : Fin (k0_t10_loop v1).trips), 512 ∣ (k0_mult40 v1 k0_t10).toNat := fun v1 k0_hw1 k0_t10 => k0_hw1.2.2.1.2.2.2.2.2.2.2.2.2.2.2.2.2.2.2.2.2.2.2.2.2.2.2.1 k0_t10
theorem k0_off32_inb : ∀ (v1 : BitVec 32) (k0_hw1 : k0_chk1 v1) (k0_t10 : Fin (k0_t10_loop v1).trips), ∀ a, (k0_off32 v1 k0_t10) a + S1x512x128.size a ≤ S4x4096x128.size a := fun v1 k0_hw1 k0_t10 => k0_hw1.2.2.1.2.2.2.2.2.2.2.2.2.2.2.2.2.2.2.2.2.2.2.2.2.2.2.2.1 k0_t10
theorem k0_off33_inb : ∀ (v1 : BitVec 32) (k0_hw1 : k0_chk1 v1) (k0_t10 : Fin (k0_t10_loop v1).trips), ∀ a, (k0_off33 v1 k0_t10) a + S1x8x512.size a ≤ S1x8x4096.size a := fun v1 k0_hw1 k0_t10 => k0_hw1.2.2.1.2.2.2.2.2.2.2.2.2.2.2.2.2.2.2.2.2.2.2.2.2.2.2.2.2.1 k0_t10
theorem k0_t11_ok : ∀ (v1 : BitVec 32) (k0_hw1 : k0_chk1 v1), (k0_t11_loop v1).OK := fun v1 k0_hw1 => k0_hw1.2.2.1.2.2.2.2.2.2.2.2.2.2.2.2.2.2.2.2.2.2.2.2.2.2.2.2.2.2.1
theorem k0_mult41_dvd : ∀ (v1 : BitVec 32) (k0_hw1 : k0_chk1 v1) (k0_t11 : Fin (k0_t11_loop v1).trips), 512 ∣ (k0_mult41 v1 k0_t11).toNat := fun v1 k0_hw1 k0_t11 => k0_hw1.2.2.1.2.2.2.2.2.2.2.2.2.2.2.2.2.2.2.2.2.2.2.2.2.2.2.2.2.2.2.1 k0_t11
theorem k0_off34_inb : ∀ (v1 : BitVec 32) (k0_hw1 : k0_chk1 v1) (k0_t11 : Fin (k0_t11_loop v1).trips), ∀ a, (k0_off34 v1 k0_t11) a + S1x512x1x128.size a ≤ S1x4096x8x128.size a := fun v1 k0_hw1 k0_t11 => k0_hw1.2.2.1.2.2.2.2.2.2.2.2.2.2.2.2.2.2.2.2.2.2.2.2.2.2.2.2.2.2.2.2.1 k0_t11
theorem k0_mult42_dvd : ∀ (v1 : BitVec 32) (k0_hw1 : k0_chk1 v1) (k0_t11 : Fin (k0_t11_loop v1).trips), 512 ∣ (k0_mult42 v1 k0_t11).toNat := fun v1 k0_hw1 k0_t11 => k0_hw1.2.2.1.2.2.2.2.2.2.2.2.2.2.2.2.2.2.2.2.2.2.2.2.2.2.2.2.2.2.2.2.2.1 k0_t11
theorem k0_off35_inb : ∀ (v1 : BitVec 32) (k0_hw1 : k0_chk1 v1) (k0_t11 : Fin (k0_t11_loop v1).trips), ∀ a, (k0_off35 v1 k0_t11) a + S1x512x1x128.size a ≤ S1x4096x8x128.size a := fun v1 k0_hw1 k0_t11 => k0_hw1.2.2.1.2.2.2.2.2.2.2.2.2.2.2.2.2.2.2.2.2.2.2.2.2.2.2.2.2.2.2.2.2.2.1 k0_t11
theorem k0_mult43_dvd : ∀ (v1 : BitVec 32) (k0_hw1 : k0_chk1 v1) (k0_t11 : Fin (k0_t11_loop v1).trips), 512 ∣ (k0_mult43 v1 k0_t11).toNat := fun v1 k0_hw1 k0_t11 => k0_hw1.2.2.1.2.2.2.2.2.2.2.2.2.2.2.2.2.2.2.2.2.2.2.2.2.2.2.2.2.2.2.2.2.2.2 k0_t11
theorem k0_off36_inb : ∀ (v1 : BitVec 32) (k0_hw1 : k0_chk1 v1) (k0_t11 : Fin (k0_t11_loop v1).trips), ∀ a, (k0_off36 v1 k0_t11) a + S1x512x1x128.size a ≤ S1x4096x8x128.size a := fun v1 k0_hw1 k0_t11 => k0_hw1.2.2.2.1.1 k0_t11
theorem k0_mult44_dvd : ∀ (v1 : BitVec 32) (k0_hw1 : k0_chk1 v1) (k0_t11 : Fin (k0_t11_loop v1).trips), 512 ∣ (k0_mult44 v1 k0_t11).toNat := fun v1 k0_hw1 k0_t11 => k0_hw1.2.2.2.1.2.1 k0_t11
theorem k0_off37_inb : ∀ (v1 : BitVec 32) (k0_hw1 : k0_chk1 v1) (k0_t11 : Fin (k0_t11_loop v1).trips), ∀ a, (k0_off37 v1 k0_t11) a + S1x512x1x128.size a ≤ S1x4096x8x128.size a := fun v1 k0_hw1 k0_t11 => k0_hw1.2.2.2.1.2.2.1 k0_t11
theorem k0_mult45_dvd : ∀ (v1 : BitVec 32) (k0_hw1 : k0_chk1 v1) (k0_t11 : Fin (k0_t11_loop v1).trips), 512 ∣ (k0_mult45 v1 k0_t11).toNat := fun v1 k0_hw1 k0_t11 => k0_hw1.2.2.2.1.2.2.2.1 k0_t11
theorem k0_mult46_dvd : ∀ (v1 : BitVec 32) (k0_hw1 : k0_chk1 v1) (k0_t11 : Fin (k0_t11_loop v1).trips), 512 ∣ (k0_mult46 v1 k0_t11).toNat := fun v1 k0_hw1 k0_t11 => k0_hw1.2.2.2.1.2.2.2.2.1 k0_t11
theorem k0_mult47_dvd : ∀ (v1 : BitVec 32) (k0_hw1 : k0_chk1 v1) (k0_t11 : Fin (k0_t11_loop v1).trips), 512 ∣ (k0_mult47 v1 k0_t11).toNat := fun v1 k0_hw1 k0_t11 => k0_hw1.2.2.2.1.2.2.2.2.2.1 k0_t11
theorem k0_mult48_dvd : ∀ (v1 : BitVec 32) (k0_hw1 : k0_chk1 v1) (k0_t11 : Fin (k0_t11_loop v1).trips), 512 ∣ (k0_mult48 v1 k0_t11).toNat := fun v1 k0_hw1 k0_t11 => k0_hw1.2.2.2.1.2.2.2.2.2.2.1 k0_t11
theorem k0_mult49_dvd : ∀ (v1 : BitVec 32) (k0_hw1 : k0_chk1 v1) (k0_t11 : Fin (k0_t11_loop v1).trips), 512 ∣ (k0_mult49 v1 k0_t11).toNat := fun v1 k0_hw1 k0_t11 => k0_hw1.2.2.2.1.2.2.2.2.2.2.2.1 k0_t11
theorem k0_off38_inb : ∀ (v1 : BitVec 32) (k0_hw1 : k0_chk1 v1) (k0_t11 : Fin (k0_t11_loop v1).trips), ∀ a, (k0_off38 v1 k0_t11) a + S1x512x128.size a ≤ S4x4096x128.size a := fun v1 k0_hw1 k0_t11 => k0_hw1.2.2.2.1.2.2.2.2.2.2.2.2.1 k0_t11
theorem k0_off38_packedfp8e4m3 : ∀ (v1 : BitVec 32) (k0_hw1 : k0_chk1 v1) (k0_t11 : Fin (k0_t11_loop v1).trips), (Rect.unit (s := S4x4096x128) (k0_off38 v1 k0_t11) S1x512x128.size (k0_off38_inb v1 k0_hw1 k0_t11)).PackedRows (EltTy.packing .fp8e4m3) := fun v1 k0_hw1 k0_t11 => k0_hw1.2.2.2.1.2.2.2.2.2.2.2.2.2.1 k0_t11 (k0_off38_inb v1 k0_hw1 k0_t11)
theorem k0_mult50_dvd : ∀ (v1 : BitVec 32) (k0_hw1 : k0_chk1 v1) (k0_t11 : Fin (k0_t11_loop v1).trips), 512 ∣ (k0_mult50 v1 k0_t11).toNat := fun v1 k0_hw1 k0_t11 => k0_hw1.2.2.2.1.2.2.2.2.2.2.2.2.2.2.1 k0_t11
theorem k0_mult51_dvd : ∀ (v1 : BitVec 32) (k0_hw1 : k0_chk1 v1) (k0_t11 : Fin (k0_t11_loop v1).trips), 512 ∣ (k0_mult51 v1 k0_t11).toNat := fun v1 k0_hw1 k0_t11 => k0_hw1.2.2.2.1.2.2.2.2.2.2.2.2.2.2.2.1 k0_t11
theorem k0_off39_inb : ∀ (v1 : BitVec 32) (k0_hw1 : k0_chk1 v1) (k0_t11 : Fin (k0_t11_loop v1).trips), ∀ a, (k0_off39 v1 k0_t11) a + S1x512x128.size a ≤ S4x4096x128.size a := fun v1 k0_hw1 k0_t11 => k0_hw1.2.2.2.1.2.2.2.2.2.2.2.2.2.2.2.2.1 k0_t11
theorem k0_off39_packedfp8e4m3 : ∀ (v1 : BitVec 32) (k0_hw1 : k0_chk1 v1) (k0_t11 : Fin (k0_t11_loop v1).trips), (Rect.unit (s := S4x4096x128) (k0_off39 v1 k0_t11) S1x512x128.size (k0_off39_inb v1 k0_hw1 k0_t11)).PackedRows (EltTy.packing .fp8e4m3) := fun v1 k0_hw1 k0_t11 => k0_hw1.2.2.2.1.2.2.2.2.2.2.2.2.2.2.2.2.2.1 k0_t11 (k0_off39_inb v1 k0_hw1 k0_t11)
theorem k0_mult52_dvd : ∀ (v1 : BitVec 32) (k0_hw1 : k0_chk1 v1) (k0_t11 : Fin (k0_t11_loop v1).trips), 512 ∣ (k0_mult52 v1 k0_t11).toNat := fun v1 k0_hw1 k0_t11 => k0_hw1.2.2.2.1.2.2.2.2.2.2.2.2.2.2.2.2.2.2.1 k0_t11
theorem k0_mult53_dvd : ∀ (v1 : BitVec 32) (k0_hw1 : k0_chk1 v1) (k0_t11 : Fin (k0_t11_loop v1).trips), 512 ∣ (k0_mult53 v1 k0_t11).toNat := fun v1 k0_hw1 k0_t11 => k0_hw1.2.2.2.1.2.2.2.2.2.2.2.2.2.2.2.2.2.2.2.1 k0_t11
theorem k0_off40_inb : ∀ (v1 : BitVec 32) (k0_hw1 : k0_chk1 v1) (k0_t11 : Fin (k0_t11_loop v1).trips), ∀ a, (k0_off40 v1 k0_t11) a + S1x512x128.size a ≤ S4x4096x128.size a := fun v1 k0_hw1 k0_t11 => k0_hw1.2.2.2.1.2.2.2.2.2.2.2.2.2.2.2.2.2.2.2.2.1 k0_t11
theorem k0_off40_packedfp8e4m3 : ∀ (v1 : BitVec 32) (k0_hw1 : k0_chk1 v1) (k0_t11 : Fin (k0_t11_loop v1).trips), (Rect.unit (s := S4x4096x128) (k0_off40 v1 k0_t11) S1x512x128.size (k0_off40_inb v1 k0_hw1 k0_t11)).PackedRows (EltTy.packing .fp8e4m3) := fun v1 k0_hw1 k0_t11 => k0_hw1.2.2.2.1.2.2.2.2.2.2.2.2.2.2.2.2.2.2.2.2.2.1 k0_t11 (k0_off40_inb v1 k0_hw1 k0_t11)
theorem k0_mult54_dvd : ∀ (v1 : BitVec 32) (k0_hw1 : k0_chk1 v1) (k0_t11 : Fin (k0_t11_loop v1).trips), 512 ∣ (k0_mult54 v1 k0_t11).toNat := fun v1 k0_hw1 k0_t11 => k0_hw1.2.2.2.1.2.2.2.2.2.2.2.2.2.2.2.2.2.2.2.2.2.2.1 k0_t11
theorem k0_mult55_dvd : ∀ (v1 : BitVec 32) (k0_hw1 : k0_chk1 v1) (k0_t11 : Fin (k0_t11_loop v1).trips), 512 ∣ (k0_mult55 v1 k0_t11).toNat := fun v1 k0_hw1 k0_t11 => k0_hw1.2.2.2.1.2.2.2.2.2.2.2.2.2.2.2.2.2.2.2.2.2.2.2.1 k0_t11
theorem k0_off41_inb : ∀ (v1 : BitVec 32) (k0_hw1 : k0_chk1 v1) (k0_t11 : Fin (k0_t11_loop v1).trips), ∀ a, (k0_off41 v1 k0_t11) a + S1x512x128.size a ≤ S4x4096x128.size a := fun v1 k0_hw1 k0_t11 => k0_hw1.2.2.2.1.2.2.2.2.2.2.2.2.2.2.2.2.2.2.2.2.2.2.2.2.1 k0_t11
theorem k0_off41_packedfp8e4m3 : ∀ (v1 : BitVec 32) (k0_hw1 : k0_chk1 v1) (k0_t11 : Fin (k0_t11_loop v1).trips), (Rect.unit (s := S4x4096x128) (k0_off41 v1 k0_t11) S1x512x128.size (k0_off41_inb v1 k0_hw1 k0_t11)).PackedRows (EltTy.packing .fp8e4m3) := fun v1 k0_hw1 k0_t11 => k0_hw1.2.2.2.1.2.2.2.2.2.2.2.2.2.2.2.2.2.2.2.2.2.2.2.2.2.1 k0_t11 (k0_off41_inb v1 k0_hw1 k0_t11)
theorem k0_mult56_dvd : ∀ (v1 : BitVec 32) (k0_hw1 : k0_chk1 v1) (k0_t11 : Fin (k0_t11_loop v1).trips), 512 ∣ (k0_mult56 v1 k0_t11).toNat := fun v1 k0_hw1 k0_t11 => k0_hw1.2.2.2.1.2.2.2.2.2.2.2.2.2.2.2.2.2.2.2.2.2.2.2.2.2.2.1 k0_t11
theorem k0_t12_ok : ∀ (v1 : BitVec 32) (k0_hw1 : k0_chk1 v1), (k0_t12_loop v1).OK := fun v1 k0_hw1 => k0_hw1.2.2.2.1.2.2.2.2.2.2.2.2.2.2.2.2.2.2.2.2.2.2.2.2.2.2.2.1
theorem k0_mult57_dvd : ∀ (v1 : BitVec 32) (k0_hw1 : k0_chk1 v1) (k0_t12 : Fin (k0_t12_loop v1).trips), 512 ∣ (k0_mult57 v1 k0_t12).toNat := fun v1 k0_hw1 k0_t12 => k0_hw1.2.2.2.1.2.2.2.2.2.2.2.2.2.2.2.2.2.2.2.2.2.2.2.2.2.2.2.2.1 k0_t12
theorem k0_off42_inb : ∀ (v1 : BitVec 32) (k0_hw1 : k0_chk1 v1) (k0_t12 : Fin (k0_t12_loop v1).trips), ∀ a, (k0_off42 v1 k0_t12) a + S1x512x1x128.size a ≤ S1x4096x8x128.size a := fun v1 k0_hw1 k0_t12 => k0_hw1.2.2.2.1.2.2.2.2.2.2.2.2.2.2.2.2.2.2.2.2.2.2.2.2.2.2.2.2.2.1 k0_t12
theorem k0_mult58_dvd : ∀ (v1 : BitVec 32) (k0_hw1 : k0_chk1 v1) (k0_t12 : Fin (k0_t12_loop v1).trips), 512 ∣ (k0_mult58 v1 k0_t12).toNat := fun v1 k0_hw1 k0_t12 => k0_hw1.2.2.2.1.2.2.2.2.2.2.2.2.2.2.2.2.2.2.2.2.2.2.2.2.2.2.2.2.2.2.1 k0_t12
theorem k0_off43_inb : ∀ (v1 : BitVec 32) (k0_hw1 : k0_chk1 v1) (k0_t12 : Fin (k0_t12_loop v1).trips), ∀ a, (k0_off43 v1 k0_t12) a + S1x512x1x128.size a ≤ S1x4096x8x128.size a := fun v1 k0_hw1 k0_t12 => k0_hw1.2.2.2.1.2.2.2.2.2.2.2.2.2.2.2.2.2.2.2.2.2.2.2.2.2.2.2.2.2.2.2.1 k0_t12
theorem k0_mult59_dvd : ∀ (v1 : BitVec 32) (k0_hw1 : k0_chk1 v1) (k0_t12 : Fin (k0_t12_loop v1).trips), 512 ∣ (k0_mult59 v1 k0_t12).toNat := fun v1 k0_hw1 k0_t12 => k0_hw1.2.2.2.1.2.2.2.2.2.2.2.2.2.2.2.2.2.2.2.2.2.2.2.2.2.2.2.2.2.2.2.2.1 k0_t12
theorem k0_off44_inb : ∀ (v1 : BitVec 32) (k0_hw1 : k0_chk1 v1) (k0_t12 : Fin (k0_t12_loop v1).trips), ∀ a, (k0_off44 v1 k0_t12) a + S1x512x1x128.size a ≤ S1x4096x8x128.size a := fun v1 k0_hw1 k0_t12 => k0_hw1.2.2.2.1.2.2.2.2.2.2.2.2.2.2.2.2.2.2.2.2.2.2.2.2.2.2.2.2.2.2.2.2.2.1 k0_t12
theorem k0_mult60_dvd : ∀ (v1 : BitVec 32) (k0_hw1 : k0_chk1 v1) (k0_t12 : Fin (k0_t12_loop v1).trips), 512 ∣ (k0_mult60 v1 k0_t12).toNat := fun v1 k0_hw1 k0_t12 => k0_hw1.2.2.2.1.2.2.2.2.2.2.2.2.2.2.2.2.2.2.2.2.2.2.2.2.2.2.2.2.2.2.2.2.2.2.1 k0_t12
theorem k0_off45_inb : ∀ (v1 : BitVec 32) (k0_hw1 : k0_chk1 v1) (k0_t12 : Fin (k0_t12_loop v1).trips), ∀ a, (k0_off45 v1 k0_t12) a + S1x512x1x128.size a ≤ S1x4096x8x128.size a := fun v1 k0_hw1 k0_t12 => k0_hw1.2.2.2.1.2.2.2.2.2.2.2.2.2.2.2.2.2.2.2.2.2.2.2.2.2.2.2.2.2.2.2.2.2.2.2 k0_t12
theorem k0_mult61_dvd : ∀ (v1 : BitVec 32) (k0_hw1 : k0_chk1 v1) (k0_t12 : Fin (k0_t12_loop v1).trips), 512 ∣ (k0_mult61 v1 k0_t12).toNat := fun v1 k0_hw1 k0_t12 => k0_hw1.2.2.2.2.1.1 k0_t12
theorem k0_mult62_dvd : ∀ (v1 : BitVec 32) (k0_hw1 : k0_chk1 v1) (k0_t12 : Fin (k0_t12_loop v1).trips), 512 ∣ (k0_mult62 v1 k0_t12).toNat := fun v1 k0_hw1 k0_t12 => k0_hw1.2.2.2.2.1.2.1 k0_t12
theorem k0_mult63_dvd : ∀ (v1 : BitVec 32) (k0_hw1 : k0_chk1 v1) (k0_t12 : Fin (k0_t12_loop v1).trips), 512 ∣ (k0_mult63 v1 k0_t12).toNat := fun v1 k0_hw1 k0_t12 => k0_hw1.2.2.2.2.1.2.2.1 k0_t12
theorem k0_mult64_dvd : ∀ (v1 : BitVec 32) (k0_hw1 : k0_chk1 v1) (k0_t12 : Fin (k0_t12_loop v1).trips), 512 ∣ (k0_mult64 v1 k0_t12).toNat := fun v1 k0_hw1 k0_t12 => k0_hw1.2.2.2.2.1.2.2.2.1 k0_t12
theorem k0_mult65_dvd : ∀ (v1 : BitVec 32) (k0_hw1 : k0_chk1 v1) (k0_t12 : Fin (k0_t12_loop v1).trips), 512 ∣ (k0_mult65 v1 k0_t12).toNat := fun v1 k0_hw1 k0_t12 => k0_hw1.2.2.2.2.1.2.2.2.2.1 k0_t12
theorem k0_off46_inb : ∀ (v1 : BitVec 32) (k0_hw1 : k0_chk1 v1) (k0_t12 : Fin (k0_t12_loop v1).trips), ∀ a, (k0_off46 v1 k0_t12) a + S1x512x128.size a ≤ S4x4096x128.size a := fun v1 k0_hw1 k0_t12 => k0_hw1.2.2.2.2.1.2.2.2.2.2.1 k0_t12
theorem k0_off46_packedfp8e4m3 : ∀ (v1 : BitVec 32) (k0_hw1 : k0_chk1 v1) (k0_t12 : Fin (k0_t12_loop v1).trips), (Rect.unit (s := S4x4096x128) (k0_off46 v1 k0_t12) S1x512x128.size (k0_off46_inb v1 k0_hw1 k0_t12)).PackedRows (EltTy.packing .fp8e4m3) := fun v1 k0_hw1 k0_t12 => k0_hw1.2.2.2.2.1.2.2.2.2.2.2.1 k0_t12 (k0_off46_inb v1 k0_hw1 k0_t12)
theorem k0_mult66_dvd : ∀ (v1 : BitVec 32) (k0_hw1 : k0_chk1 v1) (k0_t12 : Fin (k0_t12_loop v1).trips), 512 ∣ (k0_mult66 v1 k0_t12).toNat := fun v1 k0_hw1 k0_t12 => k0_hw1.2.2.2.2.1.2.2.2.2.2.2.2.1 k0_t12
theorem k0_mult67_dvd : ∀ (v1 : BitVec 32) (k0_hw1 : k0_chk1 v1) (k0_t12 : Fin (k0_t12_loop v1).trips), 512 ∣ (k0_mult67 v1 k0_t12).toNat := fun v1 k0_hw1 k0_t12 => k0_hw1.2.2.2.2.1.2.2.2.2.2.2.2.2.1 k0_t12
theorem k0_off47_inb : ∀ (v1 : BitVec 32) (k0_hw1 : k0_chk1 v1) (k0_t12 : Fin (k0_t12_loop v1).trips), ∀ a, (k0_off47 v1 k0_t12) a + S1x512x128.size a ≤ S4x4096x128.size a := fun v1 k0_hw1 k0_t12 => k0_hw1.2.2.2.2.1.2.2.2.2.2.2.2.2.2.1 k0_t12
theorem k0_off47_packedfp8e4m3 : ∀ (v1 : BitVec 32) (k0_hw1 : k0_chk1 v1) (k0_t12 : Fin (k0_t12_loop v1).trips), (Rect.unit (s := S4x4096x128) (k0_off47 v1 k0_t12) S1x512x128.size (k0_off47_inb v1 k0_hw1 k0_t12)).PackedRows (EltTy.packing .fp8e4m3) := fun v1 k0_hw1 k0_t12 => k0_hw1.2.2.2.2.1.2.2.2.2.2.2.2.2.2.2.1 k0_t12 (k0_off47_inb v1 k0_hw1 k0_t12)
theorem k0_mult68_dvd : ∀ (v1 : BitVec 32) (k0_hw1 : k0_chk1 v1) (k0_t12 : Fin (k0_t12_loop v1).trips), 512 ∣ (k0_mult68 v1 k0_t12).toNat := fun v1 k0_hw1 k0_t12 => k0_hw1.2.2.2.2.1.2.2.2.2.2.2.2.2.2.2.2.1 k0_t12
theorem k0_mult69_dvd : ∀ (v1 : BitVec 32) (k0_hw1 : k0_chk1 v1) (k0_t12 : Fin (k0_t12_loop v1).trips), 512 ∣ (k0_mult69 v1 k0_t12).toNat := fun v1 k0_hw1 k0_t12 => k0_hw1.2.2.2.2.1.2.2.2.2.2.2.2.2.2.2.2.2.1 k0_t12
theorem k0_off48_inb : ∀ (v1 : BitVec 32) (k0_hw1 : k0_chk1 v1) (k0_t12 : Fin (k0_t12_loop v1).trips), ∀ a, (k0_off48 v1 k0_t12) a + S1x512x128.size a ≤ S4x4096x128.size a := fun v1 k0_hw1 k0_t12 => k0_hw1.2.2.2.2.1.2.2.2.2.2.2.2.2.2.2.2.2.2.1 k0_t12
theorem k0_off48_packedfp8e4m3 : ∀ (v1 : BitVec 32) (k0_hw1 : k0_chk1 v1) (k0_t12 : Fin (k0_t12_loop v1).trips), (Rect.unit (s := S4x4096x128) (k0_off48 v1 k0_t12) S1x512x128.size (k0_off48_inb v1 k0_hw1 k0_t12)).PackedRows (EltTy.packing .fp8e4m3) := fun v1 k0_hw1 k0_t12 => k0_hw1.2.2.2.2.1.2.2.2.2.2.2.2.2.2.2.2.2.2.2.1 k0_t12 (k0_off48_inb v1 k0_hw1 k0_t12)
theorem k0_mult70_dvd : ∀ (v1 : BitVec 32) (k0_hw1 : k0_chk1 v1) (k0_t12 : Fin (k0_t12_loop v1).trips), 512 ∣ (k0_mult70 v1 k0_t12).toNat := fun v1 k0_hw1 k0_t12 => k0_hw1.2.2.2.2.1.2.2.2.2.2.2.2.2.2.2.2.2.2.2.2.1 k0_t12
theorem k0_mult71_dvd : ∀ (v1 : BitVec 32) (k0_hw1 : k0_chk1 v1) (k0_t12 : Fin (k0_t12_loop v1).trips), 512 ∣ (k0_mult71 v1 k0_t12).toNat := fun v1 k0_hw1 k0_t12 => k0_hw1.2.2.2.2.1.2.2.2.2.2.2.2.2.2.2.2.2.2.2.2.2.1 k0_t12
theorem k0_off49_inb : ∀ (v1 : BitVec 32) (k0_hw1 : k0_chk1 v1) (k0_t12 : Fin (k0_t12_loop v1).trips), ∀ a, (k0_off49 v1 k0_t12) a + S1x512x128.size a ≤ S4x4096x128.size a := fun v1 k0_hw1 k0_t12 => k0_hw1.2.2.2.2.1.2.2.2.2.2.2.2.2.2.2.2.2.2.2.2.2.2.1 k0_t12
theorem k0_off49_packedfp8e4m3 : ∀ (v1 : BitVec 32) (k0_hw1 : k0_chk1 v1) (k0_t12 : Fin (k0_t12_loop v1).trips), (Rect.unit (s := S4x4096x128) (k0_off49 v1 k0_t12) S1x512x128.size (k0_off49_inb v1 k0_hw1 k0_t12)).PackedRows (EltTy.packing .fp8e4m3) := fun v1 k0_hw1 k0_t12 => k0_hw1.2.2.2.2.1.2.2.2.2.2.2.2.2.2.2.2.2.2.2.2.2.2.2.1 k0_t12 (k0_off49_inb v1 k0_hw1 k0_t12)
theorem k0_mult72_dvd : ∀ (v1 : BitVec 32) (k0_hw1 : k0_chk1 v1) (k0_t12 : Fin (k0_t12_loop v1).trips), 512 ∣ (k0_mult72 v1 k0_t12).toNat := fun v1 k0_hw1 k0_t12 => k0_hw1.2.2.2.2.1.2.2.2.2.2.2.2.2.2.2.2.2.2.2.2.2.2.2.2.1 k0_t12
theorem k0_t13_ok : ∀ (v1 : BitVec 32) (k0_hw1 : k0_chk1 v1), (k0_t13_loop v1).OK := fun v1 k0_hw1 => k0_hw1.2.2.2.2.1.2.2.2.2.2.2.2.2.2.2.2.2.2.2.2.2.2.2.2.2.1
theorem k0_mult73_dvd : ∀ (v1 : BitVec 32) (k0_hw1 : k0_chk1 v1) (k0_t13 : Fin (k0_t13_loop v1).trips), 512 ∣ (k0_mult73 v1 k0_t13).toNat := fun v1 k0_hw1 k0_t13 => k0_hw1.2.2.2.2.1.2.2.2.2.2.2.2.2.2.2.2.2.2.2.2.2.2.2.2.2.2.1 k0_t13
theorem k0_off50_inb : ∀ (v1 : BitVec 32) (k0_hw1 : k0_chk1 v1) (k0_t13 : Fin (k0_t13_loop v1).trips), ∀ a, (k0_off50 v1 k0_t13) a + S1x512x128.size a ≤ S4x4096x128.size a := fun v1 k0_hw1 k0_t13 => k0_hw1.2.2.2.2.1.2.2.2.2.2.2.2.2.2.2.2.2.2.2.2.2.2.2.2.2.2.2.1 k0_t13
theorem k0_off51_inb : ∀ (v1 : BitVec 32) (k0_hw1 : k0_chk1 v1) (k0_t13 : Fin (k0_t13_loop v1).trips), ∀ a, (k0_off51 v1 k0_t13) a + S1x8x512.size a ≤ S1x8x4096.size a := fun v1 k0_hw1 k0_t13 => k0_hw1.2.2.2.2.1.2.2.2.2.2.2.2.2.2.2.2.2.2.2.2.2.2.2.2.2.2.2.2.1 k0_t13
theorem k0_t14_ok : ∀ (v1 : BitVec 32) (k0_hw1 : k0_chk1 v1), (k0_t14_loop v1).OK := fun v1 k0_hw1 => k0_hw1.2.2.2.2.1.2.2.2.2.2.2.2.2.2.2.2.2.2.2.2.2.2.2.2.2.2.2.2.2.1
theorem k0_mult74_dvd : ∀ (v1 : BitVec 32) (k0_hw1 : k0_chk1 v1) (k0_t14 : Fin (k0_t14_loop v1).trips), 512 ∣ (k0_mult74 v1 k0_t14).toNat := fun v1 k0_hw1 k0_t14 => k0_hw1.2.2.2.2.1.2.2.2.2.2.2.2.2.2.2.2.2.2.2.2.2.2.2.2.2.2.2.2.2.2.1 k0_t14
theorem k0_off52_inb : ∀ (v1 : BitVec 32) (k0_hw1 : k0_chk1 v1) (k0_t14 : Fin (k0_t14_loop v1).trips), ∀ a, (k0_off52 v1 k0_t14) a + S1x512x128.size a ≤ S4x4096x128.size a := fun v1 k0_hw1 k0_t14 => k0_hw1.2.2.2.2.1.2.2.2.2.2.2.2.2.2.2.2.2.2.2.2.2.2.2.2.2.2.2.2.2.2.2.1 k0_t14
theorem k0_off53_inb : ∀ (v1 : BitVec 32) (k0_hw1 : k0_chk1 v1) (k0_t14 : Fin (k0_t14_loop v1).trips), ∀ a, (k0_off53 v1 k0_t14) a + S1x8x512.size a ≤ S1x8x4096.size a := fun v1 k0_hw1 k0_t14 => k0_hw1.2.2.2.2.1.2.2.2.2.2.2.2.2.2.2.2.2.2.2.2.2.2.2.2.2.2.2.2.2.2.2.2.1 k0_t14
theorem k0_t15_ok : ∀ (v1 : BitVec 32) (k0_hw1 : k0_chk1 v1), (k0_t15_loop v1).OK := fun v1 k0_hw1 => k0_hw1.2.2.2.2.1.2.2.2.2.2.2.2.2.2.2.2.2.2.2.2.2.2.2.2.2.2.2.2.2.2.2.2.2.1
theorem k0_mult75_dvd : ∀ (v1 : BitVec 32) (k0_hw1 : k0_chk1 v1) (k0_t15 : Fin (k0_t15_loop v1).trips), 512 ∣ (k0_mult75 v1 k0_t15).toNat := fun v1 k0_hw1 k0_t15 => k0_hw1.2.2.2.2.1.2.2.2.2.2.2.2.2.2.2.2.2.2.2.2.2.2.2.2.2.2.2.2.2.2.2.2.2.2.1 k0_t15
theorem k0_off54_inb : ∀ (v1 : BitVec 32) (k0_hw1 : k0_chk1 v1) (k0_t15 : Fin (k0_t15_loop v1).trips), ∀ a, (k0_off54 v1 k0_t15) a + S1x512x128.size a ≤ S4x4096x128.size a := fun v1 k0_hw1 k0_t15 => k0_hw1.2.2.2.2.1.2.2.2.2.2.2.2.2.2.2.2.2.2.2.2.2.2.2.2.2.2.2.2.2.2.2.2.2.2.2.1 k0_t15
theorem k0_off55_inb : ∀ (v1 : BitVec 32) (k0_hw1 : k0_chk1 v1) (k0_t15 : Fin (k0_t15_loop v1).trips), ∀ a, (k0_off55 v1 k0_t15) a + S1x8x512.size a ≤ S1x8x4096.size a := fun v1 k0_hw1 k0_t15 => k0_hw1.2.2.2.2.1.2.2.2.2.2.2.2.2.2.2.2.2.2.2.2.2.2.2.2.2.2.2.2.2.2.2.2.2.2.2.2 k0_t15
theorem k0_t16_ok : ∀ (v1 : BitVec 32) (k0_hw1 : k0_chk1 v1), (k0_t16_loop v1).OK := fun v1 k0_hw1 => k0_hw1.2.2.2.2.2.1
theorem k0_mult76_dvd : ∀ (v1 : BitVec 32) (k0_hw1 : k0_chk1 v1) (k0_t16 : Fin (k0_t16_loop v1).trips), 512 ∣ (k0_mult76 v1 k0_t16).toNat := fun v1 k0_hw1 k0_t16 => k0_hw1.2.2.2.2.2.2.1 k0_t16
theorem k0_off56_inb : ∀ (v1 : BitVec 32) (k0_hw1 : k0_chk1 v1) (k0_t16 : Fin (k0_t16_loop v1).trips), ∀ a, (k0_off56 v1 k0_t16) a + S1x512x128.size a ≤ S4x4096x128.size a := fun v1 k0_hw1 k0_t16 => k0_hw1.2.2.2.2.2.2.2.1 k0_t16
theorem k0_off57_inb : ∀ (v1 : BitVec 32) (k0_hw1 : k0_chk1 v1) (k0_t16 : Fin (k0_t16_loop v1).trips), ∀ a, (k0_off57 v1 k0_t16) a + S1x8x512.size a ≤ S1x8x4096.size a := fun v1 k0_hw1 k0_t16 => k0_hw1.2.2.2.2.2.2.2.2.1 k0_t16
theorem k0_t17_ok : ∀ (v1 : BitVec 32) (k0_hw1 : k0_chk1 v1), (k0_t17_loop v1).OK := fun v1 k0_hw1 => k0_hw1.2.2.2.2.2.2.2.2.2.1
theorem k0_mult77_dvd : ∀ (v1 : BitVec 32) (k0_hw1 : k0_chk1 v1) (k0_t17 : Fin (k0_t17_loop v1).trips), 512 ∣ (k0_mult77 v1 k0_t17).toNat := fun v1 k0_hw1 k0_t17 => k0_hw1.2.2.2.2.2.2.2.2.2.2.1 k0_t17
theorem k0_off58_inb : ∀ (v1 : BitVec 32) (k0_hw1 : k0_chk1 v1) (k0_t17 : Fin (k0_t17_loop v1).trips), ∀ a, (k0_off58 v1 k0_t17) a + S1x512x128.size a ≤ S4x4096x128.size a := fun v1 k0_hw1 k0_t17 => k0_hw1.2.2.2.2.2.2.2.2.2.2.2.1 k0_t17
theorem k0_off59_inb : ∀ (v1 : BitVec 32) (k0_hw1 : k0_chk1 v1) (k0_t17 : Fin (k0_t17_loop v1).trips), ∀ a, (k0_off59 v1 k0_t17) a + S1x8x512.size a ≤ S1x8x4096.size a := fun v1 k0_hw1 k0_t17 => k0_hw1.2.2.2.2.2.2.2.2.2.2.2.2.1 k0_t17
theorem k0_t18_ok : ∀ (v1 : BitVec 32) (k0_hw1 : k0_chk1 v1), (k0_t18_loop v1).OK := fun v1 k0_hw1 => k0_hw1.2.2.2.2.2.2.2.2.2.2.2.2.2.1
theorem k0_mult78_dvd : ∀ (v1 : BitVec 32) (k0_hw1 : k0_chk1 v1) (k0_t18 : Fin (k0_t18_loop v1).trips), 512 ∣ (k0_mult78 v1 k0_t18).toNat := fun v1 k0_hw1 k0_t18 => k0_hw1.2.2.2.2.2.2.2.2.2.2.2.2.2.2.1 k0_t18
theorem k0_off60_inb : ∀ (v1 : BitVec 32) (k0_hw1 : k0_chk1 v1) (k0_t18 : Fin (k0_t18_loop v1).trips), ∀ a, (k0_off60 v1 k0_t18) a + S1x512x128.size a ≤ S4x4096x128.size a := fun v1 k0_hw1 k0_t18 => k0_hw1.2.2.2.2.2.2.2.2.2.2.2.2.2.2.2.1 k0_t18
theorem k0_off61_inb : ∀ (v1 : BitVec 32) (k0_hw1 : k0_chk1 v1) (k0_t18 : Fin (k0_t18_loop v1).trips), ∀ a, (k0_off61 v1 k0_t18) a + S1x8x512.size a ≤ S1x8x4096.size a := fun v1 k0_hw1 k0_t18 => k0_hw1.2.2.2.2.2.2.2.2.2.2.2.2.2.2.2.2.1 k0_t18
theorem k0_t19_ok : ∀ (v1 : BitVec 32) (k0_hw1 : k0_chk1 v1), (k0_t19_loop v1).OK := fun v1 k0_hw1 => k0_hw1.2.2.2.2.2.2.2.2.2.2.2.2.2.2.2.2.2.1
theorem k0_mult79_dvd : ∀ (v1 : BitVec 32) (k0_hw1 : k0_chk1 v1) (k0_t19 : Fin (k0_t19_loop v1).trips), 512 ∣ (k0_mult79 v1 k0_t19).toNat := fun v1 k0_hw1 k0_t19 => k0_hw1.2.2.2.2.2.2.2.2.2.2.2.2.2.2.2.2.2.2.1 k0_t19
theorem k0_off62_inb : ∀ (v1 : BitVec 32) (k0_hw1 : k0_chk1 v1) (k0_t19 : Fin (k0_t19_loop v1).trips), ∀ a, (k0_off62 v1 k0_t19) a + S1x512x128.size a ≤ S4x4096x128.size a := fun v1 k0_hw1 k0_t19 => k0_hw1.2.2.2.2.2.2.2.2.2.2.2.2.2.2.2.2.2.2.2.1 k0_t19
theorem k0_off63_inb : ∀ (v1 : BitVec 32) (k0_hw1 : k0_chk1 v1) (k0_t19 : Fin (k0_t19_loop v1).trips), ∀ a, (k0_off63 v1 k0_t19) a + S1x8x512.size a ≤ S1x8x4096.size a := fun v1 k0_hw1 k0_t19 => k0_hw1.2.2.2.2.2.2.2.2.2.2.2.2.2.2.2.2.2.2.2.2.1 k0_t19
theorem k0_t20_ok : ∀ (v1 : BitVec 32) (k0_hw1 : k0_chk1 v1), (k0_t20_loop v1).OK := fun v1 k0_hw1 => k0_hw1.2.2.2.2.2.2.2.2.2.2.2.2.2.2.2.2.2.2.2.2.2.1
theorem k0_mult80_dvd : ∀ (v1 : BitVec 32) (k0_hw1 : k0_chk1 v1) (k0_t20 : Fin (k0_t20_loop v1).trips), 512 ∣ (k0_mult80 v1 k0_t20).toNat := fun v1 k0_hw1 k0_t20 => k0_hw1.2.2.2.2.2.2.2.2.2.2.2.2.2.2.2.2.2.2.2.2.2.2.1 k0_t20
theorem k0_off64_inb : ∀ (v1 : BitVec 32) (k0_hw1 : k0_chk1 v1) (k0_t20 : Fin (k0_t20_loop v1).trips), ∀ a, (k0_off64 v1 k0_t20) a + S1x512x128.size a ≤ S4x4096x128.size a := fun v1 k0_hw1 k0_t20 => k0_hw1.2.2.2.2.2.2.2.2.2.2.2.2.2.2.2.2.2.2.2.2.2.2.2.1 k0_t20
theorem k0_off65_inb : ∀ (v1 : BitVec 32) (k0_hw1 : k0_chk1 v1) (k0_t20 : Fin (k0_t20_loop v1).trips), ∀ a, (k0_off65 v1 k0_t20) a + S1x8x512.size a ≤ S1x8x4096.size a := fun v1 k0_hw1 k0_t20 => k0_hw1.2.2.2.2.2.2.2.2.2.2.2.2.2.2.2.2.2.2.2.2.2.2.2.2 k0_t20

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x72x40x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x72x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x72x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x8x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x72x40x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | "scale_log2e" => some (((11863283 / 134217728) * (Real.log 2)⁻¹ : ℝ) : EReal)
  | _ => none
-- ==== ReferenceIdeal.lean ====
abbrev S32x72x40x128 : Shape := ⟨4, ![32, 72, 40, 128]⟩
abbrev S32x72x8x128 : Shape := ⟨4, ![32, 72, 8, 128]⟩
abbrev S32x4096x8x128 : Shape := ⟨4, ![32, 4096, 8, 128]⟩
abbrev S32x4096x8 : Shape := ⟨3, ![32, 4096, 8]⟩
abbrev S32 : Shape := ⟨1, ![32]⟩
abbrev S32x72x8x5x128 : Shape := ⟨5, ![32, 72, 8, 5, 128]⟩
abbrev S32x8x4096x72x5 : Shape := ⟨5, ![32, 8, 4096, 72, 5]⟩
abbrev S32x72x8x5x4096 : Shape := ⟨5, ![32, 72, 8, 5, 4096]⟩
abbrev S32x8x4096 : Shape := ⟨3, ![32, 8, 4096]⟩
abbrev S32x1x8x1x4096 : Shape := ⟨5, ![32, 1, 8, 1, 4096]⟩
abbrev S_ : Shape := ⟨0, ![]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S72x8x5x4096 : Shape := ⟨4, ![72, 8, 5, 4096]⟩
abbrev S32x8x72x72x5 : Shape := ⟨5, ![32, 8, 72, 72, 5]⟩
abbrev S32x72x8x5x72 : Shape := ⟨5, ![32, 72, 8, 5, 72]⟩
abbrev S72 : Shape := ⟨1, ![72]⟩
abbrev S72x1 : Shape := ⟨2, ![72, 1]⟩
abbrev S1x72 : Shape := ⟨2, ![1, 72]⟩
abbrev S72x72 : Shape := ⟨2, ![72, 72]⟩
abbrev S72x1x1x72 : Shape := ⟨4, ![72, 1, 1, 72]⟩
abbrev S72x8x5x72 : Shape := ⟨4, ![72, 8, 5, 72]⟩
abbrev S32x72x8x5 : Shape := ⟨4, ![32, 72, 8, 5]⟩
abbrev S32x72x8x5x1 : Shape := ⟨5, ![32, 72, 8, 5, 1]⟩
abbrev S32x8x128x72x5 : Shape := ⟨5, ![32, 8, 128, 72, 5]⟩
abbrev S72x8x5x128 : Shape := ⟨4, ![72, 8, 5, 128]⟩

abbrev nBuf : Space → Nat
  | .hbm => 102
  | .vmem => 4
  | .smem => 0
  | _ => 0

abbrev bufTy : (tb : Table) → Fin (tcTables nBuf tb) → BufTy
  | .hbm, ⟨0, _⟩ => ⟨S32x72x40x128, .bf16⟩
  | .hbm, ⟨1, _⟩ => ⟨S32x72x8x128, .bf16⟩
  | .hbm, ⟨2, _⟩ => ⟨S32x72x8x128, .bf16⟩
  | .hbm, ⟨3, _⟩ => ⟨S32x4096x8x128, .fp8e4m3⟩
  | .hbm, ⟨4, _⟩ => ⟨S32x4096x8x128, .fp8e4m3⟩
  | .hbm, ⟨5, _⟩ => ⟨S32x4096x8, .f32⟩
  | .hbm, ⟨6, _⟩ => ⟨S32x4096x8, .f32⟩
  | .hbm, ⟨7, _⟩ => ⟨S32, .i32⟩
  | .hbm, ⟨8, _⟩ => ⟨S32x72x8x5x128, .bf16⟩
  | .hbm, ⟨9, _⟩ => ⟨S32x4096x8x128, .bf16⟩
  | .hbm, ⟨10, _⟩ => ⟨S32x4096x8x128, .bf16⟩
  | .hbm, ⟨11, _⟩ => ⟨S32x8x4096x72x5, .f32⟩
  | .hbm, ⟨12, _⟩ => ⟨S32x72x8x5x4096, .f32⟩
  | .hbm, ⟨13, _⟩ => ⟨S32x8x4096, .f32⟩
  | .hbm, ⟨14, _⟩ => ⟨S32x1x8x1x4096, .f32⟩
  | .hbm, ⟨15, _⟩ => ⟨S32x72x8x5x4096, .f32⟩
  | .hbm, ⟨16, _⟩ => ⟨S32x72x8x5x4096, .f32⟩
  | .hbm, ⟨17, _⟩ => ⟨S_, .f32⟩
  | .hbm, ⟨18, _⟩ => ⟨S32x72x8x5x4096, .f32⟩
  | .hbm, ⟨19, _⟩ => ⟨S32x72x8x5x4096, .f32⟩
  | .hbm, ⟨20, _⟩ => ⟨S4096, .i32⟩
  | .hbm, ⟨21, _⟩ => ⟨S1x4096, .i32⟩
  | .hbm, ⟨22, _⟩ => ⟨S32x1, .i32⟩
  | .hbm, ⟨23, _⟩ => ⟨S32x4096, .i32⟩
  | .hbm, ⟨24, _⟩ => ⟨S32x4096, .i32⟩
  | .hbm, ⟨25, _⟩ => ⟨S32x4096, .i1⟩
  | .hbm, ⟨26, _⟩ => ⟨S_, .f32⟩
  | .hbm, ⟨27, _⟩ => ⟨S_, .f32⟩
  | .hbm, ⟨28, _⟩ => ⟨S32x72x8x5x4096, .i1⟩
  | .hbm, ⟨29, _⟩ => ⟨S72x8x5x4096, .f32⟩
  | .hbm, ⟨30, _⟩ => ⟨S32x72x8x5x4096, .f32⟩
  | .hbm, ⟨31, _⟩ => ⟨S32x72x8x5x4096, .f32⟩
  | .hbm, ⟨32, _⟩ => ⟨S32x8x72x72x5, .f32⟩
  | .hbm, ⟨33, _⟩ => ⟨S32x72x8x5x72, .f32⟩
  | .hbm, ⟨34, _⟩ => ⟨S_, .f32⟩
  | .hbm, ⟨35, _⟩ => ⟨S32x72x8x5x72, .f32⟩
  | .hbm, ⟨36, _⟩ => ⟨S32x72x8x5x72, .f32⟩
  | .hbm, ⟨37, _⟩ => ⟨S72, .i32⟩
  | .hbm, ⟨38, _⟩ => ⟨S72x1, .i32⟩
  | .hbm, ⟨39, _⟩ => ⟨S72, .i32⟩
  | .hbm, ⟨40, _⟩ => ⟨S1x72, .i32⟩
  | .hbm, ⟨41, _⟩ => ⟨S72x72, .i32⟩
  | .hbm, ⟨42, _⟩ => ⟨S72x72, .i32⟩
  | .hbm, ⟨43, _⟩ => ⟨S72x72, .i1⟩
  | .hbm, ⟨44, _⟩ => ⟨S72x1x1x72, .i1⟩
  | .hbm, ⟨45, _⟩ => ⟨S_, .f32⟩
  | .hbm, ⟨46, _⟩ => ⟨S_, .f32⟩
  | .hbm, ⟨47, _⟩ => ⟨S72x8x5x72, .i1⟩
  | .hbm, ⟨48, _⟩ => ⟨S72x8x5x72, .f32⟩
  | .hbm, ⟨49, _⟩ => ⟨S32x72x8x5x72, .i1⟩
  | .hbm, ⟨50, _⟩ => ⟨S32x72x8x5x72, .f32⟩
  | .hbm, ⟨51, _⟩ => ⟨S32x72x8x5x72, .f32⟩
  | .hbm, ⟨52, _⟩ => ⟨S_, .f32⟩
  | .hbm, ⟨53, _⟩ => ⟨S32x72x8x5, .f32⟩
  | .hbm, ⟨54, _⟩ => ⟨S32x72x8x5x1, .f32⟩
  | .hbm, ⟨55, _⟩ => ⟨S_, .f32⟩
  | .hbm, ⟨56, _⟩ => ⟨S32x72x8x5, .f32⟩
  | .hbm, ⟨57, _⟩ => ⟨S32x72x8x5x1, .f32⟩
  | .hbm, ⟨58, _⟩ => ⟨S32x72x8x5x1, .f32⟩
  | .hbm, ⟨59, _⟩ => ⟨S32x72x8x5x4096, .f32⟩
  | .hbm, ⟨60, _⟩ => ⟨S32x72x8x5x4096, .f32⟩
  | .hbm, ⟨61, _⟩ => ⟨S32x72x8x5x4096, .f32⟩
  | .hbm, ⟨62, _⟩ => ⟨S32x72x8x5x72, .f32⟩
  | .hbm, ⟨63, _⟩ => ⟨S32x72x8x5x72, .f32⟩
  | .hbm, ⟨64, _⟩ => ⟨S32x72x8x5x72, .f32⟩
  | .hbm, ⟨65, _⟩ => ⟨S_, .f32⟩
  | .hbm, ⟨66, _⟩ => ⟨S32x72x8x5, .f32⟩
  | .hbm, ⟨67, _⟩ => ⟨S32x72x8x5x1, .f32⟩
  | .hbm, ⟨68, _⟩ => ⟨S_, .f32⟩
  | .hbm, ⟨69, _⟩ => ⟨S32x72x8x5, .f32⟩
  | .hbm, ⟨70, _⟩ => ⟨S32x72x8x5x1, .f32⟩
  | .hbm, ⟨71, _⟩ => ⟨S32x72x8x5x1, .f32⟩
  | .hbm, ⟨72, _⟩ => ⟨S32x72x8x5x4096, .f32⟩
  | .hbm, ⟨73, _⟩ => ⟨S32x72x8x5x4096, .f32⟩
  | .hbm, ⟨74, _⟩ => ⟨S32x8x4096, .f32⟩
  | .hbm, ⟨75, _⟩ => ⟨S32x1x8x1x4096, .f32⟩
  | .hbm, ⟨76, _⟩ => ⟨S32x72x8x5x4096, .f32⟩
  | .hbm, ⟨77, _⟩ => ⟨S32x72x8x5x4096, .f32⟩
  | .hbm, ⟨78, _⟩ => ⟨S32x72x8x5x4096, .bf16⟩
  | .hbm, ⟨79, _⟩ => ⟨S32x72x8x5x72, .f32⟩
  | .hbm, ⟨80, _⟩ => ⟨S32x72x8x5x72, .f32⟩
  | .hbm, ⟨81, _⟩ => ⟨S32x72x8x5x72, .bf16⟩
  | .hbm, ⟨82, _⟩ => ⟨S32x8x128x72x5, .f32⟩
  | .hbm, ⟨83, _⟩ => ⟨S32x72x8x5x128, .f32⟩
  | .hbm, ⟨84, _⟩ => ⟨S32x8x128x72x5, .f32⟩
  | .hbm, ⟨85, _⟩ => ⟨S32x72x8x5x128, .f32⟩
  | .hbm, ⟨86, _⟩ => ⟨S_, .f32⟩
  | .hbm, ⟨87, _⟩ => ⟨S32x72x8x5x1, .f32⟩
  | .hbm, ⟨88, _⟩ => ⟨S32x72x8x5x1, .i1⟩
  | .hbm, ⟨89, _⟩ => ⟨S_, .f32⟩
  | .hbm, ⟨90, _⟩ => ⟨S32x72x8x5x1, .f32⟩
  | .hbm, ⟨91, _⟩ => ⟨S32x72x8x5x1, .i1⟩
  | .hbm, ⟨92, _⟩ => ⟨S32x72x8x5x1, .i1⟩
  | .hbm, ⟨93, _⟩ => ⟨S32x72x8x5x128, .f32⟩
  | .hbm, ⟨94, _⟩ => ⟨S_, .f32⟩
  | .hbm, ⟨95, _⟩ => ⟨S_, .f32⟩
  | .hbm, ⟨96, _⟩ => ⟨S32x72x8x5x128, .i1⟩
  | .hbm, ⟨97, _⟩ => ⟨S72x8x5x128, .f32⟩
  | .hbm, ⟨98, _⟩ => ⟨S32x72x8x5x128, .f32⟩
  | .hbm, ⟨99, _⟩ => ⟨S32x72x8x5x128, .f32⟩
  | .hbm, ⟨100, _⟩ => ⟨S32x72x8x5x128, .bf16⟩
  | .hbm, ⟨101, _⟩ => ⟨S32x72x40x128, .bf16⟩
  | .local _ .vmem, ⟨0, _⟩ => ⟨S32x4096x8x128, .fp8e4m3⟩
  | .local _ .vmem, ⟨1, _⟩ => ⟨S32x4096x8x128, .fp8e4m3⟩
  | .local _ .vmem, ⟨2, _⟩ => ⟨S32x4096x8x128, .bf16⟩
  | .local _ .vmem, ⟨3, _⟩ => ⟨S32x4096x8x128, .bf16⟩
  | _, _ => ⟨S32x72x40x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x4096x8x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x4096x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x4096x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4096x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Model.lean ====
/- The attention kernel's body as ONE program with the head as a parameter.

   The printed body writes eight heads out one after the other, each with its own loop over the chunks of the cache.
   Here a head is one definition, `head h`, the two fills of the scratch copies another, and the body is their sequence.
   Nothing here depends on which arithmetic is used, on the signature of the program the memories belong to, or on
   what the two float constants are. -/
module

public import Idealize.ShloMosaic.Lib.Pipeline
public import Idealize.ShloMosaic.Lib.Scf
public import Idealize.ShloMosaic.Lib.Sig
public import Idealize.ShloMosaic.PureOps
public import Idealize.ShloMosaic.PureOps.Ideal

@[expose] public section

noncomputable section

namespace Cert.Gqa

open Idealize.ShloMosaic Idealize.SL.Sem

/-! ## Shapes -/

abbrev S1 : Shape := ⟨1, ![1]⟩
abbrev S32 : Shape := ⟨1, ![32]⟩
abbrev S360 : Shape := ⟨1, ![360]⟩
abbrev S1x128 : Shape := ⟨2, ![1, 128]⟩
abbrev S1x512 : Shape := ⟨2, ![1, 512]⟩
abbrev S8x128 : Shape := ⟨2, ![8, 128]⟩
abbrev S8x512 : Shape := ⟨2, ![8, 512]⟩
abbrev S8x128x1 : Shape := ⟨3, ![8, 128, 1]⟩
abbrev S72x72 : Shape := ⟨2, ![72, 72]⟩
abbrev S72x128 : Shape := ⟨2, ![72, 128]⟩
abbrev S360x1 : Shape := ⟨2, ![360, 1]⟩
abbrev S360x72 : Shape := ⟨2, ![360, 72]⟩
abbrev S360x128 : Shape := ⟨2, ![360, 128]⟩
abbrev S360x512 : Shape := ⟨2, ![360, 512]⟩
abbrev S512x128 : Shape := ⟨2, ![512, 128]⟩
abbrev S1x512x128 : Shape := ⟨3, ![1, 512, 128]⟩
abbrev S1x8x512 : Shape := ⟨3, ![1, 8, 512]⟩
abbrev S1x8x4096 : Shape := ⟨3, ![1, 8, 4096]⟩
abbrev S4x4096x128 : Shape := ⟨3, ![4, 4096, 128]⟩
abbrev S16x4x8x128 : Shape := ⟨4, ![16, 4, 8, 128]⟩
abbrev S16x8x4x128 : Shape := ⟨4, ![16, 8, 4, 128]⟩
abbrev S1x512x1x128 : Shape := ⟨4, ![1, 512, 1, 128]⟩
abbrev S1x72x1x128 : Shape := ⟨4, ![1, 72, 1, 128]⟩
abbrev S1x72x2x128 : Shape := ⟨4, ![1, 72, 2, 128]⟩
abbrev S1x72x8x128 : Shape := ⟨4, ![1, 72, 8, 128]⟩
abbrev S1x72x40x128 : Shape := ⟨4, ![1, 72, 40, 128]⟩
abbrev S1x4096x8x128 : Shape := ⟨4, ![1, 4096, 8, 128]⟩

/-- Queries by keys: `(row, d) (token, d) ↦ (row, token)`, against the step's 72 new tokens. -/
def dotNew : DotDims S360x128 S72x128 S360x72 where
  lhsContracting := [1]
  rhsContracting := [1]
  lhsNonContracting := [0]
  rhsNonContracting := [0]
  lhsBatch := []
  rhsBatch := []
/-- Weights by values, over the step's 72 new tokens. -/
def dotNewV : DotDims S360x72 S72x128 S360x128 where
  lhsContracting := [1]
  rhsContracting := [0]
  lhsNonContracting := [0]
  rhsNonContracting := [1]
  lhsBatch := []
  rhsBatch := []
/-- Queries by keys, against a chunk of 512 cached tokens. -/
def dotOld : DotDims S360x128 S512x128 S360x512 where
  lhsContracting := [1]
  rhsContracting := [1]
  lhsNonContracting := [0]
  rhsNonContracting := [0]
  lhsBatch := []
  rhsBatch := []
/-- Weights by values, over a chunk of 512 cached tokens. -/
def dotOldV : DotDims S360x512 S512x128 S360x128 where
  lhsContracting := [1]
  rhsContracting := [0]
  lhsNonContracting := [0]
  rhsNonContracting := [1]
  lhsBatch := []
  rhsBatch := []

/-! ## Where the blocks lie -/

/-- Head row `n` of a `1×72×40×128` block. -/
theorem inb40 {n : Nat} (h : n < 40) : ∀ a, (![0, 0, n, 0] : Fin 4 → Nat) a + S1x72x1x128.size a ≤ S1x72x40x128.size a := by
  intro a; fin_cases a <;> simp <;> omega
/-- Head row `n` of a `1×72×8×128` block. -/
theorem inb8 {n : Nat} (h : n < 8) : ∀ a, (![0, 0, n, 0] : Fin 4 → Nat) a + S1x72x1x128.size a ≤ S1x72x8x128.size a := by
  intro a; fin_cases a <;> simp <;> omega
/-- The pair of head rows that holds row `n`. -/
theorem inbPair {n : Nat} (h : n < 40) :
    ∀ a, (![0, 0, 2 * (n / 2), 0] : Fin 4 → Nat) a + S1x72x2x128.size a ≤ S1x72x40x128.size a := by
  intro a; fin_cases a <;> simp <;> omega
theorem packedPair {n : Nat} (h : n < 40) :
    (Rect.unit (s := S1x72x40x128) ![0, 0, 2 * (n / 2), 0] S1x72x2x128.size (inbPair h)).PackedRows (EltTy.packing .bf16) := by
  refine Or.inr ⟨by decide, rfl, Or.inl ⟨?_, ?_⟩⟩
  · exact Dvd.intro _ rfl
  · exact (by decide : 2 ∣ 2)
theorem slicesPair (n : Nat) : S1x72x2x128.Slices ![0, 0, n % 2, 0] S1x72x1x128 := by
  refine ⟨rfl, fun a => ?_⟩
  have := Nat.mod_lt n (show 0 < 2 by decide)
  fin_cases a <;> simp <;> omega
/-- Row `h` of an `8×512` block. -/
theorem slicesRow {h : Nat} (hh : h < 8) : S8x512.Slices ![h, 0] S1x512 := by
  refine ⟨rfl, fun a => ?_⟩
  fin_cases a <;> simp <;> omega
/-- Group `g` of the 360 rows. -/
theorem slicesGroup {g : Nat} (hg : g < 5) : S360x128.Slices ![72 * g, 0] S72x128 := by
  refine ⟨rfl, fun a => ?_⟩
  fin_cases a <;> simp <;> omega

/-- The first token of chunk `a`, a word, as an offset. -/
abbrev tok (a : BitVec 32) : Nat := (Scalar.indexCast (Scalar.muli a 512#32)).toNat

/-- Chunk `a` lies in the cache: it begins at one of the eight multiples of 512 below 4096. -/
def Fits (a : BitVec 32) : Prop := tok a + 512 ≤ 4096 ∧ 512 ∣ tok a

theorem inbChunk {n : Nat} {a : BitVec 32} (hn : n < 4) (h : Fits a) :
    ∀ x, (![n, tok a, 0] : Fin 3 → Nat) x + S1x512x128.size x ≤ S4x4096x128.size x := by
  have := h.1
  intro x; fin_cases x <;> simp <;> omega
theorem packedChunk {n : Nat} {a : BitVec 32} (hn : n < 4) (h : Fits a) :
    (Rect.unit (s := S4x4096x128) ![n, tok a, 0] S1x512x128.size (inbChunk hn h)).PackedRows (EltTy.packing .fp8e4m3) := by
  refine Or.inr ⟨by decide, rfl, Or.inl ⟨?_, ?_⟩⟩
  · exact Dvd.dvd.trans (by decide) h.2
  · exact (by decide : 4 ∣ 512)
theorem inbScale {a : BitVec 32} (h : Fits a) :
    ∀ x, (![0, 0, tok a] : Fin 3 → Nat) x + S1x8x512.size x ≤ S1x8x4096.size x := by
  have := h.1
  intro x; fin_cases x <;> simp <;> omega
theorem inbCache {n : Nat} {a : BitVec 32} (hn : n < 8) (h : Fits a) :
    ∀ x, (![0, tok a, n, 0] : Fin 4 → Nat) x + S1x512x1x128.size x ≤ S1x4096x8x128.size x := by
  have := h.1
  intro x; fin_cases x <;> simp <;> omega

theorem h_chunk : 0 < S1x512x128.numel := by decide
theorem h_scale : 0 < S1x8x512.numel := by decide
theorem h_rows : 0 < S360x128.numel := by decide
theorem h_one : 0 < S1x72x1x128.numel := by decide
theorem h_pair : 0 < S1x72x2x128.numel := by decide
theorem h_cache : 0 < S1x512x1x128.numel := by decide
theorem concatScale : Shape.Concatenates [S8x128, S8x128, S8x128, S8x128] S8x512 1 := by decide
theorem concatRows : Shape.Concatenates [S72x128, S72x128, S72x128, S72x128, S72x128] S360x128 0 := by decide
theorem numel1 : S1.numel = 1 := by decide
theorem inbRows : ∀ a, (![0, 0] : Fin 2 → Nat) a + S360x128.size a ≤ S360x128.size a := by decide

/-! ## The pure values -/

section Pure
variable {F : FTy → Type} [FloatOps F]

/-- `lane & ~31 + (lane & 3) << 3 + (lane & 31) >> 2`: the token of a chunk that lies at each lane. -/
def tokIn : IVec S1x512 32 :=
  let v4 : IVec S1x512 32 := iota .tc S1x512 32 [1] (by decide)
  addi (addi (andi v4 (broadcast S1x512 4294967264#32)) (shli (andi v4 (broadcast S1x512 3#32)) (broadcast S1x512 3#32)))
    (shrsi (andi v4 (broadcast S1x512 31#32)) (broadcast S1x512 2#32))

/-- The same tokens of the first 128 lanes, on each of eight rows. -/
def perm : IVec S8x128 32 :=
  broadcastTo S8x128 (shapeCast S1x128 (extractStridedSlice S1x128 ![0, 0] tokIn (by decide)) (by decide)) (by decide)

/-- `perm` with negative entries wrapped (there are none). -/
def permWrapped : IVec S8x128 32 :=
  select (cmpi .slt perm (broadcast S8x128 0#32)) (addi perm (broadcast S8x128 128#32)) perm

/-- 128 lanes of the scales in the order of `perm`. -/
def permute128 (a : FVec F S8x128 .f32) : FVec F S8x128 .f32 :=
  dynamicGather 1 a (shapeCast S8x128 (shapeCast S8x128x1 permWrapped (by decide)) (by decide))

/-- A chunk's scales in the order in which its tokens lie, the four blocks of 128 lanes one by one. -/
def permuteScale (a : FVec F S8x512 .f32) : FVec F S8x512 .f32 :=
  concatenate S8x512 1 [
    ⟨S8x128, permute128 (extractStridedSlice S8x128 ![0, 0] a (by decide))⟩,
    ⟨S8x128, permute128 (extractStridedSlice S8x128 ![0, 128] a (by decide))⟩,
    ⟨S8x128, permute128 (extractStridedSlice S8x128 ![0, 256] a (by decide))⟩,
    ⟨S8x128, permute128 (extractStridedSlice S8x128 ![0, 384] a (by decide))⟩] concatScale

/-- Head `h`'s scales of a chunk, in the order in which its tokens lie. -/
def scaleRow (h : Nat) (hh : h < 8) (a : Vec F S1x8x512 .f32) : FVec F S1x512 .f32 :=
  extractStridedSlice S1x512 ![h, 0] (permuteScale (shapeCast S8x512 a (by decide))) (slicesRow hh)

/-- The tokens of one head of a chunk of the cache, in the order of `tokIn`. -/
def deinterleave (a : Vec F S1x512x1x128 .fp8e4m3) : Vec F S1x512x128 .fp8e4m3 :=
  shapeCast S1x512x128 (shapeCast S512x128 (transpose S16x8x4x128 [0, 2, 1, 3]
    (shapeCast S16x4x8x128 (shapeCast S512x128 a (by decide)) (by decide)) (by decide)) (by decide)) (by decide)

/-- The causal mask over the step's own tokens. -/
def causal : IVec S72x72 1 := cmpi .sge (iota .tc S72x72 32 [0] (by decide)) (iota .tc S72x72 32 [1] (by decide))
/-- The causal mask for all five groups of rows. -/
def causal5 : IVec S360x72 1 :=
  concatenate S360x72 0 [⟨S72x72, causal⟩, ⟨S72x72, causal⟩, ⟨S72x72, causal⟩, ⟨S72x72, causal⟩, ⟨S72x72, causal⟩] (by decide)

/-- A head's 360 query rows: its five groups of 72, one under the other. -/
def queries (a0 a1 a2 a3 a4 : Vec F S1x72x1x128 .bf16) : FVec F S360x128 .bf16 :=
  concatenate S360x128 0 [⟨S72x128, shapeCast S72x128 a0 (by decide)⟩, ⟨S72x128, shapeCast S72x128 a1 (by decide)⟩,
    ⟨S72x128, shapeCast S72x128 a2 (by decide)⟩, ⟨S72x128, shapeCast S72x128 a3 (by decide)⟩,
    ⟨S72x128, shapeCast S72x128 a4 (by decide)⟩] concatRows

/-- The scores against the new tokens. -/
def newScores (c mask : F .f32) (q : FVec F S360x128 .bf16) (kn : Vec F S1x72x1x128 .bf16) : FVec F S360x72 .f32 :=
  select causal5
    (mulf (matmul dotNew none q (shapeCast S72x128 kn (by decide)) (constant S360x72 .f32 0x00000000#32)) (broadcast S360x72 c))
    (broadcast S360x72 mask)
/-- Their row maxima. -/
def newMax (s : FVec F S360x72 .f32) : FVec F S360x1 .f32 :=
  shapeCast S360x1 (multiReduction .maximumf [1] S360 s 0xFF800000#32 (by decide) (.inl rfl) rfl) (by decide)
/-- Their weights. -/
def newWeights (s : FVec F S360x72 .f32) : FVec F S360x72 .f32 :=
  exp2 (subf s (broadcastTo S360x72 (newMax s) (by decide)))
/-- What `m_sc` begins at. -/
def startM (s : FVec F S360x72 .f32) : FVec F S360x128 .f32 :=
  shapeCast S360x128 (broadcastTo S360x128 (shapeCast S360x1 (newMax s) (by decide)) (by decide)) (by decide)
/-- What `l_sc` begins at. -/
def startL (s : FVec F S360x72 .f32) : FVec F S360x128 .f32 :=
  shapeCast S360x128 (broadcastTo S360x128 (shapeCast S360x1 (shapeCast S360x1
    (multiReduction .add [1] S360 (newWeights s) 0x00000000#32 (by decide) (.inl rfl) rfl) (by decide)) (by decide))
    (by decide)) (by decide)
/-- What `acc_sc` begins at. -/
def startA (s : FVec F S360x72 .f32) (vn : Vec F S1x72x1x128 .bf16) : FVec F S360x128 .f32 :=
  shapeCast S360x128 (matmul dotNewV none (truncf .bf16 (newWeights s) (by decide)) (shapeCast S72x128 vn (by decide))
    (constant S360x128 .f32 0x00000000#32)) (by decide)

/-- The scores against a chunk of the cache, the tokens from the valid length on masked. -/
def oldScores (c mask : F .f32) (h : Nat) (hh : h < 8) (q : FVec F S360x128 .bf16) (v1 a : BitVec 32)
    (k : Vec F S1x512x128 .fp8e4m3) (ks : Vec F S1x8x512 .f32) : FVec F S360x512 .f32 :=
  select
    (broadcastTo S360x512 (shapeCast S1x512 (cmpi .slt (addi (broadcast S1x512 (Scalar.muli a 512#32)) tokIn)
      (broadcast S1x512 v1)) (by decide)) (by decide))
    (mulf (matmul dotOld none q (shapeCast S512x128 k (by decide)) (constant S360x512 .f32 0x00000000#32))
      (broadcastTo S360x512 (mulf (scaleRow h hh ks) (broadcast S1x512 c)) (by decide)))
    (broadcast S360x512 mask)
/-- The new row maxima. -/
def stepM (m : Vec F S360x128 .f32) (s : FVec F S360x512 .f32) : FVec F S360x128 .f32 :=
  maximumf m (broadcastTo S360x128 (shapeCast S360x1
    (multiReduction .maximumf [1] S360 s 0xFF800000#32 (by decide) (.inl rfl) rfl) (by decide)) (by decide))
/-- The factor the old sums are scaled by. -/
def stepAlpha (m : Vec F S360x128 .f32) (s : FVec F S360x512 .f32) : FVec F S360x128 .f32 := exp2 (subf m (stepM m s))
/-- The chunk's weights. -/
def stepP (m : Vec F S360x128 .f32) (s : FVec F S360x512 .f32) : FVec F S360x512 .f32 :=
  exp2 (subf s (broadcastTo S360x512 (extractStridedSlice S360x1 ![0, 0] (stepM m s) (by decide)) (by decide)))
/-- The new sums of weights. -/
def stepL (m l : Vec F S360x128 .f32) (s : FVec F S360x512 .f32) : FVec F S360x128 .f32 :=
  addf (mulf l (stepAlpha m s)) (broadcastTo S360x128 (shapeCast S360x1
    (multiReduction .add [1] S360 (stepP m s) 0x00000000#32 (by decide) (.inl rfl) rfl) (by decide)) (by decide))
/-- The new weighted sums of values. -/
def stepA (h : Nat) (hh : h < 8) (m acc : Vec F S360x128 .f32) (s : FVec F S360x512 .f32) (v : Vec F S1x512x128 .fp8e4m3)
    (vs : Vec F S1x8x512 .f32) : FVec F S360x128 .f32 :=
  addf (mulf acc (stepAlpha m s)) (matmul dotOldV none
    (truncf .bf16 (mulf (stepP m s) (broadcastTo S360x512 (scaleRow h hh vs) (by decide))) (by decide))
    (shapeCast S512x128 v (by decide)) (constant S360x128 .f32 0x00000000#32))

/-- A head's output rows. -/
def outRows (acc l : Vec F S360x128 .f32) : FVec F S360x128 .bf16 := truncf .bf16 (divf acc l) (by decide)
/-- Group `g` of them. -/
def outGroup (g : Nat) (hg : g < 5) (o : FVec F S360x128 .bf16) : FVec F S1x72x1x128 .bf16 :=
  shapeCast S1x72x1x128 (extractStridedSlice S72x128 ![72 * g, 0] o (slicesGroup hg)) (by decide)
end Pure

/-! ## The loops' bounds -/

/-- `⌈v1 / 512⌉`, as the kernel computes it. -/
def chunks (v1 : BitVec 32) : BitVec 32 := Scalar.divsi (Scalar.addi v1 511#32) 512#32
/-- Where the main loop ends. -/
def mainEnd (v1 : BitVec 32) : BitVec 32 :=
  Scalar.addi 0#32 (Scalar.muli (Scalar.divsi (Scalar.subi (chunks v1) 0#32) 1#32) 1#32)
/-- The loop over the chunks. -/
@[reducible] def mainLoop (v1 : BitVec 32) : Scf.Loop 32 := ⟨0#32, mainEnd v1, 1#32⟩
/-- The rest of it: no trips. -/
@[reducible] def restLoop (v1 : BitVec 32) : Scf.Loop 32 := ⟨mainEnd v1, Scalar.addi 0#32 (Scalar.subi (chunks v1) 0#32), 1#32⟩

/-- What the body assumes of the length it reads: both loops have a meaning, every trip's chunk lies in the cache. -/
structure Ok (v1 : BitVec 32) : Prop where
  main : (mainLoop v1).OK
  rest : (restLoop v1).OK
  fits : ∀ k : Fin (mainLoop v1).trips, Fits (Scf.iv 0#32 1#32 k)
  fitsRest : ∀ k : Fin (restLoop v1).trips, Fits (Scf.iv (mainEnd v1) 1#32 k)

/-! ## The program -/

section Program
variable {nD : Nat} {τ : Topo} {sig : RefSig} {Λ : Labels} {F : FTy → Type} [FloatOps F]
variable (c mask : F .f32)
variable (arg2 : Memref sig .tc .vmem S1x72x40x128 .bf16) (arg3 arg4 : Memref sig .tc .vmem S1x72x8x128 .bf16)
  (arg5 arg6 : Memref sig .tc .vmem S1x4096x8x128 .fp8e4m3) (arg7 arg8 : Memref sig .tc .vmem S1x8x4096 .f32)
  (arg9 : Memref sig .tc .vmem S1x72x40x128 .bf16) (harg9 : arg9.IsWhole)
  (arg10 : Memref sig .tc .vmem S4x4096x128 .fp8e4m3) (harg10 : arg10.IsWhole)
  (arg11 : Memref sig .tc .vmem S4x4096x128 .fp8e4m3) (harg11 : arg11.IsWhole)
  (arg12 arg13 arg14 : Memref sig .tc .vmem S360x128 .f32)

/-- One trip of the fill: four heads' tokens of chunk `a`, keys and values, into the scratch copies. -/
def fillBody (row : Nat) (hrow : row < 2) (a : BitVec 32) (ha : Fits a) : Prog (TpuEff nD τ sig (Elt F) Λ .tc) (BitVec 32) := do
  let k0 : Vec F S1x512x1x128 .fp8e4m3 ← Prog.lift (.load arg5 (Rect.unit (s := S1x4096x8x128) ![0, tok a, 4 * row, 0] S1x512x1x128.size (inbCache (by omega) ha)).toLoadRect (View.loadsAt_vmem h_cache))
  let k1 : Vec F S1x512x1x128 .fp8e4m3 ← Prog.lift (.load arg5 (Rect.unit (s := S1x4096x8x128) ![0, tok a, 4 * row + 1, 0] S1x512x1x128.size (inbCache (by omega) ha)).toLoadRect (View.loadsAt_vmem h_cache))
  let k2 : Vec F S1x512x1x128 .fp8e4m3 ← Prog.lift (.load arg5 (Rect.unit (s := S1x4096x8x128) ![0, tok a, 4 * row + 2, 0] S1x512x1x128.size (inbCache (by omega) ha)).toLoadRect (View.loadsAt_vmem h_cache))
  let k3 : Vec F S1x512x1x128 .fp8e4m3 ← Prog.lift (.load arg5 (Rect.unit (s := S1x4096x8x128) ![0, tok a, 4 * row + 3, 0] S1x512x1x128.size (inbCache (by omega) ha)).toLoadRect (View.loadsAt_vmem h_cache))
  let w0 : Vec F S1x512x1x128 .fp8e4m3 ← Prog.lift (.load arg6 (Rect.unit (s := S1x4096x8x128) ![0, tok a, 4 * row, 0] S1x512x1x128.size (inbCache (by omega) ha)).toLoadRect (View.loadsAt_vmem h_cache))
  let w1 : Vec F S1x512x1x128 .fp8e4m3 ← Prog.lift (.load arg6 (Rect.unit (s := S1x4096x8x128) ![0, tok a, 4 * row + 1, 0] S1x512x1x128.size (inbCache (by omega) ha)).toLoadRect (View.loadsAt_vmem h_cache))
  let w2 : Vec F S1x512x1x128 .fp8e4m3 ← Prog.lift (.load arg6 (Rect.unit (s := S1x4096x8x128) ![0, tok a, 4 * row + 2, 0] S1x512x1x128.size (inbCache (by omega) ha)).toLoadRect (View.loadsAt_vmem h_cache))
  let w3 : Vec F S1x512x1x128 .fp8e4m3 ← Prog.lift (.load arg6 (Rect.unit (s := S1x4096x8x128) ![0, tok a, 4 * row + 3, 0] S1x512x1x128.size (inbCache (by omega) ha)).toLoadRect (View.loadsAt_vmem h_cache))
  let _ : Vec F S1x512x128 .fp8e4m3 ← Prog.lift (.load arg10 (Rect.unit (s := S4x4096x128) ![0, tok a, 0] S1x512x128.size (inbChunk (by omega) ha)).toLoadRect (View.loadsAt_vmem h_chunk))
  Prog.lift (.store arg10 (Rect.unit (s := S4x4096x128) ![0, tok a, 0] S1x512x128.size (inbChunk (by omega) ha)) (deinterleave k0) Finset.univ (View.stores_vmem h_chunk (harg10.storeExact_slice rfl _ (packedChunk (by omega) ha)) (fun _ => rfl)) (.inl rfl))
  let _ : Vec F S1x512x128 .fp8e4m3 ← Prog.lift (.load arg11 (Rect.unit (s := S4x4096x128) ![0, tok a, 0] S1x512x128.size (inbChunk (by omega) ha)).toLoadRect (View.loadsAt_vmem h_chunk))
  Prog.lift (.store arg11 (Rect.unit (s := S4x4096x128) ![0, tok a, 0] S1x512x128.size (inbChunk (by omega) ha)) (deinterleave w0) Finset.univ (View.stores_vmem h_chunk (harg11.storeExact_slice rfl _ (packedChunk (by omega) ha)) (fun _ => rfl)) (.inl rfl))
  let _ : Vec F S1x512x128 .fp8e4m3 ← Prog.lift (.load arg10 (Rect.unit (s := S4x4096x128) ![1, tok a, 0] S1x512x128.size (inbChunk (by omega) ha)).toLoadRect (View.loadsAt_vmem h_chunk))
  Prog.lift (.store arg10 (Rect.unit (s := S4x4096x128) ![1, tok a, 0] S1x512x128.size (inbChunk (by omega) ha)) (deinterleave k1) Finset.univ (View.stores_vmem h_chunk (harg10.storeExact_slice rfl _ (packedChunk (by omega) ha)) (fun _ => rfl)) (.inl rfl))
  let _ : Vec F S1x512x128 .fp8e4m3 ← Prog.lift (.load arg11 (Rect.unit (s := S4x4096x128) ![1, tok a, 0] S1x512x128.size (inbChunk (by omega) ha)).toLoadRect (View.loadsAt_vmem h_chunk))
  Prog.lift (.store arg11 (Rect.unit (s := S4x4096x128) ![1, tok a, 0] S1x512x128.size (inbChunk (by omega) ha)) (deinterleave w1) Finset.univ (View.stores_vmem h_chunk (harg11.storeExact_slice rfl _ (packedChunk (by omega) ha)) (fun _ => rfl)) (.inl rfl))
  let _ : Vec F S1x512x128 .fp8e4m3 ← Prog.lift (.load arg10 (Rect.unit (s := S4x4096x128) ![2, tok a, 0] S1x512x128.size (inbChunk (by omega) ha)).toLoadRect (View.loadsAt_vmem h_chunk))
  Prog.lift (.store arg10 (Rect.unit (s := S4x4096x128) ![2, tok a, 0] S1x512x128.size (inbChunk (by omega) ha)) (deinterleave k2) Finset.univ (View.stores_vmem h_chunk (harg10.storeExact_slice rfl _ (packedChunk (by omega) ha)) (fun _ => rfl)) (.inl rfl))
  let _ : Vec F S1x512x128 .fp8e4m3 ← Prog.lift (.load arg11 (Rect.unit (s := S4x4096x128) ![2, tok a, 0] S1x512x128.size (inbChunk (by omega) ha)).toLoadRect (View.loadsAt_vmem h_chunk))
  Prog.lift (.store arg11 (Rect.unit (s := S4x4096x128) ![2, tok a, 0] S1x512x128.size (inbChunk (by omega) ha)) (deinterleave w2) Finset.univ (View.stores_vmem h_chunk (harg11.storeExact_slice rfl _ (packedChunk (by omega) ha)) (fun _ => rfl)) (.inl rfl))
  let _ : Vec F S1x512x128 .fp8e4m3 ← Prog.lift (.load arg10 (Rect.unit (s := S4x4096x128) ![3, tok a, 0] S1x512x128.size (inbChunk (by omega) ha)).toLoadRect (View.loadsAt_vmem h_chunk))
  Prog.lift (.store arg10 (Rect.unit (s := S4x4096x128) ![3, tok a, 0] S1x512x128.size (inbChunk (by omega) ha)) (deinterleave k3) Finset.univ (View.stores_vmem h_chunk (harg10.storeExact_slice rfl _ (packedChunk (by omega) ha)) (fun _ => rfl)) (.inl rfl))
  let _ : Vec F S1x512x128 .fp8e4m3 ← Prog.lift (.load arg11 (Rect.unit (s := S4x4096x128) ![3, tok a, 0] S1x512x128.size (inbChunk (by omega) ha)).toLoadRect (View.loadsAt_vmem h_chunk))
  Prog.lift (.store arg11 (Rect.unit (s := S4x4096x128) ![3, tok a, 0] S1x512x128.size (inbChunk (by omega) ha)) (deinterleave w3) Finset.univ (View.stores_vmem h_chunk (harg11.storeExact_slice rfl _ (packedChunk (by omega) ha)) (fun _ => rfl)) (.inl rfl))
  pure 0#32

/-- The fill's loop. -/
def fillMain (row : Nat) (hrow : row < 2) (v1 : BitVec 32) (hok : Ok v1) : Prog (TpuEff nD τ sig (Elt F) Λ .tc) (BitVec 32) := do
  let r : BitVec 32 ← Scf.Loop.for (mainLoop v1) hok.main 0#32 fun k _ =>
    fillBody arg5 arg6 arg10 harg10 arg11 harg11 row hrow (Scf.iv 0#32 1#32 k) (hok.fits k)
  pure r
/-- Its rest. -/
def fillRest (row : Nat) (hrow : row < 2) (v1 : BitVec 32) (hok : Ok v1) (r : BitVec 32) :
    Prog (TpuEff nD τ sig (Elt F) Λ .tc) PUnit := do
  let _ : BitVec 32 ← Scf.Loop.for (restLoop v1) hok.rest r fun k _ =>
    fillBody arg5 arg6 arg10 harg10 arg11 harg11 row hrow (Scf.iv (mainEnd v1) 1#32 k) (hok.fitsRest k)
  pure ⟨⟩

/-- Before a head's loop: its queries, its scores against the new tokens, and what the three sums begin at. -/
def headStart (h : Nat) (hh : h < 8) : Prog (TpuEff nD τ sig (Elt F) Λ .tc) (FVec F S360x128 .bf16) := do
  let a0 : Vec F S1x72x1x128 .bf16 ← Prog.lift (.load arg2 (Rect.unit (s := S1x72x40x128) ![0, 0, 5 * h, 0] S1x72x1x128.size (inb40 (by omega))).toLoadRect (View.loadsAt_vmem h_one))
  let a1 : Vec F S1x72x1x128 .bf16 ← Prog.lift (.load arg2 (Rect.unit (s := S1x72x40x128) ![0, 0, 5 * h + 1, 0] S1x72x1x128.size (inb40 (by omega))).toLoadRect (View.loadsAt_vmem h_one))
  let a2 : Vec F S1x72x1x128 .bf16 ← Prog.lift (.load arg2 (Rect.unit (s := S1x72x40x128) ![0, 0, 5 * h + 2, 0] S1x72x1x128.size (inb40 (by omega))).toLoadRect (View.loadsAt_vmem h_one))
  let a3 : Vec F S1x72x1x128 .bf16 ← Prog.lift (.load arg2 (Rect.unit (s := S1x72x40x128) ![0, 0, 5 * h + 3, 0] S1x72x1x128.size (inb40 (by omega))).toLoadRect (View.loadsAt_vmem h_one))
  let a4 : Vec F S1x72x1x128 .bf16 ← Prog.lift (.load arg2 (Rect.unit (s := S1x72x40x128) ![0, 0, 5 * h + 4, 0] S1x72x1x128.size (inb40 (by omega))).toLoadRect (View.loadsAt_vmem h_one))
  let kn : Vec F S1x72x1x128 .bf16 ← Prog.lift (.load arg3 (Rect.unit (s := S1x72x8x128) ![0, 0, h, 0] S1x72x1x128.size (inb8 hh)).toLoadRect (View.loadsAt_vmem h_one))
  let _ : Vec F S360x128 .f32 ← Prog.lift (.load arg13 (Rect.unit (s := S360x128) ![0, 0] S360x128.size inbRows).toLoadRect (View.loadsAt_vmem h_rows))
  Prog.lift (.store arg13 (Rect.unit (s := S360x128) ![0, 0] S360x128.size inbRows) (startM (newScores c mask (queries a0 a1 a2 a3 a4) kn)) Finset.univ (View.stores_vmem_bits_univ h_rows rfl) (.inl rfl))
  let _ : Vec F S360x128 .f32 ← Prog.lift (.load arg14 (Rect.unit (s := S360x128) ![0, 0] S360x128.size inbRows).toLoadRect (View.loadsAt_vmem h_rows))
  Prog.lift (.store arg14 (Rect.unit (s := S360x128) ![0, 0] S360x128.size inbRows) (startL (newScores c mask (queries a0 a1 a2 a3 a4) kn)) Finset.univ (View.stores_vmem_bits_univ h_rows rfl) (.inl rfl))
  let vn : Vec F S1x72x1x128 .bf16 ← Prog.lift (.load arg4 (Rect.unit (s := S1x72x8x128) ![0, 0, h, 0] S1x72x1x128.size (inb8 hh)).toLoadRect (View.loadsAt_vmem h_one))
  let _ : Vec F S360x128 .f32 ← Prog.lift (.load arg12 (Rect.unit (s := S360x128) ![0, 0] S360x128.size inbRows).toLoadRect (View.loadsAt_vmem h_rows))
  Prog.lift (.store arg12 (Rect.unit (s := S360x128) ![0, 0] S360x128.size inbRows) (startA (newScores c mask (queries a0 a1 a2 a3 a4) kn) vn) Finset.univ (View.stores_vmem_bits_univ h_rows rfl) (.inl rfl))
  pure (queries a0 a1 a2 a3 a4)

/-- One trip of a head's loop: chunk `a`. -/
def stepBody (h : Nat) (hh : h < 8) (q : FVec F S360x128 .bf16) (v1 a : BitVec 32) (ha : Fits a) :
    Prog (TpuEff nD τ sig (Elt F) Λ .tc) (BitVec 32) := do
  let k : Vec F S1x512x128 .fp8e4m3 ← Prog.lift (.load arg10 (Rect.unit (s := S4x4096x128) ![h % 4, tok a, 0] S1x512x128.size (inbChunk (Nat.mod_lt _ (by decide)) ha)).toLoadRect (View.loadsAt_vmem h_chunk))
  let v : Vec F S1x512x128 .fp8e4m3 ← Prog.lift (.load arg11 (Rect.unit (s := S4x4096x128) ![h % 4, tok a, 0] S1x512x128.size (inbChunk (Nat.mod_lt _ (by decide)) ha)).toLoadRect (View.loadsAt_vmem h_chunk))
  let ks : Vec F S1x8x512 .f32 ← Prog.lift (.load arg7 (Rect.unit (s := S1x8x4096) ![0, 0, tok a] S1x8x512.size (inbScale ha)).toLoadRect (View.loadsAt_vmem h_scale))
  let vs : Vec F S1x8x512 .f32 ← Prog.lift (.load arg8 (Rect.unit (s := S1x8x4096) ![0, 0, tok a] S1x8x512.size (inbScale ha)).toLoadRect (View.loadsAt_vmem h_scale))
  let m : Vec F S360x128 .f32 ← Prog.lift (.load arg13 (Rect.unit (s := S360x128) ![0, 0] S360x128.size inbRows).toLoadRect (View.loadsAt_vmem h_rows))
  let l : Vec F S360x128 .f32 ← Prog.lift (.load arg14 (Rect.unit (s := S360x128) ![0, 0] S360x128.size inbRows).toLoadRect (View.loadsAt_vmem h_rows))
  let _ : Vec F S360x128 .f32 ← Prog.lift (.load arg14 (Rect.unit (s := S360x128) ![0, 0] S360x128.size inbRows).toLoadRect (View.loadsAt_vmem h_rows))
  Prog.lift (.store arg14 (Rect.unit (s := S360x128) ![0, 0] S360x128.size inbRows) (shapeCast S360x128 (stepL m l (oldScores c mask h hh q v1 a k ks)) (by decide)) Finset.univ (View.stores_vmem_bits_univ h_rows rfl) (.inl rfl))
  let _ : Vec F S360x128 .f32 ← Prog.lift (.load arg13 (Rect.unit (s := S360x128) ![0, 0] S360x128.size inbRows).toLoadRect (View.loadsAt_vmem h_rows))
  Prog.lift (.store arg13 (Rect.unit (s := S360x128) ![0, 0] S360x128.size inbRows) (shapeCast S360x128 (stepM m (oldScores c mask h hh q v1 a k ks)) (by decide)) Finset.univ (View.stores_vmem_bits_univ h_rows rfl) (.inl rfl))
  let acc : Vec F S360x128 .f32 ← Prog.lift (.load arg12 (Rect.unit (s := S360x128) ![0, 0] S360x128.size inbRows).toLoadRect (View.loadsAt_vmem h_rows))
  let _ : Vec F S360x128 .f32 ← Prog.lift (.load arg12 (Rect.unit (s := S360x128) ![0, 0] S360x128.size inbRows).toLoadRect (View.loadsAt_vmem h_rows))
  Prog.lift (.store arg12 (Rect.unit (s := S360x128) ![0, 0] S360x128.size inbRows) (shapeCast S360x128 (stepA h hh m acc (oldScores c mask h hh q v1 a k ks) v vs) (by decide)) Finset.univ (View.stores_vmem_bits_univ h_rows rfl) (.inl rfl))
  pure 0#32

/-- A head's loop. -/
def headMain (h : Nat) (hh : h < 8) (q : FVec F S360x128 .bf16) (v1 : BitVec 32) (hok : Ok v1) :
    Prog (TpuEff nD τ sig (Elt F) Λ .tc) (BitVec 32) := do
  let r : BitVec 32 ← Scf.Loop.for (mainLoop v1) hok.main 0#32 fun k _ =>
    stepBody c mask arg7 arg8 arg10 arg11 arg12 arg13 arg14 h hh q v1 (Scf.iv 0#32 1#32 k) (hok.fits k)
  pure r
/-- Its rest. -/
def headRest (h : Nat) (hh : h < 8) (q : FVec F S360x128 .bf16) (v1 : BitVec 32) (hok : Ok v1) (r : BitVec 32) :
    Prog (TpuEff nD τ sig (Elt F) Λ .tc) PUnit := do
  let _ : BitVec 32 ← Scf.Loop.for (restLoop v1) hok.rest r fun k _ =>
    stepBody c mask arg7 arg8 arg10 arg11 arg12 arg13 arg14 h hh q v1 (Scf.iv (mainEnd v1) 1#32 k) (hok.fitsRest k)
  pure ⟨⟩

/-- Head row `n` of the output: the pair of rows that holds it is read, the row replaced, the pair written back. -/
def storeRow (n : Nat) (hn : n < 40) (w : FVec F S1x72x1x128 .bf16) : Prog (TpuEff nD τ sig (Elt F) Λ .tc) PUnit := do
  let _ : Vec F S1x72x1x128 .bf16 ← Prog.lift (.load arg9 (Rect.unit (s := S1x72x40x128) ![0, 0, n, 0] S1x72x1x128.size (inb40 hn)).toLoadRect (View.loadsAt_vmem h_one))
  storeSubelements arg9 (Rect.unit (s := S1x72x40x128) ![0, 0, 2 * (n / 2), 0] S1x72x2x128.size (inbPair hn)) (fun old => updateSlice old w ![0, 0, n % 2, 0] (slicesPair n)) (View.loadsAt_vmem h_pair) (View.stores_vmem h_pair (harg9.storeExact_slice rfl _ (packedPair hn)) (fun _ => rfl))

/-- The five groups of a head's rows, into the output. -/
def storeRows (h : Nat) (hh : h < 8) (o : FVec F S360x128 .bf16) : Prog (TpuEff nD τ sig (Elt F) Λ .tc) PUnit := do
  storeRow arg9 harg9 (5 * h) (by omega) (outGroup 0 (by decide) o)
  storeRow arg9 harg9 (5 * h + 1) (by omega) (outGroup 1 (by decide) o)
  storeRow arg9 harg9 (5 * h + 2) (by omega) (outGroup 2 (by decide) o)
  storeRow arg9 harg9 (5 * h + 3) (by omega) (outGroup 3 (by decide) o)
  storeRow arg9 harg9 (5 * h + 4) (by omega) (outGroup 4 (by decide) o)

/-- After a head's loop: the quotient, into the output. -/
def headEnd (h : Nat) (hh : h < 8) : Prog (TpuEff nD τ sig (Elt F) Λ .tc) PUnit := do
  let acc : Vec F S360x128 .f32 ← Prog.lift (.load arg12 (Rect.unit (s := S360x128) ![0, 0] S360x128.size inbRows).toLoadRect (View.loadsAt_vmem h_rows))
  let l : Vec F S360x128 .f32 ← Prog.lift (.load arg14 (Rect.unit (s := S360x128) ![0, 0] S360x128.size inbRows).toLoadRect (View.loadsAt_vmem h_rows))
  storeRows arg9 harg9 h hh (outRows acc l)

/-- A head up to the end of its loop, then `rest`. -/
def headThen {α : Type} (h : Nat) (hh : h < 8) (v1 : BitVec 32) (hok : Ok v1) (rest : Prog (TpuEff nD τ sig (Elt F) Λ .tc) α) :
    Prog (TpuEff nD τ sig (Elt F) Λ .tc) α := do
  let q ← headStart c mask arg2 arg3 arg4 arg12 arg13 arg14 h hh
  let r ← headMain c mask arg7 arg8 arg10 arg11 arg12 arg13 arg14 h hh q v1 hok
  headRest c mask arg7 arg8 arg10 arg11 arg12 arg13 arg14 h hh q v1 hok r
  rest

/-- A fill of the scratch copies, then `rest`. -/
def fillThen {α : Type} (row : Nat) (hrow : row < 2) (v1 : BitVec 32) (hok : Ok v1) (rest : Prog (TpuEff nD τ sig (Elt F) Λ .tc) α) :
    Prog (TpuEff nD τ sig (Elt F) Λ .tc) α := do
  let r ← fillMain arg5 arg6 arg10 harg10 arg11 harg11 row hrow v1 hok
  fillRest arg5 arg6 arg10 harg10 arg11 harg11 row hrow v1 hok r
  rest

/-- A whole head, then `rest`. -/
def wholeHead {α : Type} (h : Nat) (hh : h < 8) (v1 : BitVec 32) (hok : Ok v1) (rest : Prog (TpuEff nD τ sig (Elt F) Λ .tc) α) :
    Prog (TpuEff nD τ sig (Elt F) Λ .tc) α :=
  headThen c mask arg2 arg3 arg4 arg7 arg8 arg10 arg11 arg12 arg13 arg14 h hh v1 hok (do
    headEnd arg9 harg9 arg12 arg14 h hh
    rest)

/-- The body's work once the length is read, up to the last head's sums, which it returns. -/
def heads (v1 : BitVec 32) (hok : Ok v1) : Prog (TpuEff nD τ sig (Elt F) Λ .tc) (Vec F S360x128 .f32) :=
  fillThen arg5 arg6 arg10 harg10 arg11 harg11 0 (by decide) v1 hok <|
  wholeHead c mask arg2 arg3 arg4 arg7 arg8 arg9 harg9 arg10 arg11 arg12 arg13 arg14 0 (by decide) v1 hok <|
  wholeHead c mask arg2 arg3 arg4 arg7 arg8 arg9 harg9 arg10 arg11 arg12 arg13 arg14 1 (by decide) v1 hok <|
  wholeHead c mask arg2 arg3 arg4 arg7 arg8 arg9 harg9 arg10 arg11 arg12 arg13 arg14 2 (by decide) v1 hok <|
  wholeHead c mask arg2 arg3 arg4 arg7 arg8 arg9 harg9 arg10 arg11 arg12 arg13 arg14 3 (by decide) v1 hok <|
  fillThen arg5 arg6 arg10 harg10 arg11 harg11 1 (by decide) v1 hok <|
  wholeHead c mask arg2 arg3 arg4 arg7 arg8 arg9 harg9 arg10 arg11 arg12 arg13 arg14 4 (by decide) v1 hok <|
  wholeHead c mask arg2 arg3 arg4 arg7 arg8 arg9 harg9 arg10 arg11 arg12 arg13 arg14 5 (by decide) v1 hok <|
  wholeHead c mask arg2 arg3 arg4 arg7 arg8 arg9 harg9 arg10 arg11 arg12 arg13 arg14 6 (by decide) v1 hok <|
  headThen c mask arg2 arg3 arg4 arg7 arg8 arg10 arg11 arg12 arg13 arg14 7 (by decide) v1 hok <|
  Prog.lift (.load arg12 (Rect.unit (s := S360x128) ![0, 0] S360x128.size inbRows).toLoadRect (View.loadsAt_vmem h_rows))

/-- The whole body: the length read at `off`, the side condition `chk` on it assumed, then the heads. -/
def body (arg1 : Memref sig .tc .smem S32 .i32) (off : Fin 1 → Nat) (hoff : ∀ a, off a + S1.size a ≤ S32.size a)
    (chk : BitVec 32 → Prop) (dec : ∀ v, Decidable (chk v)) (hchk : ∀ v, chk v → Ok v) :
    Prog (TpuEff nD τ sig (Elt F) Λ .tc) PUnit := do
  let acc : Vec F S360x128 .f32 ← (do
    let v1 : Elt F .i32 ← smemLoad arg1 (Rect.unit (s := S32) off S1.size hoff) numel1 rfl
    have hv : chk v1 := (← Prog.lift (TpuEff.assume (chk v1) (dec v1))).down
    heads c mask arg2 arg3 arg4 arg5 arg6 arg7 arg8 arg9 harg9 arg10 harg10 arg11 harg11 arg12 arg13 arg14 v1 (hchk v1 hv))
  let l : Vec F S360x128 .f32 ← Prog.lift (.load arg14 (Rect.unit (s := S360x128) ![0, 0] S360x128.size inbRows).toLoadRect (View.loadsAt_vmem h_rows))
  storeRows arg9 harg9 7 (by decide) (outRows acc l)

end Program

end Cert.Gqa
-- ==== Proof.Run.lean ====
/- The body's run: what each part of `Gqa.body` leaves in the memories, as triples over the program.

   A head's three sums are followed trip by trip (`sums`), the scratch copies of the cache by which of their chunks are
   filled (`Filled`), the output by the head rows put into it (`putHead`). -/
module

public import proofs.«01_k».proof.Proof.Model
public import Idealize.ShloMosaic.Lib.Tactic
public import Idealize.ShloMosaic.Lib.LoopRemainder
public import Idealize.ShloMosaic.Lib.Pipeline.FrameBody
public import Idealize.ShloMosaic.Lib.Pipeline.Value
public import Idealize.ShloMosaic.Lib.VecWindow
public import Idealize.ShloMosaic.Lib.Writes

@[expose] public section

set_option maxRecDepth 16384

noncomputable section

namespace Cert.Gqa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

/-! ## Where a trip's chunk begins -/

/-- The word of trip `k`. -/
abbrev trip (k : Nat) : BitVec 32 := Scf.iv 0#32 1#32 k

theorem tok_trip {k : Nat} (h : k ≤ 8) : tok (trip k) = 512 * k := by
  interval_cases k <;> decide

/-- Nine trips would leave the cache. -/
theorem Ok.trips_le {v1 : BitVec 32} (hok : Ok v1) : (mainLoop v1).trips ≤ 8 := by
  by_contra h
  have := (hok.fits ⟨8, by omega⟩).1
  rw [show tok (Scf.iv 0#32 1#32 8) = 4096 by decide] at this
  omega

theorem Ok.tok_trip {v1 : BitVec 32} (hok : Ok v1) (k : Fin (mainLoop v1).trips) : tok (trip k) = 512 * k.val :=
  Gqa.tok_trip (by have := hok.trips_le; omega)

/-! ## What the memories hold, trip by trip -/

section Values
variable {F : FTy → Type} [FloatOps F]

/-- One head's tokens of chunk `a` of a cache, in the order of the scratch copies. -/
def cacheChunk (x : Vec F S1x4096x8x128 .fp8e4m3) (n : Nat) (hn : n < 8) (a : BitVec 32) (ha : Fits a) : Vec F S1x512x128 .fp8e4m3 :=
  deinterleave (window x ![0, tok a, n, 0] S1x512x1x128.size (inbCache hn ha))
/-- The scales of chunk `a`. -/
def scaleChunk (x : Vec F S1x8x4096 .f32) (a : BitVec 32) (ha : Fits a) : Vec F S1x8x512 .f32 :=
  window x ![0, 0, tok a] S1x8x512.size (inbScale ha)
/-- Head row `n` of the query block. -/
def queryRow (x : Vec F S1x72x40x128 .bf16) (n : Nat) (hn : n < 40) : Vec F S1x72x1x128 .bf16 :=
  window x ![0, 0, n, 0] S1x72x1x128.size (inb40 hn)
/-- Head row `n` of a block of new keys or values. -/
def newRow (x : Vec F S1x72x8x128 .bf16) (n : Nat) (hn : n < 8) : Vec F S1x72x1x128 .bf16 :=
  window x ![0, 0, n, 0] S1x72x1x128.size (inb8 hn)
/-- Head `h`'s query rows. -/
def headQueries (x : Vec F S1x72x40x128 .bf16) (h : Nat) (hh : h < 8) : FVec F S360x128 .bf16 :=
  queries (queryRow x (5 * h) (by omega)) (queryRow x (5 * h + 1) (by omega)) (queryRow x (5 * h + 2) (by omega))
    (queryRow x (5 * h + 3) (by omega)) (queryRow x (5 * h + 4) (by omega))

/-- The scratch copy `y` holds, of the four heads from `4 * row` on, the chunks before the `k`-th of the cache `x`. -/
def Filled (row : Nat) (hrow : row < 2) {v1 : BitVec 32} (hok : Ok v1) (x : Vec F S1x4096x8x128 .fp8e4m3) (k : Nat)
    (y : Vec F S4x4096x128 .fp8e4m3) : Prop :=
  ∀ j : Fin (mainLoop v1).trips, j.val < k → ∀ (i : Nat) (hi : i < 4),
    window y ![i, tok (trip j), 0] S1x512x128.size (inbChunk hi (hok.fits j)) = cacheChunk x (4 * row + i) (by omega) (trip j) (hok.fits j)

/-- A head's three sums: the running row maxima, the sums of weights, the weighted sums of values. -/
structure Sums (F : FTy → Type) where
  m : FVec F S360x128 .f32
  l : FVec F S360x128 .f32
  a : FVec F S360x128 .f32

/-- Before the first chunk. -/
def startSums (c mask : F .f32) (h : Nat) (hh : h < 8) (x2 : Vec F S1x72x40x128 .bf16) (x3 x4 : Vec F S1x72x8x128 .bf16) : Sums F :=
  ⟨startM (newScores c mask (headQueries x2 h hh) (newRow x3 h hh)), startL (newScores c mask (headQueries x2 h hh) (newRow x3 h hh)),
    startA (newScores c mask (headQueries x2 h hh) (newRow x3 h hh)) (newRow x4 h hh)⟩

/-- A head's scores against chunk `a`. -/
def chunkScores (c mask : F .f32) (h : Nat) (hh : h < 8) (x2 : Vec F S1x72x40x128 .bf16) (x5 : Vec F S1x4096x8x128 .fp8e4m3)
    (x7 : Vec F S1x8x4096 .f32) (v1 a : BitVec 32) (ha : Fits a) : FVec F S360x512 .f32 :=
  oldScores c mask h hh (headQueries x2 h hh) v1 a (cacheChunk x5 h hh a ha) (scaleChunk x7 a ha)

/-- One chunk more. -/
def stepSums (h : Nat) (hh : h < 8) (s : FVec F S360x512 .f32) (x6 : Vec F S1x4096x8x128 .fp8e4m3)
    (x8 : Vec F S1x8x4096 .f32) (a : BitVec 32) (ha : Fits a) (S : Sums F) : Sums F :=
  ⟨stepM S.m s, stepL S.m S.l s, stepA h hh S.m S.a s (cacheChunk x6 h hh a ha) (scaleChunk x8 a ha)⟩

/-- After `k` chunks. -/
def sums (c mask : F .f32) (h : Nat) (hh : h < 8) (x2 : Vec F S1x72x40x128 .bf16) (x3 x4 : Vec F S1x72x8x128 .bf16)
    (x5 x6 : Vec F S1x4096x8x128 .fp8e4m3) (x7 x8 : Vec F S1x8x4096 .f32) {v1 : BitVec 32} (hok : Ok v1) : Nat → Sums F
  | 0 => startSums c mask h hh x2 x3 x4
  | k + 1 =>
    if hk : k < (mainLoop v1).trips then
      stepSums h hh (chunkScores c mask h hh x2 x5 x7 v1 (trip k) (hok.fits ⟨k, hk⟩)) x6 x8 (trip k) (hok.fits ⟨k, hk⟩)
        (sums c mask h hh x2 x3 x4 x5 x6 x7 x8 hok k)
    else sums c mask h hh x2 x3 x4 x5 x6 x7 x8 hok k

/-- Head row `n` put into the output block. -/
def putRow (n : Nat) (w : FVec F S1x72x1x128 .bf16) (O : Vec F S1x72x40x128 .bf16) : Vec F S1x72x40x128 .bf16 :=
  put O ![0, 0, n, 0] S1x72x1x128.size w
/-- A head's five rows put into it. -/
def putRows (h : Nat) (o : FVec F S360x128 .bf16) (O : Vec F S1x72x40x128 .bf16) : Vec F S1x72x40x128 .bf16 :=
  putRow (5 * h + 4) (outGroup 4 (by decide) o) <| putRow (5 * h + 3) (outGroup 3 (by decide) o) <|
  putRow (5 * h + 2) (outGroup 2 (by decide) o) <| putRow (5 * h + 1) (outGroup 1 (by decide) o) <|
  putRow (5 * h) (outGroup 0 (by decide) o) O

/-- Replacing a row of the pair that holds it and putting the pair back puts the row. -/
theorem put_pair (n : Nat) (hn : n < 40) (w : FVec F S1x72x1x128 .bf16) (O : Vec F S1x72x40x128 .bf16) :
    put O ![0, 0, 2 * (n / 2), 0] S1x72x2x128.size
      (updateSlice (window O ![0, 0, 2 * (n / 2), 0] S1x72x2x128.size (inbPair hn)) w ![0, 0, n % 2, 0] (slicesPair n)) = putRow n w O := by
  funext y
  have h0 : (y 0).val < 1 := (y 0).isLt
  have h1 : (y 1).val < 72 := (y 1).isLt
  have h3 : (y 3).val < 128 := (y 3).isLt
  have e1 : (∀ a : Fin 4, (![0, 0, n, 0] : Fin 4 → Nat) a ≤ (y a).val ∧ (y a).val < (![0, 0, n, 0] : Fin 4 → Nat) a + S1x72x1x128.size a) ↔ (y 2).val = n := by
    simp only [Fin.forall_fin_succ]
    simp
    omega
  have e2 : (∀ a : Fin 4, (![0, 0, 2 * (n / 2), 0] : Fin 4 → Nat) a ≤ (y a).val ∧ (y a).val < (![0, 0, 2 * (n / 2), 0] : Fin 4 → Nat) a + S1x72x2x128.size a) ↔ (y 2).val / 2 = n / 2 := by
    simp only [Fin.forall_fin_succ]
    simp
    omega
  unfold putRow put
  by_cases hn2 : (y 2).val / 2 = n / 2
  · rw [dif_pos (e2.mpr hn2)]
    unfold updateSlice
    have e3 : (∀ a : Fin 4, (![0, 0, n % 2, 0] : Fin 4 → Nat) a ≤ (Rect.unitLocal (s := S1x72x40x128) (off := ![0, 0, 2 * (n / 2), 0]) (size := S1x72x2x128.size) y (e2.mpr hn2) a).val
        ∧ (Rect.unitLocal (s := S1x72x40x128) (off := ![0, 0, 2 * (n / 2), 0]) (size := S1x72x2x128.size) y (e2.mpr hn2) a).val
          < (![0, 0, n % 2, 0] : Fin 4 → Nat) a + S1x72x1x128.size (a.cast (slicesPair n).1.symm)) ↔ (y 2).val = n := by
      simp only [Fin.forall_fin_succ, Rect.unitLocal]
      simp
      omega
    by_cases hy : (y 2).val = n
    · rw [dif_pos (e3.mpr hy), dif_pos (e1.mpr hy)]
      refine congrArg w (funext fun a => Fin.ext ?_)
      fin_cases a <;> simp [Rect.unitLocal] <;> omega
    · rw [dif_neg (fun h => hy (e3.mp h)), dif_neg (fun h => hy (e1.mp h))]
      refine congrArg O (funext fun a => Fin.ext ?_)
      have := (e2.mpr hn2) a
      show (![0, 0, 2 * (n / 2), 0] : Fin 4 → Nat) a + 1 * ((y a).val - (![0, 0, 2 * (n / 2), 0] : Fin 4 → Nat) a) = (y a).val
      omega
  · rw [dif_neg (fun h => hn2 (e2.mp h)), dif_neg (fun h => hn2 (by rw [e1.mp h]))]
end Values

/-! ## The triples -/

section Triples
variable {nD : Nat} {τ : Topo} {sig : RefSig} {Λ : Labels} {F : FTy → Type} [FloatOps F]
local notation "𝕄" => MT nD τ sig Unit (Elt F) ℕ (UR sig nD τ) ℕ
variable (dfs : Defs nD τ sig (Elt F) Λ) (t : Dev nD) (E : Set ℕ)
variable (c mask : F .f32)
variable (arg2 : Memref sig .tc .vmem S1x72x40x128 .bf16) (arg3 arg4 : Memref sig .tc .vmem S1x72x8x128 .bf16)
  (arg5 arg6 : Memref sig .tc .vmem S1x4096x8x128 .fp8e4m3) (arg7 arg8 : Memref sig .tc .vmem S1x8x4096 .f32)
  (arg9 : Memref sig .tc .vmem S1x72x40x128 .bf16) (harg9 : arg9.IsWhole)
  (arg10 : Memref sig .tc .vmem S4x4096x128 .fp8e4m3) (harg10 : arg10.IsWhole)
  (arg11 : Memref sig .tc .vmem S4x4096x128 .fp8e4m3) (harg11 : arg11.IsWhole)
  (arg12 arg13 arg14 : Memref sig .tc .vmem S360x128 .f32)
variable (x2 : Vec F S1x72x40x128 .bf16) (x3 x4 : Vec F S1x72x8x128 .bf16)
  (x5 x6 : Vec F S1x4096x8x128 .fp8e4m3) (x7 x8 : Vec F S1x8x4096 .f32)

/-- The four chunks that a trip of the fill puts into a scratch copy. -/
def putChunks (row : Nat) (hrow : row < 2) (a : BitVec 32) (ha : Fits a) (x : Vec F S1x4096x8x128 .fp8e4m3)
    (y : Vec F S4x4096x128 .fp8e4m3) : Vec F S4x4096x128 .fp8e4m3 :=
  put (put (put (put y ![0, tok a, 0] S1x512x128.size (cacheChunk x (4 * row) (by omega) a ha))
    ![1, tok a, 0] S1x512x128.size (cacheChunk x (4 * row + 1) (by omega) a ha))
    ![2, tok a, 0] S1x512x128.size (cacheChunk x (4 * row + 2) (by omega) a ha))
    ![3, tok a, 0] S1x512x128.size (cacheChunk x (4 * row + 3) (by omega) a ha)

/-- One trip of the fill. -/
theorem fillBody_run (row : Nat) (hrow : row < 2) (a : BitVec 32) (ha : Fits a)
    (y10 y11 : Vec F S4x4096x128 .fp8e4m3) (K : BitVec 32 → sProp 𝕄) :
    iprop(owns (t : Thread nD τ) arg5 fullShare x5 ∗ owns (t : Thread nD τ) arg6 fullShare x6
        ∗ owns (t : Thread nD τ) arg10 fullShare y10 ∗ owns (t : Thread nD τ) arg11 fullShare y11
        ∗ (iprop(owns (t : Thread nD τ) arg5 fullShare x5 ∗ owns (t : Thread nD τ) arg6 fullShare x6
          ∗ owns (t : Thread nD τ) arg10 fullShare (putChunks row hrow a ha x5 y10)
          ∗ owns (t : Thread nD τ) arg11 fullShare (putChunks row hrow a ha x6 y11)) -∗ K 0#32))
      ⊢ wp frame (wpE dfs Variants.none t none) E (fillBody arg5 arg6 arg10 harg10 arg11 harg11 row hrow a ha) K := by
  unfold fillBody owns
  iintro ⟨⟨%f5, %h5, H5⟩, ⟨%f6, %h6, H6⟩, ⟨%f10, %h10, H10⟩, ⟨%f11, %h11, H11⟩, Hk⟩
  subst h5 h6 h10 h11
  sl_exec
  sl_step
  iapply Hk
  isplitl [H5]
  · iexists f5; isplitr; · ipureintro; rfl
    iexact H5
  isplitl [H6]
  · iexists f6; isplitr; · ipureintro; rfl
    iexact H6
  isplitl [H10]
  · iexists _; isplitr
    swap; · iexact H10
    ipureintro
    rw [View.read_writes_cons_put (h := rfl), View.read_writes_cons_put (h := rfl), View.read_writes_cons_put (h := rfl),
      View.read_writes_cons_put (h := rfl)]
    rfl
  · iexists _; isplitr
    swap; · iexact H11
    ipureintro
    rw [View.read_writes_cons_put (h := rfl), View.read_writes_cons_put (h := rfl), View.read_writes_cons_put (h := rfl),
      View.read_writes_cons_put (h := rfl)]
    rfl

/-- What a trip of the fill puts extends what the copy holds by one chunk. -/
theorem Filled.step {row : Nat} {hrow : row < 2} {v1 : BitVec 32} {hok : Ok v1} {x : Vec F S1x4096x8x128 .fp8e4m3}
    (k : Fin (mainLoop v1).trips) {y : Vec F S4x4096x128 .fp8e4m3} (h : Filled row hrow hok x k y) :
    Filled row hrow hok x (k.val + 1) (putChunks row hrow (trip k) (hok.fits k) x y) := by
  intro j hj i hi
  unfold putChunks
  rcases Nat.lt_succ_iff_lt_or_eq.mp hj with hlt | heq
  · have hd : tok (trip j) + 512 ≤ tok (trip k) := by rw [hok.tok_trip, hok.tok_trip]; omega
    rw [window_put_of_disjoint (a := 1) (ha := Or.inl hd), window_put_of_disjoint (a := 1) (ha := Or.inl hd),
      window_put_of_disjoint (a := 1) (ha := Or.inl hd), window_put_of_disjoint (a := 1) (ha := Or.inl hd)]
    exact h j hlt i hi
  · obtain rfl : j = k := Fin.ext heq
    have hi' : i = 0 ∨ i = 1 ∨ i = 2 ∨ i = 3 := by omega
    rcases hi' with rfl | rfl | rfl | rfl
    · rw [window_put_of_disjoint (a := 0) (ha := Or.inl (show (0 : ℕ) + 1 ≤ 3 by decide)), window_put_of_disjoint (a := 0) (ha := Or.inl (show (0 : ℕ) + 1 ≤ 2 by decide)),
        window_put_of_disjoint (a := 0) (ha := Or.inl (show (0 : ℕ) + 1 ≤ 1 by decide)), window_put_same]
      rfl
    · rw [window_put_of_disjoint (a := 0) (ha := Or.inl (show (1 : ℕ) + 1 ≤ 3 by decide)), window_put_of_disjoint (a := 0) (ha := Or.inl (show (1 : ℕ) + 1 ≤ 2 by decide)), window_put_same]
    · rw [window_put_of_disjoint (a := 0) (ha := Or.inl (show (2 : ℕ) + 1 ≤ 3 by decide)), window_put_same]
    · rw [window_put_same]

/-- The fill's loop fills the copies. -/
theorem fillMain_run (row : Nat) (hrow : row < 2) (v1 : BitVec 32) (hok : Ok v1)
    (K : BitVec 32 → sProp 𝕄) :
    iprop(owns (t : Thread nD τ) arg5 fullShare x5 ∗ owns (t : Thread nD τ) arg6 fullShare x6
        ∗ (∃ y, owns (t : Thread nD τ) arg10 fullShare y) ∗ (∃ y, owns (t : Thread nD τ) arg11 fullShare y)
        ∗ (∀ r, iprop(owns (t : Thread nD τ) arg5 fullShare x5 ∗ owns (t : Thread nD τ) arg6 fullShare x6
          ∗ (∃ y, ⌜Filled row hrow hok x5 (mainLoop v1).trips y⌝ ∗ owns (t : Thread nD τ) arg10 fullShare y)
          ∗ (∃ y, ⌜Filled row hrow hok x6 (mainLoop v1).trips y⌝ ∗ owns (t : Thread nD τ) arg11 fullShare y)) -∗ K r))
      ⊢ wp frame (wpE dfs Variants.none t none) E (fillMain arg5 arg6 arg10 harg10 arg11 harg11 row hrow v1 hok) K := by
  unfold fillMain
  iintro ⟨H5, H6, ⟨%y10, H10⟩, ⟨%y11, H11⟩, Hk⟩
  iapply (Scf.wp_for _ _ _ _ _ _ hok.main _ _ (fun k (_ : BitVec 32) =>
    iprop(owns (t : Thread nD τ) arg5 fullShare x5 ∗ owns (t : Thread nD τ) arg6 fullShare x6
          ∗ (∃ y, ⌜Filled row hrow hok x5 k y⌝ ∗ owns (t : Thread nD τ) arg10 fullShare y)
          ∗ (∃ y, ⌜Filled row hrow hok x6 k y⌝ ∗ owns (t : Thread nD τ) arg11 fullShare y))) (fun k acc => ?_))
  case _ =>
    iintro ⟨H5, H6, ⟨%y10, %h10, H10⟩, ⟨%y11, %h11, H11⟩⟩
    iapply (fillBody_run dfs t E arg5 arg6 arg10 harg10 arg11 harg11 x5 x6 row hrow (trip k) (hok.fits k) y10 y11)
    isplitl [H5]; · iexact H5
    isplitl [H6]; · iexact H6
    isplitl [H10]; · iexact H10
    isplitl [H11]; · iexact H11
    iintro ⟨H5, H6, H10, H11⟩
    isplitl [H5]; · iexact H5
    isplitl [H6]; · iexact H6
    isplitl [H10]
    · iexists _; isplitr
      swap; · iexact H10
      ipureintro; exact h10.step k
    · iexists _; isplitr
      swap; · iexact H11
      ipureintro; exact h11.step k
  isplitl [H5 H6 H10 H11]
  · isplitl [H5]; · iexact H5
    isplitl [H6]; · iexact H6
    isplitl [H10]
    · iexists y10; isplitr
      · ipureintro; intro j hj; exact absurd hj (Nat.not_lt_zero _)
      iexact H10
    · iexists y11; isplitr
      · ipureintro; intro j hj; exact absurd hj (Nat.not_lt_zero _)
      iexact H11
  iintro %r H
  iapply Hk
  iexact H

/-- The fill, then the rest of the body: the loop's rest makes no trip. -/
theorem fillThen_run {α : Type} (row : Nat) (hrow : row < 2) (v1 : BitVec 32) (hok : Ok v1)
    (rest : Prog (TpuEff nD τ sig (Elt F) Λ .tc) α) (K : α → sProp 𝕄) :
    iprop(owns (t : Thread nD τ) arg5 fullShare x5 ∗ owns (t : Thread nD τ) arg6 fullShare x6
        ∗ (∃ y, owns (t : Thread nD τ) arg10 fullShare y) ∗ (∃ y, owns (t : Thread nD τ) arg11 fullShare y)
        ∗ (iprop(owns (t : Thread nD τ) arg5 fullShare x5 ∗ owns (t : Thread nD τ) arg6 fullShare x6
          ∗ (∃ y, ⌜Filled row hrow hok x5 (mainLoop v1).trips y⌝ ∗ owns (t : Thread nD τ) arg10 fullShare y)
          ∗ (∃ y, ⌜Filled row hrow hok x6 (mainLoop v1).trips y⌝ ∗ owns (t : Thread nD τ) arg11 fullShare y))
            -∗ wp frame (wpE dfs Variants.none t none) E rest K))
      ⊢ wp frame (wpE dfs Variants.none t none) E (fillThen arg5 arg6 arg10 harg10 arg11 harg11 row hrow v1 hok rest) K := by
  unfold fillThen
  rw [wp_bind]
  iintro ⟨H5, H6, H10, H11, Hk⟩
  iapply (fillMain_run dfs t E arg5 arg6 arg10 harg10 arg11 harg11 x5 x6 row hrow v1 hok)
  isplitl [H5]; · iexact H5
  isplitl [H6]; · iexact H6
  isplitl [H10]; · iexact H10
  isplitl [H11]; · iexact H11
  iintro %r H
  rw [wp_bind]
  unfold fillRest
  rw [wp_bind, show ∀ (b : Fin (restLoop v1).trips → BitVec 32 → Prog (TpuEff nD τ sig (Elt F) Λ .tc) (BitVec 32)),
    Scf.Loop.for (restLoop v1) hok.rest r b = .ret r from fun b => Scf.for_rem_eq 0#32 (Scalar.subi (chunks v1) 0#32) hok.rest r b, wp_ret]
  imodintro
  rw [Prog.pure_eq_ret, wp_ret]
  imodintro
  iapply Hk
  iexact H

section Loads
variable {κ : Kind} {sp : Space}

/-- What the loads of the heads read, by name. -/
theorem load_query (v : View sig κ sp S1x72x40x128 .bf16) (f : v.ty.Contents (Elt F)) (n : Nat) (hn : n < 40)
    (inb : ∀ a, (![0, 0, n, 0] : Fin 4 → Nat) a + S1x72x1x128.size a ≤ S1x72x40x128.size a) :
    v.readAt (Elt F) (Rect.unit (s := S1x72x40x128) ![0, 0, n, 0] S1x72x1x128.size inb).toLoadRect f = queryRow (v.read (Elt F) f) n hn := rfl
theorem load_new (v : View sig κ sp S1x72x8x128 .bf16) (f : v.ty.Contents (Elt F)) (n : Nat) (hn : n < 8)
    (inb : ∀ a, (![0, 0, n, 0] : Fin 4 → Nat) a + S1x72x1x128.size a ≤ S1x72x8x128.size a) :
    v.readAt (Elt F) (Rect.unit (s := S1x72x8x128) ![0, 0, n, 0] S1x72x1x128.size inb).toLoadRect f = newRow (v.read (Elt F) f) n hn := rfl
theorem load_scale (v : View sig κ sp S1x8x4096 .f32) (f : v.ty.Contents (Elt F)) (a : BitVec 32) (ha : Fits a) :
    v.readAt (Elt F) (Rect.unit (s := S1x8x4096) ![0, 0, tok a] S1x8x512.size (inbScale ha)).toLoadRect f
      = scaleChunk (v.read (Elt F) f) a ha := rfl
theorem load_chunk (v : View sig κ sp S4x4096x128 .fp8e4m3) (f : v.ty.Contents (Elt F)) (n : Nat) (a : BitVec 32)
    (inb : ∀ x, (![n, tok a, 0] : Fin 3 → Nat) x + S1x512x128.size x ≤ S4x4096x128.size x) :
    v.readAt (Elt F) (Rect.unit (s := S4x4096x128) ![n, tok a, 0] S1x512x128.size inb).toLoadRect f
      = window (v.read (Elt F) f) ![n, tok a, 0] S1x512x128.size inb := rfl
theorem load_rows (v : View sig κ sp S360x128 .f32) (f : v.ty.Contents (Elt F)) :
    v.readAt (Elt F) (Rect.unit (s := S360x128) ![0, 0] S360x128.size inbRows).toLoadRect f = v.read (Elt F) f :=
  View.readAt_full v f inbRows
theorem store_rows (v : View sig κ sp S360x128 .f32) (f : v.ty.Contents (Elt F)) (w : Vec F S360x128 .f32) :
    v.read (Elt F) (v.writes (Elt F) f [⟨Rect.unit (s := S360x128) ![0, 0] S360x128.size inbRows, w⟩]) = w :=
  View.read_writes_full v f inbRows w []

end Loads

/-- Before a head's loop. -/
theorem headStart_run (h : Nat) (hh : h < 8) (K : FVec F S360x128 .bf16 → sProp 𝕄) :
    iprop(owns (t : Thread nD τ) arg2 fullShare x2 ∗ owns (t : Thread nD τ) arg3 fullShare x3 ∗ owns (t : Thread nD τ) arg4 fullShare x4
        ∗ (∃ y, owns (t : Thread nD τ) arg12 fullShare y) ∗ (∃ y, owns (t : Thread nD τ) arg13 fullShare y)
        ∗ (∃ y, owns (t : Thread nD τ) arg14 fullShare y)
        ∗ (iprop(owns (t : Thread nD τ) arg2 fullShare x2 ∗ owns (t : Thread nD τ) arg3 fullShare x3 ∗ owns (t : Thread nD τ) arg4 fullShare x4
          ∗ owns (t : Thread nD τ) arg12 fullShare (startSums c mask h hh x2 x3 x4).a
          ∗ owns (t : Thread nD τ) arg13 fullShare (startSums c mask h hh x2 x3 x4).m
          ∗ owns (t : Thread nD τ) arg14 fullShare (startSums c mask h hh x2 x3 x4).l) -∗ K (headQueries x2 h hh)))
      ⊢ wp frame (wpE dfs Variants.none t none) E (headStart c mask arg2 arg3 arg4 arg12 arg13 arg14 h hh) K := by
  unfold startSums
  unfold headStart owns
  iintro ⟨⟨%f2, %h2, H2⟩, ⟨%f3, %h3, H3⟩, ⟨%f4, %h4, H4⟩, ⟨%y12, %f12, -, H12⟩, ⟨%y13, %f13, -, H13⟩, ⟨%y14, %f14, -, H14⟩, Hk⟩
  subst h2 h3 h4
  sl_exec
  rw [load_query _ _ (5 * h) (by omega), load_query _ _ (5 * h + 1) (by omega), load_query _ _ (5 * h + 2) (by omega),
    load_query _ _ (5 * h + 3) (by omega), load_query _ _ (5 * h + 4) (by omega), load_new _ _ h hh, load_new _ _ h hh]
  rw [show queries _ _ _ _ _ = headQueries (arg2.view.read (Elt F) f2) h hh from rfl]
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H12]
  · iexists _; isplitr
    swap; · iexact H12
    ipureintro
    rw [store_rows]
  isplitl [H13]
  · iexists _; isplitr
    swap; · iexact H13
    ipureintro
    rw [store_rows]
  · iexists _; isplitr
    swap; · iexact H14
    ipureintro
    rw [store_rows]

/-- One trip of a head's loop. -/
theorem stepBody_run (h : Nat) (hh : h < 8) (v1 a : BitVec 32) (ha : Fits a) (y10 y11 : Vec F S4x4096x128 .fp8e4m3) (S : Sums F)
    (e10 : window y10 ![h % 4, tok a, 0] S1x512x128.size (inbChunk (Nat.mod_lt _ (by decide)) ha) = cacheChunk x5 h hh a ha)
    (e11 : window y11 ![h % 4, tok a, 0] S1x512x128.size (inbChunk (Nat.mod_lt _ (by decide)) ha) = cacheChunk x6 h hh a ha)
    (K : BitVec 32 → sProp 𝕄) :
    iprop(owns (t : Thread nD τ) arg7 fullShare x7 ∗ owns (t : Thread nD τ) arg8 fullShare x8
        ∗ owns (t : Thread nD τ) arg10 fullShare y10 ∗ owns (t : Thread nD τ) arg11 fullShare y11
        ∗ owns (t : Thread nD τ) arg12 fullShare S.a ∗ owns (t : Thread nD τ) arg13 fullShare S.m ∗ owns (t : Thread nD τ) arg14 fullShare S.l
        ∗ (iprop(owns (t : Thread nD τ) arg7 fullShare x7 ∗ owns (t : Thread nD τ) arg8 fullShare x8
          ∗ owns (t : Thread nD τ) arg10 fullShare y10 ∗ owns (t : Thread nD τ) arg11 fullShare y11
          ∗ owns (t : Thread nD τ) arg12 fullShare (stepSums h hh (chunkScores c mask h hh x2 x5 x7 v1 a ha) x6 x8 a ha S).a
          ∗ owns (t : Thread nD τ) arg13 fullShare (stepSums h hh (chunkScores c mask h hh x2 x5 x7 v1 a ha) x6 x8 a ha S).m
          ∗ owns (t : Thread nD τ) arg14 fullShare (stepSums h hh (chunkScores c mask h hh x2 x5 x7 v1 a ha) x6 x8 a ha S).l) -∗ K 0#32))
      ⊢ wp frame (wpE dfs Variants.none t none) E
          (stepBody c mask arg7 arg8 arg10 arg11 arg12 arg13 arg14 h hh (headQueries x2 h hh) v1 a ha) K := by
  unfold stepSums chunkScores
  unfold stepBody owns
  iintro ⟨⟨%f7, %h7, H7⟩, ⟨%f8, %h8, H8⟩, ⟨%f10, %h10, H10⟩, ⟨%f11, %h11, H11⟩, ⟨%f12, %h12, H12⟩, ⟨%f13, %h13, H13⟩, ⟨%f14, %h14, H14⟩, Hk⟩
  rw [← h12, ← h13, ← h14]
  subst h7 h8 h10 h11
  sl_exec
  rw [load_scale _ _ a ha, load_scale _ _ a ha, load_rows, load_rows, load_rows]
  sl_step
  iapply Hk
  isplitl [H7]
  · iexists f7; isplitr; · ipureintro; rfl
    iexact H7
  isplitl [H8]
  · iexists f8; isplitr; · ipureintro; rfl
    iexact H8
  isplitl [H10]
  · iexists f10; isplitr; · ipureintro; rfl
    iexact H10
  isplitl [H11]
  · iexists f11; isplitr; · ipureintro; rfl
    iexact H11
  isplitl [H12]
  · iexists _; isplitr
    swap; · iexact H12
    ipureintro
    rw [store_rows, shapeCast_self]
  isplitl [H13]
  · iexists _; isplitr
    swap; · iexact H13
    ipureintro
    rw [store_rows, shapeCast_self]
  · iexists _; isplitr
    swap; · iexact H14
    ipureintro
    rw [store_rows, shapeCast_self]

/-- A head's loop: the sums after every chunk, the scratch copies as they were. -/
theorem headMain_run (row : Nat) (hrow : row < 2) (h : Nat) (hh : h < 8) (hr : h / 4 = row) (v1 : BitVec 32) (hok : Ok v1)
    (y10 y11 : Vec F S4x4096x128 .fp8e4m3) (e10 : Filled row hrow hok x5 (mainLoop v1).trips y10)
    (e11 : Filled row hrow hok x6 (mainLoop v1).trips y11) (K : BitVec 32 → sProp 𝕄) :
    iprop(owns (t : Thread nD τ) arg7 fullShare x7 ∗ owns (t : Thread nD τ) arg8 fullShare x8
        ∗ owns (t : Thread nD τ) arg10 fullShare y10 ∗ owns (t : Thread nD τ) arg11 fullShare y11
        ∗ owns (t : Thread nD τ) arg12 fullShare (startSums c mask h hh x2 x3 x4).a
        ∗ owns (t : Thread nD τ) arg13 fullShare (startSums c mask h hh x2 x3 x4).m
        ∗ owns (t : Thread nD τ) arg14 fullShare (startSums c mask h hh x2 x3 x4).l
        ∗ (∀ r, iprop(owns (t : Thread nD τ) arg7 fullShare x7 ∗ owns (t : Thread nD τ) arg8 fullShare x8
          ∗ owns (t : Thread nD τ) arg10 fullShare y10 ∗ owns (t : Thread nD τ) arg11 fullShare y11
          ∗ owns (t : Thread nD τ) arg12 fullShare (sums c mask h hh x2 x3 x4 x5 x6 x7 x8 hok (mainLoop v1).trips).a
          ∗ owns (t : Thread nD τ) arg13 fullShare (sums c mask h hh x2 x3 x4 x5 x6 x7 x8 hok (mainLoop v1).trips).m
          ∗ owns (t : Thread nD τ) arg14 fullShare (sums c mask h hh x2 x3 x4 x5 x6 x7 x8 hok (mainLoop v1).trips).l) -∗ K r))
      ⊢ wp frame (wpE dfs Variants.none t none) E
          (headMain c mask arg7 arg8 arg10 arg11 arg12 arg13 arg14 h hh (headQueries x2 h hh) v1 hok) K := by
  unfold headMain
  iintro ⟨H7, H8, H10, H11, H12, H13, H14, Hk⟩
  iapply (Scf.wp_for _ _ _ _ _ _ hok.main _ _ (fun k (_ : BitVec 32) =>
    iprop(owns (t : Thread nD τ) arg7 fullShare x7 ∗ owns (t : Thread nD τ) arg8 fullShare x8
          ∗ owns (t : Thread nD τ) arg10 fullShare y10 ∗ owns (t : Thread nD τ) arg11 fullShare y11
          ∗ owns (t : Thread nD τ) arg12 fullShare (sums c mask h hh x2 x3 x4 x5 x6 x7 x8 hok k).a
          ∗ owns (t : Thread nD τ) arg13 fullShare (sums c mask h hh x2 x3 x4 x5 x6 x7 x8 hok k).m
          ∗ owns (t : Thread nD τ) arg14 fullShare (sums c mask h hh x2 x3 x4 x5 x6 x7 x8 hok k).l)) (fun k acc => ?_))
  case _ =>
    have hn : ∀ (n : Nat) (hn8 : n < 8) (he : n = h) (x : Vec F S1x4096x8x128 .fp8e4m3),
        cacheChunk x n hn8 (trip k) (hok.fits k) = cacheChunk x h hh (trip k) (hok.fits k) := by
      intro n hn8 he x; subst he; rfl
    have hs : sums c mask h hh x2 x3 x4 x5 x6 x7 x8 hok (k.val + 1)
        = stepSums h hh (chunkScores c mask h hh x2 x5 x7 v1 (trip k) (hok.fits k)) x6 x8 (trip k) (hok.fits k)
            (sums c mask h hh x2 x3 x4 x5 x6 x7 x8 hok k.val) := by
      rw [sums, dif_pos k.isLt]
    rw [hs]
    iintro ⟨H7, H8, H10, H11, H12, H13, H14⟩
    iapply (stepBody_run dfs t E c mask arg7 arg8 arg10 arg11 arg12 arg13 arg14 x2 x5 x6 x7 x8 h hh v1 (trip k) (hok.fits k) y10 y11
      (sums c mask h hh x2 x3 x4 x5 x6 x7 x8 hok k.val)
      ((e10 k k.isLt (h % 4) (Nat.mod_lt _ (by decide))).trans (hn _ _ (by omega) _))
      ((e11 k k.isLt (h % 4) (Nat.mod_lt _ (by decide))).trans (hn _ _ (by omega) _)))
    isplitl [H7]; · iexact H7
    isplitl [H8]; · iexact H8
    isplitl [H10]; · iexact H10
    isplitl [H11]; · iexact H11
    isplitl [H12]; · iexact H12
    isplitl [H13]; · iexact H13
    isplitl [H14]; · iexact H14
    iintro H
    iexact H
  isplitl [H7 H8 H10 H11 H12 H13 H14]
  · isplitl [H7]; · iexact H7
    isplitl [H8]; · iexact H8
    isplitl [H10]; · iexact H10
    isplitl [H11]; · iexact H11
    isplitl [H12]; · iexact H12
    isplitl [H13]; · iexact H13
    iexact H14
  iintro %r H
  iapply Hk
  iexact H

/-- One row into the output block. -/
theorem storeRow_run (n : Nat) (hn : n < 40) (w : FVec F S1x72x1x128 .bf16) (O : Vec F S1x72x40x128 .bf16) (K : PUnit → sProp 𝕄) :
    iprop(owns (t : Thread nD τ) arg9 fullShare O ∗ (owns (t : Thread nD τ) arg9 fullShare (putRow n w O) -∗ K ⟨⟩))
      ⊢ wp frame (wpE dfs Variants.none t none) E (storeRow arg9 harg9 n hn w) K := by
  rw [← put_pair n hn w O]
  unfold storeRow storeSubelements owns
  iintro ⟨⟨%f, %hf, H⟩, Hk⟩
  subst hf
  sl_exec
  sl_step
  iapply Hk
  iexists _; isplitr
  swap; · iexact H
  ipureintro
  rw [View.read_writes_cons_put (h := rfl)]
  rfl

/-- A head's rows into it. -/
theorem storeRows_run (h : Nat) (hh : h < 8) (o : FVec F S360x128 .bf16) (O : Vec F S1x72x40x128 .bf16) (K : PUnit → sProp 𝕄) :
    iprop(owns (t : Thread nD τ) arg9 fullShare O ∗ (owns (t : Thread nD τ) arg9 fullShare (putRows h o O) -∗ K ⟨⟩))
      ⊢ wp frame (wpE dfs Variants.none t none) E (storeRows arg9 harg9 h hh o) K := by
  unfold storeRows putRows
  iintro ⟨H, Hk⟩
  rw [wp_bind]
  iapply (storeRow_run dfs t E arg9 harg9)
  isplitl [H]; · iexact H
  iintro H
  rw [wp_bind]
  iapply (storeRow_run dfs t E arg9 harg9)
  isplitl [H]; · iexact H
  iintro H
  rw [wp_bind]
  iapply (storeRow_run dfs t E arg9 harg9)
  isplitl [H]; · iexact H
  iintro H
  rw [wp_bind]
  iapply (storeRow_run dfs t E arg9 harg9)
  isplitl [H]; · iexact H
  iintro H
  iapply (storeRow_run dfs t E arg9 harg9)
  isplitl [H]; · iexact H
  iexact Hk

/-- A head up to the end of its loop, then the rest. -/
theorem headThen_run {α : Type} (row : Nat) (hrow : row < 2) (h : Nat) (hh : h < 8) (hr : h / 4 = row) (v1 : BitVec 32) (hok : Ok v1)
    (rest : Prog (TpuEff nD τ sig (Elt F) Λ .tc) α)
    (y10 y11 : Vec F S4x4096x128 .fp8e4m3) (e10 : Filled row hrow hok x5 (mainLoop v1).trips y10)
    (e11 : Filled row hrow hok x6 (mainLoop v1).trips y11) (K : α → sProp 𝕄) :
    iprop(owns (t : Thread nD τ) arg2 fullShare x2 ∗ owns (t : Thread nD τ) arg3 fullShare x3 ∗ owns (t : Thread nD τ) arg4 fullShare x4
        ∗ owns (t : Thread nD τ) arg7 fullShare x7 ∗ owns (t : Thread nD τ) arg8 fullShare x8
        ∗ owns (t : Thread nD τ) arg10 fullShare y10 ∗ owns (t : Thread nD τ) arg11 fullShare y11
        ∗ (∃ y, owns (t : Thread nD τ) arg12 fullShare y) ∗ (∃ y, owns (t : Thread nD τ) arg13 fullShare y)
        ∗ (∃ y, owns (t : Thread nD τ) arg14 fullShare y)
        ∗ (iprop(owns (t : Thread nD τ) arg2 fullShare x2 ∗ owns (t : Thread nD τ) arg3 fullShare x3 ∗ owns (t : Thread nD τ) arg4 fullShare x4
          ∗ owns (t : Thread nD τ) arg7 fullShare x7 ∗ owns (t : Thread nD τ) arg8 fullShare x8
          ∗ owns (t : Thread nD τ) arg10 fullShare y10 ∗ owns (t : Thread nD τ) arg11 fullShare y11
          ∗ owns (t : Thread nD τ) arg12 fullShare (sums c mask h hh x2 x3 x4 x5 x6 x7 x8 hok (mainLoop v1).trips).a
          ∗ owns (t : Thread nD τ) arg13 fullShare (sums c mask h hh x2 x3 x4 x5 x6 x7 x8 hok (mainLoop v1).trips).m
          ∗ owns (t : Thread nD τ) arg14 fullShare (sums c mask h hh x2 x3 x4 x5 x6 x7 x8 hok (mainLoop v1).trips).l)
            -∗ wp frame (wpE dfs Variants.none t none) E rest K))
      ⊢ wp frame (wpE dfs Variants.none t none) E
          (headThen c mask arg2 arg3 arg4 arg7 arg8 arg10 arg11 arg12 arg13 arg14 h hh v1 hok rest) K := by
  unfold headThen
  rw [wp_bind]
  iintro ⟨H2, H3, H4, H7, H8, H10, H11, H12, H13, H14, Hk⟩
  iapply (headStart_run dfs t E c mask arg2 arg3 arg4 arg12 arg13 arg14 x2 x3 x4 h hh)
  isplitl [H2]; · iexact H2
  isplitl [H3]; · iexact H3
  isplitl [H4]; · iexact H4
  isplitl [H12]; · iexact H12
  isplitl [H13]; · iexact H13
  isplitl [H14]; · iexact H14
  iintro ⟨H2, H3, H4, H12, H13, H14⟩
  rw [wp_bind]
  iapply (headMain_run dfs t E c mask arg7 arg8 arg10 arg11 arg12 arg13 arg14 x2 x3 x4 x5 x6 x7 x8 row hrow h hh hr v1 hok y10 y11 e10 e11)
  isplitl [H7]; · iexact H7
  isplitl [H8]; · iexact H8
  isplitl [H10]; · iexact H10
  isplitl [H11]; · iexact H11
  isplitl [H12]; · iexact H12
  isplitl [H13]; · iexact H13
  isplitl [H14]; · iexact H14
  iintro %r ⟨H7, H8, H10, H11, H12, H13, H14⟩
  rw [wp_bind]
  unfold headRest
  rw [wp_bind, show ∀ (b : Fin (restLoop v1).trips → BitVec 32 → Prog (TpuEff nD τ sig (Elt F) Λ .tc) (BitVec 32)),
    Scf.Loop.for (restLoop v1) hok.rest r b = .ret r from fun b => Scf.for_rem_eq 0#32 (Scalar.subi (chunks v1) 0#32) hok.rest r b, wp_ret]
  imodintro
  rw [Prog.pure_eq_ret, wp_ret]
  imodintro
  iapply Hk
  isplitl [H2]; · iexact H2
  isplitl [H3]; · iexact H3
  isplitl [H4]; · iexact H4
  isplitl [H7]; · iexact H7
  isplitl [H8]; · iexact H8
  isplitl [H10]; · iexact H10
  isplitl [H11]; · iexact H11
  isplitl [H12]; · iexact H12
  isplitl [H13]; · iexact H13
  iexact H14

/-- A head's five rows, from its sums after every chunk, put into the output block. -/
def putHead (h : Nat) (hh : h < 8) {v1 : BitVec 32} (hok : Ok v1) (O : Vec F S1x72x40x128 .bf16) : Vec F S1x72x40x128 .bf16 :=
  putRows h (outRows (sums c mask h hh x2 x3 x4 x5 x6 x7 x8 hok (mainLoop v1).trips).a
    (sums c mask h hh x2 x3 x4 x5 x6 x7 x8 hok (mainLoop v1).trips).l) O

/-- A whole head, then the rest: what it takes and gives back, the output block `O` becoming `putHead … O`. -/
theorem wholeHead_run {α : Type} (row : Nat) (hrow : row < 2) (h : Nat) (hh : h < 8) (hr : h / 4 = row) (v1 : BitVec 32) (hok : Ok v1)
    (rest : Prog (TpuEff nD τ sig (Elt F) Λ .tc) α)
    (y10 y11 : Vec F S4x4096x128 .fp8e4m3) (e10 : Filled row hrow hok x5 (mainLoop v1).trips y10)
    (e11 : Filled row hrow hok x6 (mainLoop v1).trips y11) (O : Vec F S1x72x40x128 .bf16) (K : α → sProp 𝕄) :
    iprop(owns (t : Thread nD τ) arg2 fullShare x2 ∗ owns (t : Thread nD τ) arg3 fullShare x3 ∗ owns (t : Thread nD τ) arg4 fullShare x4
        ∗ owns (t : Thread nD τ) arg7 fullShare x7 ∗ owns (t : Thread nD τ) arg8 fullShare x8
        ∗ owns (t : Thread nD τ) arg9 fullShare O
        ∗ owns (t : Thread nD τ) arg10 fullShare y10 ∗ owns (t : Thread nD τ) arg11 fullShare y11
        ∗ (∃ y, owns (t : Thread nD τ) arg12 fullShare y) ∗ (∃ y, owns (t : Thread nD τ) arg13 fullShare y)
        ∗ (∃ y, owns (t : Thread nD τ) arg14 fullShare y)
        ∗ (iprop(owns (t : Thread nD τ) arg2 fullShare x2 ∗ owns (t : Thread nD τ) arg3 fullShare x3 ∗ owns (t : Thread nD τ) arg4 fullShare x4
          ∗ owns (t : Thread nD τ) arg7 fullShare x7 ∗ owns (t : Thread nD τ) arg8 fullShare x8
          ∗ owns (t : Thread nD τ) arg9 fullShare (putHead c mask x2 x3 x4 x5 x6 x7 x8 h hh hok O)
          ∗ owns (t : Thread nD τ) arg10 fullShare y10 ∗ owns (t : Thread nD τ) arg11 fullShare y11
          ∗ (∃ y, owns (t : Thread nD τ) arg12 fullShare y) ∗ (∃ y, owns (t : Thread nD τ) arg13 fullShare y)
          ∗ (∃ y, owns (t : Thread nD τ) arg14 fullShare y))
            -∗ wp frame (wpE dfs Variants.none t none) E rest K))
      ⊢ wp frame (wpE dfs Variants.none t none) E
          (wholeHead c mask arg2 arg3 arg4 arg7 arg8 arg9 harg9 arg10 arg11 arg12 arg13 arg14 h hh v1 hok rest) K := by
  unfold wholeHead
  iintro ⟨H2, H3, H4, H7, H8, H9, H10, H11, H12, H13, H14, Hk⟩
  iapply (headThen_run dfs t E c mask arg2 arg3 arg4 arg7 arg8 arg10 arg11 arg12 arg13 arg14 x2 x3 x4 x5 x6 x7 x8 row hrow h hh hr v1 hok
    _ y10 y11 e10 e11)
  isplitl [H2]; · iexact H2
  isplitl [H3]; · iexact H3
  isplitl [H4]; · iexact H4
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H2, H3, H4, H7, H8, H10, H11, H12, H13, H14⟩
  unfold headEnd
  simp only [Prog.bind_assoc, Prog.lift, Prog.bind_op, Prog.bind_ret]
  unfold owns
  icases H12 with ⟨%f12, %h12, H12⟩
  icases H14 with ⟨%f14, %h14, H14⟩
  sl_step
  sl_step
  rw [load_rows, load_rows, h12, h14, wp_bind]
  iapply (storeRows_run dfs t E arg9 harg9)
  unfold owns
  isplitl [H9]; · iexact H9
  iintro H9
  iapply Hk
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]
  · iexists _; iexists f12; isplitr
    · ipureintro; rfl
    iexact H12
  isplitl [H13]
  · iexists _; iexact H13
  · iexists _; iexists f14; isplitr
    · ipureintro; rfl
    iexact H14

end Triples

end Cert.Gqa
-- ==== Proof.Range.lean ====
/- A cache length between 0 and 4096 passes the kernel's side conditions. -/
module

public import proofs.«01_k».proof.Proof.Run
public import Idealize.ShloMosaic.Lib.Routing.Words
public import Idealize.ShloMosaic.Lib.LoopRemainder

@[expose] public section

namespace Cert.Gqa

open Idealize.ShloMosaic

/-- A cache length in the cache is the word of its value. -/
theorem word_of_range {v : BitVec 32} (h0 : 0 ≤ v.toInt) (h1 : v.toInt ≤ 4096) : v.toNat ≤ 4096 ∧ v.toInt = v.toNat := by
  rw [BitVec.toInt_eq_toNat_cond] at h0 h1 ⊢
  have := v.isLt
  split_ifs at * <;> omega

/-- The number of chunks, as a word. -/
theorem chunks_eq {v : BitVec 32} (h : v.toNat ≤ 4096) : chunks v = BitVec.ofNat 32 ((v.toNat + 511) / 512) := by
  have e : Scalar.addi v 511#32 = BitVec.ofNat 32 (v.toNat + 511) := by
    apply BitVec.eq_of_toNat_eq
    show (v + 511#32).toNat = _
    simp
  unfold chunks
  rw [e]
  exact Routing.divsi_word _ (by omega) (by omega) (by omega)

/-- Where the main loop ends: the number of chunks. -/
theorem mainEnd_eq {v : BitVec 32} (h : v.toNat ≤ 4096) : mainEnd v = BitVec.ofNat 32 ((v.toNat + 511) / 512) := by
  unfold mainEnd
  rw [Scalar.muli_divsi_one, chunks_eq h]
  generalize hn : (v.toNat + 511) / 512 = n
  have : n ≤ 8 := by omega
  interval_cases n <;> decide

/-- A loop over at most eight chunks: its trips, and that it has a meaning. -/
theorem loop_small {n : Nat} (h : n ≤ 8) : Scf.trips 0#32 (BitVec.ofNat 32 n) 1#32 = n ∧ Scf.OK 0#32 (BitVec.ofNat 32 n) 1#32 := by
  interval_cases n <;> decide

/-- The main loop has one trip per chunk. -/
theorem trips_eq {v : BitVec 32} (h : v.toNat ≤ 4096) : (mainLoop v).trips = (v.toNat + 511) / 512 := by
  show Scf.trips 0#32 (mainEnd v) 1#32 = _
  rw [mainEnd_eq h]
  exact (loop_small (by omega)).1

/-- The main loop has a meaning. -/
theorem main_ok {v : BitVec 32} (h : v.toNat ≤ 4096) : (mainLoop v).OK := by
  show Scf.OK 0#32 (mainEnd v) 1#32
  rw [mainEnd_eq h]
  exact (loop_small (by omega)).2

/-- The remainder loop has a meaning. -/
theorem rest_ok (v : BitVec 32) : (restLoop v).OK := Scf.rem_ok 0#32 (Scalar.subi (chunks v) 0#32)

/-- The remainder loop has no trips. -/
theorem rest_none {v : BitVec 32} (k : Fin (restLoop v).trips) : False := Scf.rem_no_trip 0#32 (Scalar.subi (chunks v) 0#32) k

/-- Every chunk lies in the cache. -/
theorem fits_trip {k : Nat} (h : k < 8) : Fits (trip k) := by
  unfold Fits
  rw [tok_trip (by omega)]
  omega

/-- The side conditions hold of every cache length in the cache. -/
theorem ok_of_range {v : BitVec 32} (h0 : 0 ≤ v.toInt) (h1 : v.toInt ≤ 4096) : Ok v where
  main := main_ok (word_of_range h0 h1).1
  rest := rest_ok v
  fits k := fits_trip (lt_of_lt_of_le k.isLt ((trips_eq (word_of_range h0 h1).1).trans_le (by have := (word_of_range h0 h1).1; omega)))
  fitsRest k := (rest_none k).elim

end Cert.Gqa
-- ==== Proof.KernelBody.lean ====
/- The printed body is the model's body at this program's two constants, and its side condition is the model's. -/
module

public import proofs.«01_k».proof.Proof.Gen.Kernel
public import proofs.«01_k».proof.Proof.Range
public import Idealize.ShloMosaic.Lib.Pipeline.Regions

@[expose] public section

noncomputable section

namespace Cert.Kernel

open Idealize.ShloMosaic Idealize.SL.Sem
open Cert.Gqa (Ok Fits)

variable {F : FTy → Type} [FloatOps F]

/-- The printed side condition gives the model's. -/
theorem ok_of_chk (v1 : BitVec 32) (h : k0_chk1 v1) : Ok v1 where
  main := k0_t1_ok v1 h
  rest := k0_t2_ok v1 h
  fits k := ⟨k0_off2_inb v1 h k 1, k0_mult1_dvd v1 h k⟩
  fitsRest k := ⟨k0_off10_inb v1 h k 1, k0_mult17_dvd v1 h k⟩

/-- The conjuncts of the printed side condition, part by part. -/
theorem chk_0 {v1 : BitVec 32} (h : Ok v1) : k0_chk1_0 v1 :=
  ⟨h.main,
    fun k => (h.fits k).2,
    fun k => Gqa.inbCache (n := 0) (by decide) (h.fits k),
    fun k => (h.fits k).2,
    fun k => Gqa.inbCache (n := 1) (by decide) (h.fits k),
    fun k => (h.fits k).2,
    fun k => Gqa.inbCache (n := 2) (by decide) (h.fits k),
    fun k => (h.fits k).2,
    fun k => Gqa.inbCache (n := 3) (by decide) (h.fits k),
    fun k => (h.fits k).2,
    fun k => (h.fits k).2,
    fun k => (h.fits k).2,
    fun k => (h.fits k).2,
    fun k => (h.fits k).2,
    fun k => Gqa.inbChunk (n := 0) (by decide) (h.fits k),
    fun k _ => Gqa.packedChunk (n := 0) (by decide) (h.fits k),
    fun k => (h.fits k).2,
    fun k => (h.fits k).2,
    fun k => Gqa.inbChunk (n := 1) (by decide) (h.fits k),
    fun k _ => Gqa.packedChunk (n := 1) (by decide) (h.fits k),
    fun k => (h.fits k).2,
    fun k => (h.fits k).2,
    fun k => Gqa.inbChunk (n := 2) (by decide) (h.fits k),
    fun k _ => Gqa.packedChunk (n := 2) (by decide) (h.fits k),
    fun k => (h.fits k).2,
    fun k => (h.fits k).2,
    fun k => Gqa.inbChunk (n := 3) (by decide) (h.fits k),
    fun k _ => Gqa.packedChunk (n := 3) (by decide) (h.fits k),
    fun k => (h.fits k).2,
    h.rest,
    fun k => (Gqa.rest_none (v := v1) k).elim,
    fun k => (Gqa.rest_none (v := v1) k).elim⟩
theorem chk_1 {v1 : BitVec 32} (h : Ok v1) : k0_chk1_1 v1 :=
  ⟨fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    h.main,
    fun k => (h.fits k).2,
    fun k => Gqa.inbChunk (n := 0) (by decide) (h.fits k),
    fun k => Gqa.inbScale (h.fits k),
    h.rest,
    fun k => (Gqa.rest_none (v := v1) k).elim⟩
theorem chk_2 {v1 : BitVec 32} (h : Ok v1) : k0_chk1_2 v1 :=
  ⟨fun k => (Gqa.rest_none (v := v1) k).elim,
    fun k => (Gqa.rest_none (v := v1) k).elim,
    h.main,
    fun k => (h.fits k).2,
    fun k => Gqa.inbChunk (n := 1) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 2) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 3) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbCache (n := 4) (by decide) (h.fits k),
    fun k => (h.fits k).2,
    fun k => Gqa.inbCache (n := 5) (by decide) (h.fits k),
    fun k => (h.fits k).2⟩
theorem chk_3 {v1 : BitVec 32} (h : Ok v1) : k0_chk1_3 v1 :=
  ⟨fun k => Gqa.inbCache (n := 6) (by decide) (h.fits k),
    fun k => (h.fits k).2,
    fun k => Gqa.inbCache (n := 7) (by decide) (h.fits k),
    fun k => (h.fits k).2,
    fun k => (h.fits k).2,
    fun k => (h.fits k).2,
    fun k => (h.fits k).2,
    fun k => (h.fits k).2,
    fun k => Gqa.inbChunk (n := 0) (by decide) (h.fits k),
    fun k _ => Gqa.packedChunk (n := 0) (by decide) (h.fits k),
    fun k => (h.fits k).2,
    fun k => (h.fits k).2,
    fun k => Gqa.inbChunk (n := 1) (by decide) (h.fits k),
    fun k _ => Gqa.packedChunk (n := 1) (by decide) (h.fits k),
    fun k => (h.fits k).2,
    fun k => (h.fits k).2,
    fun k => Gqa.inbChunk (n := 2) (by decide) (h.fits k),
    fun k _ => Gqa.packedChunk (n := 2) (by decide) (h.fits k),
    fun k => (h.fits k).2,
    fun k => (h.fits k).2,
    fun k => Gqa.inbChunk (n := 3) (by decide) (h.fits k),
    fun k _ => Gqa.packedChunk (n := 3) (by decide) (h.fits k),
    fun k => (h.fits k).2,
    h.rest,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim⟩
theorem chk_4 {v1 : BitVec 32} (h : Ok v1) : k0_chk1_4 v1 :=
  ⟨fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    h.main,
    fun k => (h.fits k).2,
    fun k => Gqa.inbChunk (n := 0) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 1) (by decide) (h.fits k),
    fun k => Gqa.inbScale (h.fits k)⟩
theorem chk_5 {v1 : BitVec 32} (h : Ok v1) : k0_chk1_5 v1 :=
  ⟨h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 2) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 3) (by decide) (h.fits k),
    fun k => Gqa.inbScale (h.fits k),
    h.rest,
    fun k => (Gqa.rest_none (v := v1) k).elim,
    fun k => (Gqa.rest_none (v := v1) k).elim,
    fun k => (Gqa.rest_none (v := v1) k).elim⟩

/-- The model's side condition gives the printed one. -/
theorem chk_of_ok (v1 : BitVec 32) (h : Ok v1) : k0_chk1 v1 :=
  ⟨chk_0 h, chk_1 h, chk_2 h, chk_3 h, chk_4 h, chk_5 h⟩

/-- The printed body is the model's. -/
theorem body_eq (i : grid0.Coords) (arg1 : Memref sig .tc .smem S32 .i32) (harg1 : arg1.IsWhole) (arg2 : Memref sig .tc .vmem S1x72x40x128 .bf16) (harg2 : arg2.IsWhole) (arg3 : Memref sig .tc .vmem S1x72x8x128 .bf16) (harg3 : arg3.IsWhole) (arg4 : Memref sig .tc .vmem S1x72x8x128 .bf16) (harg4 : arg4.IsWhole) (arg5 : Memref sig .tc .vmem S1x4096x8x128 .fp8e4m3) (harg5 : arg5.IsWhole) (arg6 : Memref sig .tc .vmem S1x4096x8x128 .fp8e4m3) (harg6 : arg6.IsWhole) (arg7 : Memref sig .tc .vmem S1x8x4096 .f32) (harg7 : arg7.IsWhole) (arg8 : Memref sig .tc .vmem S1x8x4096 .f32) (harg8 : arg8.IsWhole) (arg9 : Memref sig .tc .vmem S1x72x40x128 .bf16) (harg9 : arg9.IsWhole) (arg10 : Memref sig .tc .vmem S4x4096x128 .fp8e4m3) (harg10 : arg10.IsWhole) (arg11 : Memref sig .tc .vmem S4x4096x128 .fp8e4m3) (harg11 : arg11.IsWhole) (arg12 : Memref sig .tc .vmem S360x128 .f32) (harg12 : arg12.IsWhole) (arg13 : Memref sig .tc .vmem S360x128 .f32) (harg13 : arg13.IsWhole) (arg14 : Memref sig .tc .vmem S360x128 .f32) (harg14 : arg14.IsWhole) :
    (cc0_gqa_fp8_decode (F := F) i arg1 harg1 arg2 harg2 arg3 harg3 arg4 harg4 arg5 harg5 arg6 harg6 arg7 harg7 arg8 harg8 arg9 harg9 arg10 harg10 arg11 harg11 arg12 harg12 arg13 harg13 arg14 harg14 : Prog (TpuEff nD τ sig (Elt F) Λ₀ .tc) PUnit) =
    Gqa.body (Scalar.ofBits .f32 0x3E0293EE#32) (Scalar.ofBits .f32 0xF149F2CA#32) arg2 arg3 arg4 arg5 arg6 arg7 arg8 arg9 harg9 arg10 harg10 arg11 harg11 arg12 arg13 arg14
      arg1 (k0_off1 i) (Gen.k0_off1_inb i) k0_chk1 k0_chk1.dec ok_of_chk := by
  chain_rfl

end Cert.Kernel
-- ==== Proof.Body.lean ====
/- The whole body's triple: from the inputs' blocks and any scratch contents to the output block `outBlock`. -/
module

public import proofs.«01_k».proof.Proof.Run

@[expose] public section

set_option maxRecDepth 16384

noncomputable section

namespace Cert.Gqa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow

section Block
variable {F : FTy → Type} [FloatOps F]
variable (c mask : F .f32)
variable (x2 : Vec F S1x72x40x128 .bf16) (x3 x4 : Vec F S1x72x8x128 .bf16)
  (x5 x6 : Vec F S1x4096x8x128 .fp8e4m3) (x7 x8 : Vec F S1x8x4096 .f32) {v1 : BitVec 32} (hok : Ok v1)

/-- All eight heads put into an output block. -/
def putHeads (O : Vec F S1x72x40x128 .bf16) : Vec F S1x72x40x128 .bf16 :=
  putHead c mask x2 x3 x4 x5 x6 x7 x8 7 (by decide) hok <| putHead c mask x2 x3 x4 x5 x6 x7 x8 6 (by decide) hok <|
  putHead c mask x2 x3 x4 x5 x6 x7 x8 5 (by decide) hok <| putHead c mask x2 x3 x4 x5 x6 x7 x8 4 (by decide) hok <|
  putHead c mask x2 x3 x4 x5 x6 x7 x8 3 (by decide) hok <| putHead c mask x2 x3 x4 x5 x6 x7 x8 2 (by decide) hok <|
  putHead c mask x2 x3 x4 x5 x6 x7 x8 1 (by decide) hok <| putHead c mask x2 x3 x4 x5 x6 x7 x8 0 (by decide) hok O

/-- What the output block ends at: at head row `5 * h + g` it is group `g` of head `h`'s rows. -/
def outBlock : Vec F S1x72x40x128 .bf16 := fun y =>
  outGroup ((y 2).val % 5) (Nat.mod_lt _ (by decide))
    (outRows (sums c mask ((y 2).val / 5) (Nat.div_lt_of_lt_mul (y 2).isLt) x2 x3 x4 x5 x6 x7 x8 hok (mainLoop v1).trips).a
      (sums c mask ((y 2).val / 5) (Nat.div_lt_of_lt_mul (y 2).isLt) x2 x3 x4 x5 x6 x7 x8 hok (mainLoop v1).trips).l)
    (Fin.cons (y 0) (Fin.cons (y 1) (Fin.cons ⟨0, Nat.one_pos⟩ (Fin.cons (y 3) finZeroElim))) : S1x72x1x128.Idx)

/-- The block agrees with `outBlock` on the head rows before `n`. -/
def Done (n : Nat) (O : Vec F S1x72x40x128 .bf16) : Prop :=
  ∀ y : S1x72x40x128.Idx, (y 2).val < n → O y = outBlock c mask x2 x3 x4 x5 x6 x7 x8 hok y

theorem putRow_apply (n : Nat) (w : FVec F S1x72x1x128 .bf16) (O : Vec F S1x72x40x128 .bf16) (y : S1x72x40x128.Idx) :
    putRow n w O y = if (y 2).val = n then
      w (Fin.cons (y 0) (Fin.cons (y 1) (Fin.cons ⟨0, Nat.one_pos⟩ (Fin.cons (y 3) finZeroElim))) : S1x72x1x128.Idx) else O y := by
  have h0 : (y 0).val < 1 := (y 0).isLt
  have h1 : (y 1).val < 72 := (y 1).isLt
  have h3 : (y 3).val < 128 := (y 3).isLt
  have e1 : (∀ a : Fin 4, (![0, 0, n, 0] : Fin 4 → Nat) a ≤ (y a).val ∧ (y a).val < (![0, 0, n, 0] : Fin 4 → Nat) a + S1x72x1x128.size a) ↔ (y 2).val = n := by
    simp only [Fin.forall_fin_succ]
    simp
    omega
  unfold putRow put
  by_cases hy : (y 2).val = n
  · rw [dif_pos (e1.mpr hy), if_pos hy]
    refine congrArg w (funext fun a => Fin.ext ?_)
    fin_cases a
    · rfl
    · rfl
    · show (y 2).val - n = 0
      omega
    · rfl
  · rw [dif_neg (fun h => hy (e1.mp h)), if_neg hy]

/-- One row more. -/
theorem Done.row {h g : Nat} (hh : h < 8) (hg : g < 5) {O : Vec F S1x72x40x128 .bf16}
    (H : Done c mask x2 x3 x4 x5 x6 x7 x8 hok (5 * h + g) O) :
    Done c mask x2 x3 x4 x5 x6 x7 x8 hok (5 * h + (g + 1)) (putRow (5 * h + g)
      (outGroup g hg (outRows (sums c mask h hh x2 x3 x4 x5 x6 x7 x8 hok (mainLoop v1).trips).a
        (sums c mask h hh x2 x3 x4 x5 x6 x7 x8 hok (mainLoop v1).trips).l)) O) := by
  intro y hy
  rw [putRow_apply]
  split
  · rename_i e
    unfold outBlock
    have e1 : (y 2).val / 5 = h := by omega
    have e2 : (y 2).val % 5 = g := by omega
    subst e1 e2
    rfl
  · exact H y (by omega)

/-- One head more. -/
theorem Done.head {h : Nat} (hh : h < 8) {O : Vec F S1x72x40x128 .bf16}
    (H : Done c mask x2 x3 x4 x5 x6 x7 x8 hok (5 * h) O) :
    Done c mask x2 x3 x4 x5 x6 x7 x8 hok (5 * (h + 1)) (putHead c mask x2 x3 x4 x5 x6 x7 x8 h hh hok O) := by
  unfold putHead putRows
  exact Done.row (g := 4) c mask x2 x3 x4 x5 x6 x7 x8 hok hh (by decide) <| Done.row (g := 3) c mask x2 x3 x4 x5 x6 x7 x8 hok hh (by decide) <|
    Done.row (g := 2) c mask x2 x3 x4 x5 x6 x7 x8 hok hh (by decide) <| Done.row (g := 1) c mask x2 x3 x4 x5 x6 x7 x8 hok hh (by decide) <|
    Done.row (g := 0) c mask x2 x3 x4 x5 x6 x7 x8 hok hh (by decide) H

/-- The eight heads cover the block. -/
theorem putHeads_eq (O : Vec F S1x72x40x128 .bf16) :
    putHeads c mask x2 x3 x4 x5 x6 x7 x8 hok O = outBlock c mask x2 x3 x4 x5 x6 x7 x8 hok := by
  funext y
  refine (?_ : Done c mask x2 x3 x4 x5 x6 x7 x8 hok (5 * 8) _) y (y 2).isLt
  unfold putHeads
  iterate 8 refine Done.head c mask x2 x3 x4 x5 x6 x7 x8 hok _ ?_
  intro y hy
  omega

end Block

section Triple
variable {nD : Nat} {τ : Topo} {sig : RefSig} {Λ : Labels} {F : FTy → Type} [FloatOps F]
local notation "𝕄" => MT nD τ sig Unit (Elt F) ℕ (UR sig nD τ) ℕ
variable (dfs : Defs nD τ sig (Elt F) Λ) (t : Dev nD) (E : Set ℕ)
variable (c mask : F .f32)
variable (arg2 : Memref sig .tc .vmem S1x72x40x128 .bf16) (arg3 arg4 : Memref sig .tc .vmem S1x72x8x128 .bf16)
  (arg5 arg6 : Memref sig .tc .vmem S1x4096x8x128 .fp8e4m3) (arg7 arg8 : Memref sig .tc .vmem S1x8x4096 .f32)
  (arg9 : Memref sig .tc .vmem S1x72x40x128 .bf16) (harg9 : arg9.IsWhole)
  (arg10 : Memref sig .tc .vmem S4x4096x128 .fp8e4m3) (harg10 : arg10.IsWhole)
  (arg11 : Memref sig .tc .vmem S4x4096x128 .fp8e4m3) (harg11 : arg11.IsWhole)
  (arg12 arg13 arg14 : Memref sig .tc .vmem S360x128 .f32)
variable (x2 : Vec F S1x72x40x128 .bf16) (x3 x4 : Vec F S1x72x8x128 .bf16)
  (x5 x6 : Vec F S1x4096x8x128 .fp8e4m3) (x7 x8 : Vec F S1x8x4096 .f32)

/-- The word of the table that the body reads. -/
def wordAt (x1 : Vec F S32 .i32) (off : Fin 1 → Nat) (hoff : ∀ a, off a + S1.size a ≤ S32.size a) : BitVec 32 :=
  window x1 off S1.size hoff (Shape.Idx.first (numel1.symm ▸ Nat.one_pos))

/-- What the body holds between two heads, the caches' scratch filled with the heads of row `row`: the inputs' blocks, the output
    block at `O`, the scratch memories. -/
def Held (row : Nat) (hrow : row < 2) {v1 : BitVec 32} (hok : Ok v1) (O : Vec F S1x72x40x128 .bf16) : sProp 𝕄 :=
  iprop(owns (t : Thread nD τ) arg2 fullShare x2 ∗ owns (t : Thread nD τ) arg3 fullShare x3 ∗ owns (t : Thread nD τ) arg4 fullShare x4
    ∗ owns (t : Thread nD τ) arg5 fullShare x5 ∗ owns (t : Thread nD τ) arg6 fullShare x6
    ∗ owns (t : Thread nD τ) arg7 fullShare x7 ∗ owns (t : Thread nD τ) arg8 fullShare x8
    ∗ owns (t : Thread nD τ) arg9 fullShare O
    ∗ (∃ y, ⌜Filled row hrow hok x5 (mainLoop v1).trips y⌝ ∗ owns (t : Thread nD τ) arg10 fullShare y)
    ∗ (∃ y, ⌜Filled row hrow hok x6 (mainLoop v1).trips y⌝ ∗ owns (t : Thread nD τ) arg11 fullShare y)
    ∗ (∃ y, owns (t : Thread nD τ) arg12 fullShare y) ∗ (∃ y, owns (t : Thread nD τ) arg13 fullShare y)
    ∗ (∃ y, owns (t : Thread nD τ) arg14 fullShare y))

/-- The same with the caches' scratch at anything. -/
def Loose (O : Vec F S1x72x40x128 .bf16) : sProp 𝕄 :=
  iprop(owns (t : Thread nD τ) arg2 fullShare x2 ∗ owns (t : Thread nD τ) arg3 fullShare x3 ∗ owns (t : Thread nD τ) arg4 fullShare x4
    ∗ owns (t : Thread nD τ) arg5 fullShare x5 ∗ owns (t : Thread nD τ) arg6 fullShare x6
    ∗ owns (t : Thread nD τ) arg7 fullShare x7 ∗ owns (t : Thread nD τ) arg8 fullShare x8
    ∗ owns (t : Thread nD τ) arg9 fullShare O
    ∗ (∃ y, owns (t : Thread nD τ) arg10 fullShare y) ∗ (∃ y, owns (t : Thread nD τ) arg11 fullShare y)
    ∗ (∃ y, owns (t : Thread nD τ) arg12 fullShare y) ∗ (∃ y, owns (t : Thread nD τ) arg13 fullShare y)
    ∗ (∃ y, owns (t : Thread nD τ) arg14 fullShare y))

theorem loose_of_held {row : Nat} {hrow : row < 2} {v1 : BitVec 32} {hok : Ok v1} {O : Vec F S1x72x40x128 .bf16} : Held (τ := τ) t arg2 arg3 arg4 arg5 arg6 arg7 arg8 arg9 arg10 arg11 arg12 arg13 arg14 x2 x3 x4 x5 x6 x7 x8 row hrow hok O ⊢ Loose (τ := τ) t arg2 arg3 arg4 arg5 arg6 arg7 arg8 arg9 arg10 arg11 arg12 arg13 arg14 x2 x3 x4 x5 x6 x7 x8 O := by
  unfold Held Loose
  iintro ⟨H2, H3, H4, H5, H6, H7, H8, H9, ⟨%y10, %e10, H10⟩, ⟨%y11, %e11, H11⟩, H12, H13, H14⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists y10; iexact H10
  isplitl [H11]; · iexists y11; iexact H11
  isplitl [H12]; · iexact H12
  isplitl [H13]; · iexact H13
  iexact H14

/-- A fill, from the bundle to the bundle. -/
theorem fill_held {α : Type} (row : Nat) (hrow : row < 2) (v1 : BitVec 32) (hok : Ok v1)
    (rest : Prog (TpuEff nD τ sig (Elt F) Λ .tc) α) (O : Vec F S1x72x40x128 .bf16) (K : α → sProp 𝕄) :
    iprop(Loose (τ := τ) t arg2 arg3 arg4 arg5 arg6 arg7 arg8 arg9 arg10 arg11 arg12 arg13 arg14 x2 x3 x4 x5 x6 x7 x8 O ∗ (Held (τ := τ) t arg2 arg3 arg4 arg5 arg6 arg7 arg8 arg9 arg10 arg11 arg12 arg13 arg14 x2 x3 x4 x5 x6 x7 x8 row hrow hok O -∗ wp frame (wpE dfs Variants.none t none) E rest K))
      ⊢ wp frame (wpE dfs Variants.none t none) E (fillThen arg5 arg6 arg10 harg10 arg11 harg11 row hrow v1 hok rest) K := by
  unfold Held Loose
  iintro ⟨⟨H2, H3, H4, H5, H6, H7, H8, H9, H10, H11, H12, H13, H14⟩, Hk⟩
  iapply (fillThen_run dfs t E arg5 arg6 arg10 harg10 arg11 harg11 x5 x6 row hrow v1 hok rest K)
  isplitl [H5]; · iexact H5
  isplitl [H6]; · iexact H6
  isplitl [H10]; · iexact H10
  isplitl [H11]; · iexact H11
  iintro ⟨H5, H6, H10, H11⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- A whole head, from the bundle to the bundle. -/
theorem head_held {α : Type} (row : Nat) (hrow : row < 2) (h : Nat) (hh : h < 8) (hr : h / 4 = row) (v1 : BitVec 32) (hok : Ok v1)
    (rest : Prog (TpuEff nD τ sig (Elt F) Λ .tc) α) (O : Vec F S1x72x40x128 .bf16) (K : α → sProp 𝕄) :
    iprop(Held (τ := τ) t arg2 arg3 arg4 arg5 arg6 arg7 arg8 arg9 arg10 arg11 arg12 arg13 arg14 x2 x3 x4 x5 x6 x7 x8 row hrow hok O ∗ (Held (τ := τ) t arg2 arg3 arg4 arg5 arg6 arg7 arg8 arg9 arg10 arg11 arg12 arg13 arg14 x2 x3 x4 x5 x6 x7 x8 row hrow hok (putHead c mask x2 x3 x4 x5 x6 x7 x8 h hh hok O)
        -∗ wp frame (wpE dfs Variants.none t none) E rest K))
      ⊢ wp frame (wpE dfs Variants.none t none) E
          (wholeHead c mask arg2 arg3 arg4 arg7 arg8 arg9 harg9 arg10 arg11 arg12 arg13 arg14 h hh v1 hok rest) K := by
  unfold Held
  iintro ⟨⟨H2, H3, H4, H5, H6, H7, H8, H9, ⟨%y10, %e10, H10⟩, ⟨%y11, %e11, H11⟩, H12, H13, H14⟩, Hk⟩
  iapply (wholeHead_run dfs t E c mask arg2 arg3 arg4 arg7 arg8 arg9 harg9 arg10 arg11 arg12 arg13 arg14 x2 x3 x4 x5 x6 x7 x8
    row hrow h hh hr v1 hok rest y10 y11 e10 e11 O K)
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H7, H8, H9, H10, H11, H12, H13, H14⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists y10; isplitr; · ipureintro; exact e10
    iexact H10
  isplitl [H11]
  · iexists y11; isplitr; · ipureintro; exact e11
    iexact H11
  isplitl [H12]; · iexact H12
  isplitl [H13]; · iexact H13
  iexact H14

/-- All the heads and the last head's stores: the program after the table's word is checked. -/
def tail (v1 : BitVec 32) (hok : Ok v1) : Prog (TpuEff nD τ sig (Elt F) Λ .tc) PUnit := do
  let acc : Vec F S360x128 .f32 ← heads c mask arg2 arg3 arg4 arg5 arg6 arg7 arg8 arg9 harg9 arg10 harg10 arg11 harg11 arg12 arg13 arg14 v1 hok
  let l : Vec F S360x128 .f32 ← Prog.lift (.load arg14 (Rect.unit (s := S360x128) ![0, 0] S360x128.size inbRows).toLoadRect (View.loadsAt_vmem h_rows))
  storeRows arg9 harg9 7 (by decide) (outRows acc l)

/-- The last head's stores after its loop, from the last head's sums. -/
theorem tail_run (v1 : BitVec 32) (hok : Ok v1) (O : Vec F S1x72x40x128 .bf16) (K : PUnit → sProp 𝕄) :
    iprop(Loose (τ := τ) t arg2 arg3 arg4 arg5 arg6 arg7 arg8 arg9 arg10 arg11 arg12 arg13 arg14 x2 x3 x4 x5 x6 x7 x8 O ∗ (Loose (τ := τ) t arg2 arg3 arg4 arg5 arg6 arg7 arg8 arg9 arg10 arg11 arg12 arg13 arg14 x2 x3 x4 x5 x6 x7 x8 (outBlock c mask x2 x3 x4 x5 x6 x7 x8 hok) -∗ K ⟨⟩))
      ⊢ wp frame (wpE dfs Variants.none t none) E
          (tail c mask arg2 arg3 arg4 arg5 arg6 arg7 arg8 arg9 harg9 arg10 harg10 arg11 harg11 arg12 arg13 arg14 v1 hok) K := by
  rw [← putHeads_eq c mask x2 x3 x4 x5 x6 x7 x8 hok O]
  unfold putHeads tail heads
  rw [wp_bind]
  iintro ⟨H, Hk⟩
  iapply (fill_held dfs t E arg2 arg3 arg4 arg5 arg6 arg7 arg8 arg9 arg10 harg10 arg11 harg11 arg12 arg13 arg14 x2 x3 x4 x5 x6 x7 x8)
  isplitl [H]; · iexact H
  iintro H
  iterate 4
    iapply (head_held dfs t E c mask arg2 arg3 arg4 arg5 arg6 arg7 arg8 arg9 harg9 arg10 arg11 arg12 arg13 arg14 x2 x3 x4 x5 x6 x7 x8
      0 (by decide) _ _ (by decide))
    isplitl [H]; · iexact H
    iintro H
  iapply (fill_held dfs t E arg2 arg3 arg4 arg5 arg6 arg7 arg8 arg9 arg10 harg10 arg11 harg11 arg12 arg13 arg14 x2 x3 x4 x5 x6 x7 x8)
  isplitl [H]; · iapply (loose_of_held (τ := τ) t arg2 arg3 arg4 arg5 arg6 arg7 arg8 arg9 arg10 arg11 arg12 arg13 arg14 x2 x3 x4 x5 x6 x7 x8); iexact H
  iintro H
  iterate 3
    iapply (head_held dfs t E c mask arg2 arg3 arg4 arg5 arg6 arg7 arg8 arg9 harg9 arg10 arg11 arg12 arg13 arg14 x2 x3 x4 x5 x6 x7 x8
      1 (by decide) _ _ (by decide))
    isplitl [H]; · iexact H
    iintro H
  unfold Held Loose
  icases H with ⟨H2, H3, H4, H5, H6, H7, H8, H9, ⟨%y10, %e10, H10⟩, ⟨%y11, %e11, H11⟩, H12, H13, H14⟩
  iapply (headThen_run dfs t E c mask arg2 arg3 arg4 arg7 arg8 arg10 arg11 arg12 arg13 arg14 x2 x3 x4 x5 x6 x7 x8 1 _ 7 _ rfl v1 hok
    _ y10 y11 e10 e11)
  isplitl [H2]; · iexact H2
  isplitl [H3]; · iexact H3
  isplitl [H4]; · iexact H4
  isplitl [H7]; · iexact H7
  isplitl [H8]; · iexact H8
  isplitl [H10]; · iexact H10
  isplitl [H11]; · iexact H11
  isplitl [H12]; · iexact H12
  isplitl [H13]; · iexact H13
  isplitl [H14]; · iexact H14
  iintro ⟨H2, H3, H4, H7, H8, H10, H11, H12, H13, H14⟩
  simp only [Prog.lift, Prog.bind_op, Prog.bind_ret]
  unfold owns
  icases H12 with ⟨%f12, %h12, H12⟩
  icases H14 with ⟨%f14, %h14, H14⟩
  sl_step
  sl_step
  sl_step
  rw [load_rows, load_rows, h12, h14]
  iapply (storeRows_run dfs t E arg9 harg9)
  unfold owns
  isplitl [H9]; · iexact H9
  iintro H9
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists y10; iexact H10
  isplitl [H11]; · iexists y11; iexact H11
  isplitl [H12]
  · iexists _; iexists f12; isplitr
    · ipureintro; rfl
    iexact H12
  isplitl [H13]
  · iexists _; iexact H13
  · iexists _; iexists f14; isplitr
    · ipureintro; rfl
    iexact H14

/-- THE BODY, on any memories: where the side condition holds of the word read, the inputs stay as they are, the scratch
    memories end at something, the output block at `outBlock`. -/
theorem body_run (arg1 : Memref sig .tc .smem S32 .i32) (off : Fin 1 → Nat) (hoff : ∀ a, off a + S1.size a ≤ S32.size a)
    (chk : BitVec 32 → Prop) (dec : ∀ v, Decidable (chk v)) (hchk : ∀ v, chk v → Ok v) (q : PosShare TreeShare) (x1 : Vec F S32 .i32)
    (hv : chk (wordAt x1 off hoff)) (O : Vec F S1x72x40x128 .bf16) (K : PUnit → sProp 𝕄) :
    iprop(owns (t : Thread nD τ) arg1 q x1 ∗ Loose (τ := τ) t arg2 arg3 arg4 arg5 arg6 arg7 arg8 arg9 arg10 arg11 arg12 arg13 arg14 x2 x3 x4 x5 x6 x7 x8 O
        ∗ (iprop(owns (t : Thread nD τ) arg1 q x1 ∗ Loose (τ := τ) t arg2 arg3 arg4 arg5 arg6 arg7 arg8 arg9 arg10 arg11 arg12 arg13 arg14 x2 x3 x4 x5 x6 x7 x8 (outBlock c mask x2 x3 x4 x5 x6 x7 x8 (hchk _ hv))) -∗ K ⟨⟩))
      ⊢ wp frame (wpE dfs Variants.none t none) E
          (body c mask arg2 arg3 arg4 arg5 arg6 arg7 arg8 arg9 harg9 arg10 harg10 arg11 harg11 arg12 arg13 arg14 arg1 off hoff chk dec hchk) K := by
  have hb : body (nD := nD) (τ := τ) (Λ := Λ) c mask arg2 arg3 arg4 arg5 arg6 arg7 arg8 arg9 harg9 arg10 harg10 arg11 harg11 arg12 arg13 arg14 arg1 off hoff chk dec hchk
      = Prog.op (TpuEff.load arg1 (Rect.unit (s := S32) off S1.size hoff).toLoadRect (View.loadsAt_rect (View.loads_smem_one rfl numel1))) fun f =>
        Prog.op (TpuEff.assume (chk (f (Shape.Idx.first (numel1.symm ▸ Nat.one_pos)))) (dec _)) fun h =>
          tail c mask arg2 arg3 arg4 arg5 arg6 arg7 arg8 arg9 harg9 arg10 harg10 arg11 harg11 arg12 arg13 arg14 _ (hchk _ h.down) := rfl
  rw [hb]
  iintro ⟨H1, H, Hk⟩
  unfold owns
  icases H1 with ⟨%f1, %h1, H1⟩
  iapply (wp_load_rect Variants.none (t : Thread nD τ) none E (m := arg1) (r := Rect.unit (s := S32) off S1.size hoff) (View.set_slice_subset _ _)) $$ H1
  iintro H1
  have hw : (arg1.access (Rect.unit (s := S32) off S1.size hoff)).read (Elt F) f1 = window x1 off S1.size hoff := by rw [← h1]; rfl
  rw [hw]
  iapply (wp_assume Variants.none (t : Thread nD τ) none E hv)
  iapply (tail_run dfs t E c mask arg2 arg3 arg4 arg5 arg6 arg7 arg8 arg9 harg9 arg10 harg10 arg11 harg11 arg12 arg13 arg14 x2 x3 x4 x5 x6 x7 x8 _ (hchk _ hv) O)
  isplitl [H]; · iexact H
  iintro H
  iapply Hk
  isplitl [H1]
  · iexists f1; isplitr; · ipureintro; exact h1
    iexact H1
  iexact H

end Triple

end Cert.Gqa
-- ==== Proof.KernelLaunch.lean ====
/- The launch of Kernel: the host's two transposes, then one pipelined region with the table of cache lengths prefetched.
   The proof data says what every window's buffer holds after each grid point; the body's triple gives the obligation; the
   library's launch theorem gives the run. -/
module

public import proofs.«01_k».proof.Proof.KernelBody
public import proofs.«01_k».proof.Proof.Body
public import proofs.«01_k».proof.Proof.Gen.Kernel.Launch
public import Idealize.ShloMosaic.Lib.Pipeline.Frame
public import Idealize.ShloMosaic.Lib.Pipeline.FrameBody
public import Idealize.ShloMosaic.Lib.Claim

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two constants of the body: the score scale and the value of a masked score. -/
abbrev scoreScale : F .f32 := Scalar.ofBits .f32 0x3E0293EE#32
abbrev maskValue : F .f32 := Scalar.ofBits .f32 0xF149F2CA#32

/-! ## The memory when the region is entered -/

/-- The buffers after the host's two transposes. -/
abbrev V0 (c : Dev nD) : Valuation τ sig (Elt F) := StableHlo.after hostOps0 (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- A buffer that neither transpose writes is as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! ## The prefetched table -/

/-- The table of cache lengths as the region finds it. -/
def lens : Vec F S32 .i32 := V m (0 : Dev nD) main_arg7
/-- It as the pipeline's tables. -/
def tbl : pre0.Contents (Elt F) := fun k => V m (0 : Dev nD) (pre0.ref k)
abbrev adm : (pcfg0 (F := F)).Adm := ⟨tbl m, trivial⟩
/-- The pipeline at that table. -/
abbrev cfgA : Cfg sig Λ₀ := cfg0 (adm m)
abbrev cfgs : Fin 1 → Cfg sig Λ₀ := Pipeline.pin pcfgs fun _ => adm m

theorem V_pre (c : Dev nD) (k : Fin pre0.K) : V m c (pre0.ref k) = tbl m k := by
  obtain rfl : c = (0 : Dev nD) := Subsingleton.elim _ _
  rfl

/-- The word the body reads at point `i` meets the body's side condition. -/
def Admits : Prop := ∀ i : grid0.Coords, k0_chk1 (Gqa.wordAt (lens m) (k0_off1 i) (k0_off1_inb i))

/-! ## The proof data -/

/-- Window `w`'s block at point `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

variable (hO : Admits m)

/-- The output block at point `t`. -/
def oblk (c : Dev nD) (t : Fin (cfgA m).N) : Vec F S1x72x40x128 .bf16 :=
  Gqa.outBlock scoreScale maskValue (iblk m c 0 t) (iblk m c 1 t) (iblk m c 2 t) (iblk m c 3 t) (iblk m c 4 t) (iblk m c 5 t) (iblk m c 6 t)
    (ok_of_chk _ (hO (grid0.coords t)))

/-- Every input's buffer holds its block after the body; the output's holds `oblk`; the body's scratch memories, the generator
    register and half of the table are carried along. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oblk m hO c t
  Φ _ := iprop(Pipeline.ΦA spec0 c ∗ Pipeline.ΦT pre0 (tbl m) c)
  q _ := fullShare
  owed _ := 0

theorem A_eq (c : Dev nD) (w : Fin (cfgA m).W) : (dats m hO 0 c).A w = V m c (Pipeline.arrRef spec0 w) := by
  dsimp only [dats]
theorem after0 (c : Dev nD) (t : Fin (cfgA m).N) : (dats m hO 0 c).after 0 t = iblk m c 0 t := rfl
theorem after1 (c : Dev nD) (t : Fin (cfgA m).N) : (dats m hO 0 c).after 1 t = iblk m c 1 t := rfl
theorem after2 (c : Dev nD) (t : Fin (cfgA m).N) : (dats m hO 0 c).after 2 t = iblk m c 2 t := rfl
theorem after3 (c : Dev nD) (t : Fin (cfgA m).N) : (dats m hO 0 c).after 3 t = iblk m c 3 t := rfl
theorem after4 (c : Dev nD) (t : Fin (cfgA m).N) : (dats m hO 0 c).after 4 t = iblk m c 4 t := rfl
theorem after5 (c : Dev nD) (t : Fin (cfgA m).N) : (dats m hO 0 c).after 5 t = iblk m c 5 t := rfl
theorem after6 (c : Dev nD) (t : Fin (cfgA m).N) : (dats m hO 0 c).after 6 t = iblk m c 6 t := rfl
theorem after7 (c : Dev nD) (t : Fin (cfgA m).N) : (dats m hO 0 c).after 7 t = oblk m hO c t := rfl

/-- Input window 0's buffer holds its block when the body starts. -/
theorem before0 (c : Dev nD) (t : Fin (cfgA m).N) (d) : (dats m hO 0 c).before 0 t d = iblk m c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's buffer holds its block when the body starts. -/
theorem before1 (c : Dev nD) (t : Fin (cfgA m).N) (d) : (dats m hO 0 c).before 1 t d = iblk m c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's buffer holds its block when the body starts. -/
theorem before2 (c : Dev nD) (t : Fin (cfgA m).N) (d) : (dats m hO 0 c).before 2 t d = iblk m c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's buffer holds its block when the body starts. -/
theorem before3 (c : Dev nD) (t : Fin (cfgA m).N) (d) : (dats m hO 0 c).before 3 t d = iblk m c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's buffer holds its block when the body starts. -/
theorem before4 (c : Dev nD) (t : Fin (cfgA m).N) (d) : (dats m hO 0 c).before 4 t d = iblk m c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's buffer holds its block when the body starts. -/
theorem before5 (c : Dev nD) (t : Fin (cfgA m).N) (d) : (dats m hO 0 c).before 5 t d = iblk m c 5 t :=
  ((dats m hO 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- Input window 6's buffer holds its block when the body starts. -/
theorem before6 (c : Dev nD) (t : Fin (cfgA m).N) (d) : (dats m hO 0 c).before 6 t d = iblk m c 6 t :=
  ((dats m hO 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body obligation -/

/-- The current staging memref of window `w` at point `t`. -/
abbrev st (w : Fin 8) (t : Fin (cfgA m).N) := ((cfgA m).win w).stage ((cfgA m).slots t w)

/-- The kernel's body at point `t`, on what the pipeline calls it with. -/
abbrev bodyAt (t : Fin (cfgA m).N) : Prog (TpuEff nD τ sig (Elt F) Λ₀ .tc) PUnit :=
  cc0_gqa_fp8_decode (grid0.coords t) (Memref.whole main_arg7) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem defs₀_row (t : Fin (cfgA m).N) :
    defs₀ (F := F) .tc (cfgA m).body ((cfgA m).bodyArgs t ((cfgA m).slots t)) = bodyAt m t := by
  unfold defs₀; rw [Defs.onTc_tc]

/-- It is the model's. -/
theorem bodyAt_eq (t : Fin (cfgA m).N) : bodyAt m t =
    Gqa.body scoreScale maskValue (st m 0 t) (st m 1 t) (st m 2 t) (st m 3 t) (st m 4 t) (st m 5 t) (st m 6 t) (st m 7 t)
      (hstage0_7 (((cfgA m).slots t 7).cast nbuf0_7)) (Memref.whole cc0_scratch0) (Memref.isWhole_whole _) (Memref.whole cc0_scratch1) (Memref.isWhole_whole _)
      (Memref.whole cc0_scratch2) (Memref.whole cc0_scratch3) (Memref.whole cc0_scratch4)
      (Memref.whole main_arg7) (k0_off1 (grid0.coords t)) (k0_off1_inb _) k0_chk1 k0_chk1.dec ok_of_chk :=
  body_eq _ _ _ _ _ _ _ _ _ _ _ _ _ _ _ _ _ _ _ _ _ _ _ _ _ _ _ _ _

def bodyPre (c : Dev nD) (t : Fin (cfgA m).N) : sProp 𝕄 :=
  iprop((dats m hO 0 c).Φ t.castSucc ∗ (dats m hO 0 c).owesAt () t.castSucc
    ∗ (∃ d, owns (c : Thread nD τ) (st m 0 t) fullShare ((dats m hO 0 c).before 0 t d))
    ∗ (∃ d, owns (c : Thread nD τ) (st m 1 t) fullShare ((dats m hO 0 c).before 1 t d))
    ∗ (∃ d, owns (c : Thread nD τ) (st m 2 t) fullShare ((dats m hO 0 c).before 2 t d))
    ∗ (∃ d, owns (c : Thread nD τ) (st m 3 t) fullShare ((dats m hO 0 c).before 3 t d))
    ∗ (∃ d, owns (c : Thread nD τ) (st m 4 t) fullShare ((dats m hO 0 c).before 4 t d))
    ∗ (∃ d, owns (c : Thread nD τ) (st m 5 t) fullShare ((dats m hO 0 c).before 5 t d))
    ∗ (∃ d, owns (c : Thread nD τ) (st m 6 t) fullShare ((dats m hO 0 c).before 6 t d))
    ∗ (∃ d, owns (c : Thread nD τ) (st m 7 t) fullShare ((dats m hO 0 c).before 7 t d)))

def bodyPost (c : Dev nD) (t : Fin (cfgA m).N) : sProp 𝕄 :=
  iprop((dats m hO 0 c).Φ t.succ ∗ (dats m hO 0 c).owesAt () t.succ
    ∗ owns (c : Thread nD τ) (st m 0 t) fullShare ((dats m hO 0 c).after 0 t)
    ∗ owns (c : Thread nD τ) (st m 1 t) fullShare ((dats m hO 0 c).after 1 t)
    ∗ owns (c : Thread nD τ) (st m 2 t) fullShare ((dats m hO 0 c).after 2 t)
    ∗ owns (c : Thread nD τ) (st m 3 t) fullShare ((dats m hO 0 c).after 3 t)
    ∗ owns (c : Thread nD τ) (st m 4 t) fullShare ((dats m hO 0 c).after 4 t)
    ∗ owns (c : Thread nD τ) (st m 5 t) fullShare ((dats m hO 0 c).after 5 t)
    ∗ owns (c : Thread nD τ) (st m 6 t) fullShare ((dats m hO 0 c).after 6 t)
    ∗ owns (c : Thread nD τ) (st m 7 t) fullShare ((dats m hO 0 c).after 7 t))

/-- A whole buffer at some contents is its memref held at some contents, -/
theorem some_owns (c : Dev nD) (b : Ref sig .tc) : (iprop(∃ f : Buf (Elt F) ((c : Thread nD τ).loc b), ((c : Thread nD τ).loc b) ↦{fullShare} f) : sProp 𝕄)
    ⊢ iprop(∃ y, owns (c : Thread nD τ) (Memref.whole b) fullShare y) := by
  iintro ⟨%f, H⟩; iexists f
  rw [owns_whole_eq (c : Thread nD τ) b]
  iexists f; isplitr; · ipureintro; rfl
  iexact H
/-- and back. -/
theorem owns_some (c : Dev nD) (b : Ref sig .tc) : (iprop(∃ y, owns (c : Thread nD τ) (Memref.whole b) fullShare y) : sProp 𝕄)
    ⊢ iprop(∃ f : Buf (Elt F) ((c : Thread nD τ).loc b), ((c : Thread nD τ).loc b) ↦{fullShare} f) := by
  simp only [owns_whole_eq (c : Thread nD τ) b]
  iintro ⟨%y, %f, -, H⟩
  iexists f; iexact H

/-- The half of the table is the table's memref held at that half, -/
theorem table_owns (c : Dev nD) : (Pipeline.ΦT pre0 (tbl m) c : sProp 𝕄)
    = owns (c : Thread nD τ) (Memref.whole main_arg7) fullShare.right (lens m) := by
  obtain rfl : c = (0 : Dev nD) := Subsingleton.elim _ _
  unfold Pipeline.ΦT Pipeline.prefHeld
  rw [show (Finset.univ : Finset (Fin pre0.K)) = {(0 : Fin 1)} from rfl, bigSep_singleton, owns_whole_eq ((0 : Dev nD) : Thread nD τ) main_arg7]
  refine equiv_iff.mp ⟨(?_ : (_ : sProp 𝕄) ⊢ _), (?_ : (_ : sProp 𝕄) ⊢ _)⟩
  · iintro H
    iexists lens m; isplitr; · ipureintro; rfl
    iexact H
  · iintro ⟨%f, %e, H⟩
    subst e
    iexact H

set_option maxHeartbeats 1000000 in
/-- The body at any point. -/
theorem sound_body (c : Dev nD) (t : Fin (cfgA m).N) :
    bodyPre m hO c t ⊢ wp frame (wpE (defs₀ (F := F)) Variants.none c none) Set.univ (bodyAt m t) (fun _ => bodyPost m hO c t) := by
  rw [bodyAt_eq]
  unfold bodyPre bodyPost
  simp only [before0, before1, before2, before3, before4, before5, before6]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl,
    after0, after1, after2, after3, after4, after5, after6, after7, table_owns]
  unfold Pipeline.ΦA
  rw [scopedRest0_eq]
  iintro ⟨⟨⟨⟨S0, S1, S2, S3, S4⟩, Hr⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Gqa.body_run (defs₀ (F := F)) c Set.univ scoreScale maskValue (st m 0 t) (st m 1 t) (st m 2 t) (st m 3 t) (st m 4 t) (st m 5 t) (st m 6 t) (st m 7 t)
    (hstage0_7 (((cfgA m).slots t 7).cast nbuf0_7)) (Memref.whole cc0_scratch0) (Memref.isWhole_whole _) (Memref.whole cc0_scratch1) (Memref.isWhole_whole _)
    (Memref.whole cc0_scratch2) (Memref.whole cc0_scratch3) (Memref.whole cc0_scratch4)
    (iblk m c 0 t) (iblk m c 1 t) (iblk m c 2 t) (iblk m c 3 t) (iblk m c 4 t) (iblk m c 5 t) (iblk m c 6 t)
    (Memref.whole main_arg7) (k0_off1 (grid0.coords t)) (k0_off1_inb _) k0_chk1 k0_chk1.dec ok_of_chk fullShare.right (lens m) (hO (grid0.coords t))
    ((dats m hO 0 c).before 7 t d7) _)
  isplitl [HT]; · iexact HT
  unfold Gqa.Loose
  isplitl [S0 S1 S2 S3 S4 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iapply (some_owns c cc0_scratch0); iexact S0
    isplitl [S1]; · iapply (some_owns c cc0_scratch1); iexact S1
    isplitl [S2]; · iapply (some_owns c cc0_scratch2); iexact S2
    isplitl [S3]; · iapply (some_owns c cc0_scratch3); iexact S3
    iapply (some_owns c cc0_scratch4); iexact S4
  iintro ⟨HT, H0, H1, H2, H3, H4, H5, H6, H7, S0, S1, S2, S3, S4⟩
  isplitl [S0 S1 S2 S3 S4 Hr HT]
  · isplitr [HT]
    · isplitr [Hr]
      · isplitl [S0]; · iapply (owns_some c cc0_scratch0); iexact S0
        isplitl [S1]; · iapply (owns_some c cc0_scratch1); iexact S1
        isplitl [S2]; · iapply (owns_some c cc0_scratch2); iexact S2
        isplitl [S3]; · iapply (owns_some c cc0_scratch3); iexact S3
        iapply (owns_some c cc0_scratch4); iexact S4
      iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation. -/
theorem body_obligation (c : Dev nD) : BodyObligation (dats (F := F) m hO 0 c) (defs₀ (F := F)) Variants.none () Set.univ := fun t => by
  rw [bigSep_W0, bigSep_W0, defs₀_row]
  exact triple_restated (sound_body m hO c t) rfl .rfl fun _ => .rfl

/-! ## The run -/

set_option backward.isDefEq.respectTransparency.types false in
set_option maxHeartbeats 800000 in
/-- Every execution terminates, with the pipeline's arrays at what the proof data gives, every other buffer as the region found
    it and every semaphore at zero. -/
theorem run_main : θ_run defs (onTc (τ := τ) (main (F := F))) (s₀ m ρ)
    (fun r => Pipeline.FramePost (cfgs m) (dats m hO) 0 (V m) r ∧ r.2.sem = fun _ => 0) :=
  Pipeline.θ_run_frameP (Q' := _) pcfgs (fun _ => adm m) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- What the launch leaves: the result array as the proof data gives it, the arguments as launched, the semaphores at zero. -/
theorem run : θ_run defs (onTc (τ := τ) (main (F := F))) ⟨m, fun _ => 0, ρ⟩ (fun r => (∀ c : Dev nD,
      r.2.mem ((c.tc : Thread nD τ).loc main_v2) = (dats m hO 0 c).arrAt 7 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 7,
      ((h.1 c).1 0).trans (((dats m hO 0 c).arrAt_in 0 rfl _).trans ((A_eq m hO c 0).trans (V_of_ne m c main_arg0 (by decide) (by decide)))),
      ((h.1 c).1 1).trans (((dats m hO 0 c).arrAt_in 1 rfl _).trans ((A_eq m hO c 1).trans (V_of_ne m c main_arg1 (by decide) (by decide)))),
      ((h.1 c).1 2).trans (((dats m hO 0 c).arrAt_in 2 rfl _).trans ((A_eq m hO c 2).trans (V_of_ne m c main_arg2 (by decide) (by decide)))),
      ((h.1 c).1 3).trans (((dats m hO 0 c).arrAt_in 3 rfl _).trans ((A_eq m hO c 3).trans (V_of_ne m c main_arg3 (by decide) (by decide)))),
      ((h.1 c).1 4).trans (((dats m hO 0 c).arrAt_in 4 rfl _).trans ((A_eq m hO c 4).trans (V_of_ne m c main_arg4 (by decide) (by decide)))),
      ((h.1 c).2 main_arg5 (Pipeline.mem_restRefs_of main_arg5 (by decide) (fun w => by revert w; exact (by decide : ∀ w : Fin 8, (spec0 w).arr.view.ref ≠ main_arg5)))).trans (V_of_ne m c main_arg5 (by decide) (by decide)),
      ((h.1 c).2 main_arg6 (Pipeline.mem_restRefs_of main_arg6 (by decide) (fun w => by revert w; exact (by decide : ∀ w : Fin 8, (spec0 w).arr.view.ref ≠ main_arg6)))).trans (V_of_ne m c main_arg6 (by decide) (by decide)),
      ((h.1 c).2 main_arg7 (Pipeline.mem_restRefs_of main_arg7 (by decide) (fun w => by revert w; exact (by decide : ∀ w : Fin 8, (spec0 w).arr.view.ref ≠ main_arg7)))).trans (V_of_ne m c main_arg7 (by decide) (by decide))⟩, h.2⟩) (run_main m ρ hO)

end Cert.Kernel.Run

end
-- ==== Proof.KernelIdealBody.lean ====
/- The printed body is the model's body at this program's two constants, and its side condition is the model's. -/
module

public import proofs.«01_k».proof.Proof.Gen.KernelIdeal
public import proofs.«01_k».proof.Proof.Range
public import Idealize.ShloMosaic.Lib.Pipeline.Regions

@[expose] public section

noncomputable section

namespace Cert.KernelIdeal

open Idealize.ShloMosaic Idealize.SL.Sem
open Cert.Gqa (Ok Fits)

variable {F : FTy → Type} [FloatOps F] [Named F]

/-- The printed side condition gives the model's. -/
theorem ok_of_chk (v1 : BitVec 32) (h : k0_chk1 v1) : Ok v1 where
  main := k0_t1_ok v1 h
  rest := k0_t2_ok v1 h
  fits k := ⟨k0_off2_inb v1 h k 1, k0_mult1_dvd v1 h k⟩
  fitsRest k := ⟨k0_off10_inb v1 h k 1, k0_mult17_dvd v1 h k⟩

/-- The conjuncts of the printed side condition, part by part. -/
theorem chk_0 {v1 : BitVec 32} (h : Ok v1) : k0_chk1_0 v1 :=
  ⟨h.main,
    fun k => (h.fits k).2,
    fun k => Gqa.inbCache (n := 0) (by decide) (h.fits k),
    fun k => (h.fits k).2,
    fun k => Gqa.inbCache (n := 1) (by decide) (h.fits k),
    fun k => (h.fits k).2,
    fun k => Gqa.inbCache (n := 2) (by decide) (h.fits k),
    fun k => (h.fits k).2,
    fun k => Gqa.inbCache (n := 3) (by decide) (h.fits k),
    fun k => (h.fits k).2,
    fun k => (h.fits k).2,
    fun k => (h.fits k).2,
    fun k => (h.fits k).2,
    fun k => (h.fits k).2,
    fun k => Gqa.inbChunk (n := 0) (by decide) (h.fits k),
    fun k _ => Gqa.packedChunk (n := 0) (by decide) (h.fits k),
    fun k => (h.fits k).2,
    fun k => (h.fits k).2,
    fun k => Gqa.inbChunk (n := 1) (by decide) (h.fits k),
    fun k _ => Gqa.packedChunk (n := 1) (by decide) (h.fits k),
    fun k => (h.fits k).2,
    fun k => (h.fits k).2,
    fun k => Gqa.inbChunk (n := 2) (by decide) (h.fits k),
    fun k _ => Gqa.packedChunk (n := 2) (by decide) (h.fits k),
    fun k => (h.fits k).2,
    fun k => (h.fits k).2,
    fun k => Gqa.inbChunk (n := 3) (by decide) (h.fits k),
    fun k _ => Gqa.packedChunk (n := 3) (by decide) (h.fits k),
    fun k => (h.fits k).2,
    h.rest,
    fun k => (Gqa.rest_none (v := v1) k).elim,
    fun k => (Gqa.rest_none (v := v1) k).elim⟩
theorem chk_1 {v1 : BitVec 32} (h : Ok v1) : k0_chk1_1 v1 :=
  ⟨fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    h.main,
    fun k => (h.fits k).2,
    fun k => Gqa.inbChunk (n := 0) (by decide) (h.fits k),
    fun k => Gqa.inbScale (h.fits k),
    h.rest,
    fun k => (Gqa.rest_none (v := v1) k).elim⟩
theorem chk_2 {v1 : BitVec 32} (h : Ok v1) : k0_chk1_2 v1 :=
  ⟨fun k => (Gqa.rest_none (v := v1) k).elim,
    fun k => (Gqa.rest_none (v := v1) k).elim,
    h.main,
    fun k => (h.fits k).2,
    fun k => Gqa.inbChunk (n := 1) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 2) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 3) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbCache (n := 4) (by decide) (h.fits k),
    fun k => (h.fits k).2,
    fun k => Gqa.inbCache (n := 5) (by decide) (h.fits k),
    fun k => (h.fits k).2⟩
theorem chk_3 {v1 : BitVec 32} (h : Ok v1) : k0_chk1_3 v1 :=
  ⟨fun k => Gqa.inbCache (n := 6) (by decide) (h.fits k),
    fun k => (h.fits k).2,
    fun k => Gqa.inbCache (n := 7) (by decide) (h.fits k),
    fun k => (h.fits k).2,
    fun k => (h.fits k).2,
    fun k => (h.fits k).2,
    fun k => (h.fits k).2,
    fun k => (h.fits k).2,
    fun k => Gqa.inbChunk (n := 0) (by decide) (h.fits k),
    fun k _ => Gqa.packedChunk (n := 0) (by decide) (h.fits k),
    fun k => (h.fits k).2,
    fun k => (h.fits k).2,
    fun k => Gqa.inbChunk (n := 1) (by decide) (h.fits k),
    fun k _ => Gqa.packedChunk (n := 1) (by decide) (h.fits k),
    fun k => (h.fits k).2,
    fun k => (h.fits k).2,
    fun k => Gqa.inbChunk (n := 2) (by decide) (h.fits k),
    fun k _ => Gqa.packedChunk (n := 2) (by decide) (h.fits k),
    fun k => (h.fits k).2,
    fun k => (h.fits k).2,
    fun k => Gqa.inbChunk (n := 3) (by decide) (h.fits k),
    fun k _ => Gqa.packedChunk (n := 3) (by decide) (h.fits k),
    fun k => (h.fits k).2,
    h.rest,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim⟩
theorem chk_4 {v1 : BitVec 32} (h : Ok v1) : k0_chk1_4 v1 :=
  ⟨fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    fun k => (Gqa.rest_none (v := v1) k).elim,
    h.main,
    fun k => (h.fits k).2,
    fun k => Gqa.inbChunk (n := 0) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 1) (by decide) (h.fits k),
    fun k => Gqa.inbScale (h.fits k)⟩
theorem chk_5 {v1 : BitVec 32} (h : Ok v1) : k0_chk1_5 v1 :=
  ⟨h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 2) (by decide) (h.fits k),
    fun k => Gqa.inbScale (h.fits k),
    h.rest,
    fun k => (Gqa.rest_none (v := v1) k).elim,
    fun k => (Gqa.rest_none (v := v1) k).elim,
    fun k => (Gqa.rest_none (v := v1) k).elim,
    h.main,
    fun k => (h.fits k).2,
    fun k => Gqa.inbChunk (n := 3) (by decide) (h.fits k),
    fun k => Gqa.inbScale (h.fits k),
    h.rest,
    fun k => (Gqa.rest_none (v := v1) k).elim,
    fun k => (Gqa.rest_none (v := v1) k).elim,
    fun k => (Gqa.rest_none (v := v1) k).elim⟩

/-- The model's side condition gives the printed one. -/
theorem chk_of_ok (v1 : BitVec 32) (h : Ok v1) : k0_chk1 v1 :=
  ⟨chk_0 h, chk_1 h, chk_2 h, chk_3 h, chk_4 h, chk_5 h⟩

/-- The printed body is the model's. -/
theorem body_eq (i : grid0.Coords) (arg1 : Memref sig .tc .smem S32 .i32) (harg1 : arg1.IsWhole) (arg2 : Memref sig .tc .vmem S1x72x40x128 .bf16) (harg2 : arg2.IsWhole) (arg3 : Memref sig .tc .vmem S1x72x8x128 .bf16) (harg3 : arg3.IsWhole) (arg4 : Memref sig .tc .vmem S1x72x8x128 .bf16) (harg4 : arg4.IsWhole) (arg5 : Memref sig .tc .vmem S1x4096x8x128 .fp8e4m3) (harg5 : arg5.IsWhole) (arg6 : Memref sig .tc .vmem S1x4096x8x128 .fp8e4m3) (harg6 : arg6.IsWhole) (arg7 : Memref sig .tc .vmem S1x8x4096 .f32) (harg7 : arg7.IsWhole) (arg8 : Memref sig .tc .vmem S1x8x4096 .f32) (harg8 : arg8.IsWhole) (arg9 : Memref sig .tc .vmem S1x72x40x128 .bf16) (harg9 : arg9.IsWhole) (arg10 : Memref sig .tc .vmem S4x4096x128 .fp8e4m3) (harg10 : arg10.IsWhole) (arg11 : Memref sig .tc .vmem S4x4096x128 .fp8e4m3) (harg11 : arg11.IsWhole) (arg12 : Memref sig .tc .vmem S360x128 .f32) (harg12 : arg12.IsWhole) (arg13 : Memref sig .tc .vmem S360x128 .f32) (harg13 : arg13.IsWhole) (arg14 : Memref sig .tc .vmem S360x128 .f32) (harg14 : arg14.IsWhole) :
    (cc0_gqa_fp8_decode (F := F) i arg1 harg1 arg2 harg2 arg3 harg3 arg4 harg4 arg5 harg5 arg6 harg6 arg7 harg7 arg8 harg8 arg9 harg9 arg10 harg10 arg11 harg11 arg12 harg12 arg13 harg13 arg14 harg14 : Prog (TpuEff nD τ sig (Elt F) Λ₀ .tc) PUnit) =
    Gqa.body (Named.named κ "scale_log2e" 0x3E0293EE#32) (Named.named κ "mask" 0xF149F2CA#32) arg2 arg3 arg4 arg5 arg6 arg7 arg8 arg9 harg9 arg10 harg10 arg11 harg11 arg12 arg13 arg14
      arg1 (k0_off1 i) (Gen.k0_off1_inb i) k0_chk1 k0_chk1.dec ok_of_chk := by
  chain_rfl

end Cert.KernelIdeal
-- ==== Proof.KernelIdealLaunch.lean ====
/- The launch of KernelIdeal: the host's two transposes, then one pipelined region with the table of cache lengths prefetched.
   The proof data says what every window's buffer holds after each grid point; the body's triple gives the obligation; the
   library's launch theorem gives the run. -/
module

public import proofs.«01_k».proof.Proof.KernelIdealBody
public import proofs.«01_k».proof.Proof.Body
public import proofs.«01_k».proof.Proof.Gen.KernelIdeal.Launch
public import Idealize.ShloMosaic.Lib.Pipeline.Frame
public import Idealize.ShloMosaic.Lib.Pipeline.FrameBody
public import Idealize.ShloMosaic.Lib.Claim

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two constants of the body: the score scale and the value of a masked score. -/
abbrev scoreScale : F .f32 := Named.named κ "scale_log2e" 0x3E0293EE#32
abbrev maskValue : F .f32 := Named.named κ "mask" 0xF149F2CA#32

/-! ## The memory when the region is entered -/

/-- The buffers after the host's two transposes. -/
abbrev V0 (c : Dev nD) : Valuation τ sig (Elt F) := StableHlo.after hostOps0 (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- A buffer that neither transpose writes is as launched. -/
theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-! ## The prefetched table -/

/-- The table of cache lengths as the region finds it. -/
def lens : Vec F S32 .i32 := V m (0 : Dev nD) main_arg7
/-- It as the pipeline's tables. -/
def tbl : pre0.Contents (Elt F) := fun k => V m (0 : Dev nD) (pre0.ref k)
abbrev adm : (pcfg0 (F := F)).Adm := ⟨tbl m, trivial⟩
/-- The pipeline at that table. -/
abbrev cfgA : Cfg sig Λ₀ := cfg0 (adm m)
abbrev cfgs : Fin 1 → Cfg sig Λ₀ := Pipeline.pin pcfgs fun _ => adm m

theorem V_pre (c : Dev nD) (k : Fin pre0.K) : V m c (pre0.ref k) = tbl m k := by
  obtain rfl : c = (0 : Dev nD) := Subsingleton.elim _ _
  rfl

/-- The word the body reads at point `i` meets the body's side condition. -/
def Admits : Prop := ∀ i : grid0.Coords, k0_chk1 (Gqa.wordAt (lens m) (k0_off1 i) (k0_off1_inb i))

/-! ## The proof data -/

/-- Window `w`'s block at point `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

variable (hO : Admits m)

/-- The output block at point `t`. -/
def oblk (c : Dev nD) (t : Fin (cfgA m).N) : Vec F S1x72x40x128 .bf16 :=
  Gqa.outBlock scoreScale maskValue (iblk m c 0 t) (iblk m c 1 t) (iblk m c 2 t) (iblk m c 3 t) (iblk m c 4 t) (iblk m c 5 t) (iblk m c 6 t)
    (ok_of_chk _ (hO (grid0.coords t)))

/-- Every input's buffer holds its block after the body; the output's holds `oblk`; the body's scratch memories, the generator
    register and half of the table are carried along. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => oblk m hO c t
  Φ _ := iprop(Pipeline.ΦA spec0 c ∗ Pipeline.ΦT pre0 (tbl m) c)
  q _ := fullShare
  owed _ := 0

theorem A_eq (c : Dev nD) (w : Fin (cfgA m).W) : (dats m hO 0 c).A w = V m c (Pipeline.arrRef spec0 w) := by
  dsimp only [dats]
theorem after0 (c : Dev nD) (t : Fin (cfgA m).N) : (dats m hO 0 c).after 0 t = iblk m c 0 t := rfl
theorem after1 (c : Dev nD) (t : Fin (cfgA m).N) : (dats m hO 0 c).after 1 t = iblk m c 1 t := rfl
theorem after2 (c : Dev nD) (t : Fin (cfgA m).N) : (dats m hO 0 c).after 2 t = iblk m c 2 t := rfl
theorem after3 (c : Dev nD) (t : Fin (cfgA m).N) : (dats m hO 0 c).after 3 t = iblk m c 3 t := rfl
theorem after4 (c : Dev nD) (t : Fin (cfgA m).N) : (dats m hO 0 c).after 4 t = iblk m c 4 t := rfl
theorem after5 (c : Dev nD) (t : Fin (cfgA m).N) : (dats m hO 0 c).after 5 t = iblk m c 5 t := rfl
theorem after6 (c : Dev nD) (t : Fin (cfgA m).N) : (dats m hO 0 c).after 6 t = iblk m c 6 t := rfl
theorem after7 (c : Dev nD) (t : Fin (cfgA m).N) : (dats m hO 0 c).after 7 t = oblk m hO c t := rfl

/-- Input window 0's buffer holds its block when the body starts. -/
theorem before0 (c : Dev nD) (t : Fin (cfgA m).N) (d) : (dats m hO 0 c).before 0 t d = iblk m c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's buffer holds its block when the body starts. -/
theorem before1 (c : Dev nD) (t : Fin (cfgA m).N) (d) : (dats m hO 0 c).before 1 t d = iblk m c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's buffer holds its block when the body starts. -/
theorem before2 (c : Dev nD) (t : Fin (cfgA m).N) (d) : (dats m hO 0 c).before 2 t d = iblk m c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's buffer holds its block when the body starts. -/
theorem before3 (c : Dev nD) (t : Fin (cfgA m).N) (d) : (dats m hO 0 c).before 3 t d = iblk m c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's buffer holds its block when the body starts. -/
theorem before4 (c : Dev nD) (t : Fin (cfgA m).N) (d) : (dats m hO 0 c).before 4 t d = iblk m c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's buffer holds its block when the body starts. -/
theorem before5 (c : Dev nD) (t : Fin (cfgA m).N) (d) : (dats m hO 0 c).before 5 t d = iblk m c 5 t :=
  ((dats m hO 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
/-- Input window 6's buffer holds its block when the body starts. -/
theorem before6 (c : Dev nD) (t : Fin (cfgA m).N) (d) : (dats m hO 0 c).before 6 t d = iblk m c 6 t :=
  ((dats m hO 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-! ## The body obligation -/

/-- The current staging memref of window `w` at point `t`. -/
abbrev st (w : Fin 8) (t : Fin (cfgA m).N) := ((cfgA m).win w).stage ((cfgA m).slots t w)

/-- The kernel's body at point `t`, on what the pipeline calls it with. -/
abbrev bodyAt (t : Fin (cfgA m).N) : Prog (TpuEff nD τ sig (Elt F) Λ₀ .tc) PUnit :=
  cc0_gqa_fp8_decode (grid0.coords t) (Memref.whole main_arg7) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem defs₀_row (t : Fin (cfgA m).N) :
    defs₀ (F := F) .tc (cfgA m).body ((cfgA m).bodyArgs t ((cfgA m).slots t)) = bodyAt m t := by
  unfold defs₀; rw [Defs.onTc_tc]

/-- It is the model's. -/
theorem bodyAt_eq (t : Fin (cfgA m).N) : bodyAt m t =
    Gqa.body scoreScale maskValue (st m 0 t) (st m 1 t) (st m 2 t) (st m 3 t) (st m 4 t) (st m 5 t) (st m 6 t) (st m 7 t)
      (hstage0_7 (((cfgA m).slots t 7).cast nbuf0_7)) (Memref.whole cc0_scratch0) (Memref.isWhole_whole _) (Memref.whole cc0_scratch1) (Memref.isWhole_whole _)
      (Memref.whole cc0_scratch2) (Memref.whole cc0_scratch3) (Memref.whole cc0_scratch4)
      (Memref.whole main_arg7) (k0_off1 (grid0.coords t)) (k0_off1_inb _) k0_chk1 k0_chk1.dec ok_of_chk :=
  body_eq _ _ _ _ _ _ _ _ _ _ _ _ _ _ _ _ _ _ _ _ _ _ _ _ _ _ _ _ _

def bodyPre (c : Dev nD) (t : Fin (cfgA m).N) : sProp 𝕄 :=
  iprop((dats m hO 0 c).Φ t.castSucc ∗ (dats m hO 0 c).owesAt () t.castSucc
    ∗ (∃ d, owns (c : Thread nD τ) (st m 0 t) fullShare ((dats m hO 0 c).before 0 t d))
    ∗ (∃ d, owns (c : Thread nD τ) (st m 1 t) fullShare ((dats m hO 0 c).before 1 t d))
    ∗ (∃ d, owns (c : Thread nD τ) (st m 2 t) fullShare ((dats m hO 0 c).before 2 t d))
    ∗ (∃ d, owns (c : Thread nD τ) (st m 3 t) fullShare ((dats m hO 0 c).before 3 t d))
    ∗ (∃ d, owns (c : Thread nD τ) (st m 4 t) fullShare ((dats m hO 0 c).before 4 t d))
    ∗ (∃ d, owns (c : Thread nD τ) (st m 5 t) fullShare ((dats m hO 0 c).before 5 t d))
    ∗ (∃ d, owns (c : Thread nD τ) (st m 6 t) fullShare ((dats m hO 0 c).before 6 t d))
    ∗ (∃ d, owns (c : Thread nD τ) (st m 7 t) fullShare ((dats m hO 0 c).before 7 t d)))

def bodyPost (c : Dev nD) (t : Fin (cfgA m).N) : sProp 𝕄 :=
  iprop((dats m hO 0 c).Φ t.succ ∗ (dats m hO 0 c).owesAt () t.succ
    ∗ owns (c : Thread nD τ) (st m 0 t) fullShare ((dats m hO 0 c).after 0 t)
    ∗ owns (c : Thread nD τ) (st m 1 t) fullShare ((dats m hO 0 c).after 1 t)
    ∗ owns (c : Thread nD τ) (st m 2 t) fullShare ((dats m hO 0 c).after 2 t)
    ∗ owns (c : Thread nD τ) (st m 3 t) fullShare ((dats m hO 0 c).after 3 t)
    ∗ owns (c : Thread nD τ) (st m 4 t) fullShare ((dats m hO 0 c).after 4 t)
    ∗ owns (c : Thread nD τ) (st m 5 t) fullShare ((dats m hO 0 c).after 5 t)
    ∗ owns (c : Thread nD τ) (st m 6 t) fullShare ((dats m hO 0 c).after 6 t)
    ∗ owns (c : Thread nD τ) (st m 7 t) fullShare ((dats m hO 0 c).after 7 t))

/-- A whole buffer at some contents is its memref held at some contents, -/
theorem some_owns (c : Dev nD) (b : Ref sig .tc) : (iprop(∃ f : Buf (Elt F) ((c : Thread nD τ).loc b), ((c : Thread nD τ).loc b) ↦{fullShare} f) : sProp 𝕄)
    ⊢ iprop(∃ y, owns (c : Thread nD τ) (Memref.whole b) fullShare y) := by
  iintro ⟨%f, H⟩; iexists f
  rw [owns_whole_eq (c : Thread nD τ) b]
  iexists f; isplitr; · ipureintro; rfl
  iexact H
/-- and back. -/
theorem owns_some (c : Dev nD) (b : Ref sig .tc) : (iprop(∃ y, owns (c : Thread nD τ) (Memref.whole b) fullShare y) : sProp 𝕄)
    ⊢ iprop(∃ f : Buf (Elt F) ((c : Thread nD τ).loc b), ((c : Thread nD τ).loc b) ↦{fullShare} f) := by
  simp only [owns_whole_eq (c : Thread nD τ) b]
  iintro ⟨%y, %f, -, H⟩
  iexists f; iexact H

/-- The half of the table is the table's memref held at that half, -/
theorem table_owns (c : Dev nD) : (Pipeline.ΦT pre0 (tbl m) c : sProp 𝕄)
    = owns (c : Thread nD τ) (Memref.whole main_arg7) fullShare.right (lens m) := by
  obtain rfl : c = (0 : Dev nD) := Subsingleton.elim _ _
  unfold Pipeline.ΦT Pipeline.prefHeld
  rw [show (Finset.univ : Finset (Fin pre0.K)) = {(0 : Fin 1)} from rfl, bigSep_singleton, owns_whole_eq ((0 : Dev nD) : Thread nD τ) main_arg7]
  refine equiv_iff.mp ⟨(?_ : (_ : sProp 𝕄) ⊢ _), (?_ : (_ : sProp 𝕄) ⊢ _)⟩
  · iintro H
    iexists lens m; isplitr; · ipureintro; rfl
    iexact H
  · iintro ⟨%f, %e, H⟩
    subst e
    iexact H

set_option maxHeartbeats 1000000 in
/-- The body at any point. -/
theorem sound_body (c : Dev nD) (t : Fin (cfgA m).N) :
    bodyPre m hO c t ⊢ wp frame (wpE (defs₀ (F := F)) Variants.none c none) Set.univ (bodyAt m t) (fun _ => bodyPost m hO c t) := by
  rw [bodyAt_eq]
  unfold bodyPre bodyPost
  simp only [before0, before1, before2, before3, before4, before5, before6]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl,
    show (dats m hO 0 c).owesAt () t.succ = (dats m hO 0 c).owesAt () t.castSucc from rfl,
    after0, after1, after2, after3, after4, after5, after6, after7, table_owns]
  unfold Pipeline.ΦA
  rw [scopedRest0_eq]
  iintro ⟨⟨⟨⟨S0, S1, S2, S3, S4⟩, Hr⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Gqa.body_run (defs₀ (F := F)) c Set.univ scoreScale maskValue (st m 0 t) (st m 1 t) (st m 2 t) (st m 3 t) (st m 4 t) (st m 5 t) (st m 6 t) (st m 7 t)
    (hstage0_7 (((cfgA m).slots t 7).cast nbuf0_7)) (Memref.whole cc0_scratch0) (Memref.isWhole_whole _) (Memref.whole cc0_scratch1) (Memref.isWhole_whole _)
    (Memref.whole cc0_scratch2) (Memref.whole cc0_scratch3) (Memref.whole cc0_scratch4)
    (iblk m c 0 t) (iblk m c 1 t) (iblk m c 2 t) (iblk m c 3 t) (iblk m c 4 t) (iblk m c 5 t) (iblk m c 6 t)
    (Memref.whole main_arg7) (k0_off1 (grid0.coords t)) (k0_off1_inb _) k0_chk1 k0_chk1.dec ok_of_chk fullShare.right (lens m) (hO (grid0.coords t))
    ((dats m hO 0 c).before 7 t d7) _)
  isplitl [HT]; · iexact HT
  unfold Gqa.Loose
  isplitl [S0 S1 S2 S3 S4 H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iapply (some_owns c cc0_scratch0); iexact S0
    isplitl [S1]; · iapply (some_owns c cc0_scratch1); iexact S1
    isplitl [S2]; · iapply (some_owns c cc0_scratch2); iexact S2
    isplitl [S3]; · iapply (some_owns c cc0_scratch3); iexact S3
    iapply (some_owns c cc0_scratch4); iexact S4
  iintro ⟨HT, H0, H1, H2, H3, H4, H5, H6, H7, S0, S1, S2, S3, S4⟩
  isplitl [S0 S1 S2 S3 S4 Hr HT]
  · isplitr [HT]
    · isplitr [Hr]
      · isplitl [S0]; · iapply (owns_some c cc0_scratch0); iexact S0
        isplitl [S1]; · iapply (owns_some c cc0_scratch1); iexact S1
        isplitl [S2]; · iapply (owns_some c cc0_scratch2); iexact S2
        isplitl [S3]; · iapply (owns_some c cc0_scratch3); iexact S3
        iapply (owns_some c cc0_scratch4); iexact S4
      iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation. -/
theorem body_obligation (c : Dev nD) : BodyObligation (dats (F := F) m hO 0 c) (defs₀ (F := F)) Variants.none () Set.univ := fun t => by
  rw [bigSep_W0, bigSep_W0, defs₀_row]
  exact triple_restated (sound_body m hO c t) rfl .rfl fun _ => .rfl

/-! ## The run -/

set_option backward.isDefEq.respectTransparency.types false in
set_option maxHeartbeats 800000 in
/-- Every execution terminates, with the pipeline's arrays at what the proof data gives, every other buffer as the region found
    it and every semaphore at zero. -/
theorem run_main : θ_run defs (onTc (τ := τ) (main (F := F))) (s₀ m ρ)
    (fun r => Pipeline.FramePost (cfgs m) (dats m hO) 0 (V m) r ∧ r.2.sem = fun _ => 0) :=
  Pipeline.θ_run_frameP (Q' := _) pcfgs (fun _ => adm m) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- What the launch leaves: the result array as the proof data gives it, the arguments as launched, the semaphores at zero. -/
theorem run : θ_run defs (onTc (τ := τ) (main (F := F))) ⟨m, fun _ => 0, ρ⟩ (fun r => (∀ c : Dev nD,
      r.2.mem ((c.tc : Thread nD τ).loc main_v2) = (dats m hO 0 c).arrAt 7 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 7,
      ((h.1 c).1 0).trans (((dats m hO 0 c).arrAt_in 0 rfl _).trans ((A_eq m hO c 0).trans (V_of_ne m c main_arg0 (by decide) (by decide)))),
      ((h.1 c).1 1).trans (((dats m hO 0 c).arrAt_in 1 rfl _).trans ((A_eq m hO c 1).trans (V_of_ne m c main_arg1 (by decide) (by decide)))),
      ((h.1 c).1 2).trans (((dats m hO 0 c).arrAt_in 2 rfl _).trans ((A_eq m hO c 2).trans (V_of_ne m c main_arg2 (by decide) (by decide)))),
      ((h.1 c).1 3).trans (((dats m hO 0 c).arrAt_in 3 rfl _).trans ((A_eq m hO c 3).trans (V_of_ne m c main_arg3 (by decide) (by decide)))),
      ((h.1 c).1 4).trans (((dats m hO 0 c).arrAt_in 4 rfl _).trans ((A_eq m hO c 4).trans (V_of_ne m c main_arg4 (by decide) (by decide)))),
      ((h.1 c).2 main_arg5 (Pipeline.mem_restRefs_of main_arg5 (by decide) (fun w => by revert w; exact (by decide : ∀ w : Fin 8, (spec0 w).arr.view.ref ≠ main_arg5)))).trans (V_of_ne m c main_arg5 (by decide) (by decide)),
      ((h.1 c).2 main_arg6 (Pipeline.mem_restRefs_of main_arg6 (by decide) (fun w => by revert w; exact (by decide : ∀ w : Fin 8, (spec0 w).arr.view.ref ≠ main_arg6)))).trans (V_of_ne m c main_arg6 (by decide) (by decide)),
      ((h.1 c).2 main_arg7 (Pipeline.mem_restRefs_of main_arg7 (by decide) (fun w => by revert w; exact (by decide : ∀ w : Fin 8, (spec0 w).arr.view.ref ≠ main_arg7)))).trans (V_of_ne m c main_arg7 (by decide) (by decide))⟩, h.2⟩) (run_main m ρ hO)

end Cert.KernelIdeal.Run

end
-- ==== Proof.Lengths.lean ====
/- The precondition decoded: every cache length lies between 0 and 4096. So every word the body reads meets its side condition. -/
module

public import proofs.«01_k».proof.Defs
public import proofs.«01_k».proof.Proof.KernelLaunch
public import proofs.«01_k».proof.Proof.KernelIdealLaunch
public import proofs.«01_k».proof.Proof.Gen.Pre_in_cache
public import Idealize.ShloMosaic.Lib.ReduceAll

@[expose] public section

noncomputable section

namespace Cert.Gqa

open Idealize.ShloMosaic

/-- A value that is at least and at most a bound, as words. -/
theorem range_of_and {v : BitVec 32}
    (h : IntOp.andi (IntOp.cmpi .sge v 0#32) (IntOp.cmpi .sle v 4096#32) = 1#1) : 0 ≤ v.toInt ∧ v.toInt ≤ 4096 := by
  unfold IntOp.andi IntOp.cmpi at h
  simp only [BitVec.sle_eq_decide] at h
  have e0 : (0#32 : BitVec 32).toInt = 0 := by decide
  have e1 : (4096#32 : BitVec 32).toInt = 4096 := by decide
  rw [e0, e1] at h
  by_cases a : 0 ≤ v.toInt <;> by_cases b : v.toInt ≤ 4096 <;> simp [a, b] at h ⊢

/-- The precondition, at one batch. -/
theorem range_of_pre {F : FTy → Type} [FloatOps F] {x0 x1 x2 x3 x4 x5 x6} {x7 : IVec Pre_in_cache.S32 32}
    (h : Pre_in_cache.fn (F := F) x0 x1 x2 x3 x4 x5 x6 x7 = fun _ => 1#1) (i : Pre_in_cache.S32.Idx) :
    0 ≤ (x7 i).toInt ∧ (x7 i).toInt ≤ 4096 := by
  haveI : Subsingleton Pre_in_cache.S_.Idx := ⟨fun a b => funext fun k => k.elim0⟩
  exact range_of_and (Host.reduce_andi_all _ _ _ _ (fun k => k.elim0) (congrFun h _) i)

end Cert.Gqa

namespace Cert.Kernel.Run

open Idealize.ShloMosaic Idealize.ShloMosaic.TcCoe

/-- Every word the body reads lies in the cache's range. -/
theorem lens_range (m : (ℓ : Loc nD τ sig) → Buf (Elt Bits) ℓ) (h : Cert.Pre_Kernel m) (i : S32.Idx) :
    0 ≤ (lens m i).toInt ∧ (lens m i).toInt ≤ 4096 := by
  unfold lens
  rw [V_of_ne m 0 main_arg7 (by decide) (by decide)]
  exact Gqa.range_of_pre (h 0) i

/-- So it meets the body's side condition. -/
theorem admits (m : (ℓ : Loc nD τ sig) → Buf (Elt Bits) ℓ) (h : Cert.Pre_Kernel m) : Admits m := fun i =>
  chk_of_ok _ (Gqa.ok_of_range (lens_range m h _).1 (lens_range m h _).2)

end Cert.Kernel.Run

namespace Cert.KernelIdeal.Run

open Idealize.ShloMosaic Idealize.ShloMosaic.TcCoe

/-- Every word the body reads lies in the cache's range. -/
theorem lens_range (m : (ℓ : Loc nD τ sig) → Buf (Elt Ideal) ℓ) (h : Cert.Pre_KernelIdeal m) (i : S32.Idx) :
    0 ≤ (lens m i).toInt ∧ (lens m i).toInt ≤ 4096 := by
  unfold lens
  rw [V_of_ne m 0 main_arg7 (by decide) (by decide)]
  exact Gqa.range_of_pre (h 0) i

/-- So it meets the body's side condition. -/
theorem admits (m : (ℓ : Loc nD τ sig) → Buf (Elt Ideal) ℓ) (h : Cert.Pre_KernelIdeal m) : Admits m := fun i =>
  chk_of_ok _ (Gqa.ok_of_range (lens_range m h _).1 (lens_range m h _).2)

end Cert.KernelIdeal.Run
-- ==== Proof.Read.lean ====
/- The kernel's pure values read at an index, over the extended reals: the order of a chunk's tokens, the masks, the
   query rows, the blocks of the caches. -/
module

public import proofs.«01_k».proof.Proof.Run
public import Idealize.ShloMosaic.Lib.Pointwise

@[expose] public section

set_option maxRecDepth 16384

noncomputable section

namespace Cert.Gqa

open Idealize.ShloMosaic VecWindow

/-- The token of a chunk that lies at lane `l`. -/
def lane (l : Nat) : Nat := 32 * (l / 32) + 8 * (l % 4) + l % 32 / 4

theorem lane_lt {l : Nat} (h : l < 512) : lane l < 512 := by unfold lane; omega
theorem lane_lt' {l : Nat} (h : l < 128) : lane l < 128 := by unfold lane; omega

theorem tokIn_apply (z : Fin 1) (l : Fin 512) : tokIn (ix2 z l) = BitVec.ofNat 32 (lane l.val) := by
  pointwise [tokIn]
  revert l
  decide

/-- A signed comparison of a small natural. -/
theorem toInt_ofNat {n : Nat} (h : n < 65536) : (BitVec.ofNat 32 n).toInt = n := by
  rw [BitVec.toInt_eq_toNat_cond, BitVec.toNat_ofNat, Nat.mod_eq_of_lt (by omega)]
  rw [if_pos (by omega)]

theorem slt_ofNat {n : Nat} (h : n < 65536) (v : BitVec 32) :
    IntOp.cmpi CmpIPredicate.slt (BitVec.ofNat 32 n) v = if (n : Int) < v.toInt then 1#1 else 0#1 := by
  unfold IntOp.cmpi
  simp only [BitVec.slt_eq_decide, toInt_ofNat h]
  by_cases h : (n : Int) < v.toInt <;> simp [h]

theorem sge_ofNat {n k : Nat} (h : n < 65536) (hk : k < 65536) :
    IntOp.cmpi CmpIPredicate.sge (BitVec.ofNat 32 n) (BitVec.ofNat 32 k) = if k ≤ n then 1#1 else 0#1 := by
  unfold IntOp.cmpi
  simp only [BitVec.sle_eq_decide, toInt_ofNat h, toInt_ofNat hk]
  by_cases h : k ≤ n <;> simp [h]

theorem causal5_apply (r : Fin 360) (j : Fin 72) : causal5 (ix2 r j) = if j.val ≤ r.val % 72 then 1#1 else 0#1 := by
  have hr := r.isLt
  have hj := j.isLt
  pointwise [causal5, causal]
  rw [sge_ofNat (by omega) (by omega), sge_ofNat (by omega) (by omega), sge_ofNat (by omega) (by omega),
    sge_ofNat (by omega) (by omega), sge_ofNat (by omega) (by omega)]
  split_ifs <;> first | rfl | omega

theorem deinterleave_apply (a : Vec Ideal S1x512x1x128 .fp8e4m3) (z : Fin 1) (l : Fin 512) (d : Fin 128) :
    deinterleave a (ix3 z l d) = a (ix4 0 ⟨lane l.val, lane_lt l.isLt⟩ 0 d) := by
  pointwise [deinterleave]
  refine congrArg (fun n => a (ix4 0 n 0 d)) (Fin.ext ?_)
  show l.val / 32 * 32 + l.val % 4 * 8 + l.val / 4 % 8 = lane l.val
  unfold lane
  omega

theorem perm_apply (h : Fin 8) (l : Fin 128) : perm (ix2 h l) = BitVec.ofNat 32 (lane l.val) := by
  have := tokIn_apply 0 ⟨l.val, by omega⟩
  pointwise [perm]
  exact this

theorem permWrapped_apply (h : Fin 8) (l : Fin 128) : permWrapped (ix2 h l) = BitVec.ofNat 32 (lane l.val) := by
  have e := perm_apply h l
  unfold permWrapped
  pointwise
  rw [e]
  revert l
  decide +revert

theorem permute128_apply (a : FVec Ideal S8x128 .f32) (h : Fin 8) (l : Fin 128) :
    permute128 a (ix2 h l) = a (ix2 h ⟨lane l.val, lane_lt' l.isLt⟩) := by
  have hl : lane l.val < 128 := lane_lt' l.isLt
  pointwise [permute128]
  refine congrArg (fun n => a (ix2 h n)) (Fin.ext ?_)
  show (permWrapped (ix2 h l)).toNat % 128 = lane l.val
  rw [permWrapped_apply, BitVec.toNat_ofNat]
  omega

theorem permuteScale_apply (a : FVec Ideal S8x512 .f32) (h : Fin 8) (l : Fin 512) :
    permuteScale a (ix2 h l) = a (ix2 h ⟨lane l.val, lane_lt l.isLt⟩) := by
  have hl := l.isLt
  pointwise [permuteScale, permute128_apply]
  split_ifs <;> refine congrArg (fun n => a (ix2 h n)) (Fin.ext ?_) <;> dsimp only <;> unfold lane <;> omega

theorem queryRow_apply (x : Vec Ideal S1x72x40x128 .bf16) (n : Nat) (hn : n < 40) (z : Fin 1) (s : Fin 72) (u : Fin 1) (d : Fin 128) :
    queryRow x n hn (ix4 z s u d) = x (ix4 0 s ⟨n, hn⟩ d) := by
  refine congrArg x (funext fun a => Fin.ext ?_)
  have := z.isLt; have := u.isLt
  fin_cases a <;> simp [Rect.emb, Rect.unit, ix4]

theorem newRow_apply (x : Vec Ideal S1x72x8x128 .bf16) (n : Nat) (hn : n < 8) (z : Fin 1) (s : Fin 72) (u : Fin 1) (d : Fin 128) :
    newRow x n hn (ix4 z s u d) = x (ix4 0 s ⟨n, hn⟩ d) := by
  refine congrArg x (funext fun a => Fin.ext ?_)
  have := z.isLt; have := u.isLt
  fin_cases a <;> simp [Rect.emb, Rect.unit, ix4]

theorem headQueries_apply (x : Vec Ideal S1x72x40x128 .bf16) (h : Nat) (hh : h < 8) (r : Fin 360) (d : Fin 128) :
    headQueries x h hh (ix2 r d) = x (ix4 0 ⟨r.val % 72, Nat.mod_lt _ (by decide)⟩ ⟨5 * h + r.val / 72, by omega⟩ d) := by
  have hr := r.isLt
  pointwise [headQueries, queries, queryRow_apply]
  split_ifs <;> refine congrArg₂ (fun (m : Fin 72) (n : Fin 40) => x (ix4 0 m n d)) (Fin.ext ?_) (Fin.ext ?_) <;> simp only [] <;> omega

theorem cacheChunk_apply (x : Vec Ideal S1x4096x8x128 .fp8e4m3) (n : Nat) (hn : n < 8) (k : Nat) (hk : k < 8)
    (ha : Fits (trip k)) (z : Fin 1) (l : Fin 512) (d : Fin 128) :
    cacheChunk x n hn (trip k) ha (ix3 z l d) = x (ix4 0 ⟨512 * k + lane l.val, by have := lane_lt l.isLt; omega⟩ ⟨n, hn⟩ d) := by
  unfold cacheChunk
  rw [deinterleave_apply]
  refine congrArg x (funext fun a => Fin.ext ?_)
  have := tok_trip (k := k) (by omega)
  fin_cases a <;> simp [Rect.emb, Rect.unit, ix4]
  exact this

theorem scaleChunk_apply (x : Vec Ideal S1x8x4096 .f32) (k : Nat) (hk : k < 8) (ha : Fits (trip k)) (z : Fin 1) (h : Fin 8) (l : Fin 512) :
    scaleChunk x (trip k) ha (ix3 z h l) = x (ix3 0 h ⟨512 * k + l.val, by omega⟩) := by
  refine congrArg x (funext fun a => Fin.ext ?_)
  have := tok_trip (k := k) (by omega)
  fin_cases a <;> simp [Rect.emb, Rect.unit, ix3]
  exact this

/-- A head's scales of a chunk. -/
theorem scaleRow_apply (x : Vec Ideal S1x8x4096 .f32) (h : Nat) (hh : h < 8) (k : Nat) (hk : k < 8) (ha : Fits (trip k)) (z : Fin 1) (l : Fin 512) :
    scaleRow h hh (scaleChunk x (trip k) ha) (ix2 z l)
      = x (ix3 0 ⟨h, hh⟩ ⟨512 * k + lane l.val, by have := lane_lt l.isLt; omega⟩) := by
  pointwise [scaleRow, permuteScale_apply, scaleChunk_apply x k hk ha]

end Cert.Gqa
-- ==== Proof.Softmax.lean ====
/- Softmax over a set of tokens, and how it is built up chunk by chunk, over the extended reals.

   A set of tokens has scores `s` and values `w`. `top` is the greatest score, `mass` the sum of the weights
   `2 ^ (s i - top)`, `blend` the weighted sum of the values. Joining a disjoint set scales the old sums by
   `2 ^ (old top - new top)`. All of it holds at infinite scores and values too: a weight is always a real number
   between 0 and 1, and a set whose `top` is infinite has only zero weights. -/
module

public import Idealize.ShloMosaic.PureOps.Ideal

@[expose] public section

noncomputable section

namespace Cert.Softmax

open Idealize.ShloMosaic
open scoped BigOperators

/-! ## One weight -/

/-- `2 ^ (x - m)`. -/
def weight (x m : EReal) : EReal := Ideal.exp2 (x - m)

theorem weight_real (x m : ℝ) : weight x m = ((2 : ℝ) ^ (x - m) : ℝ) := by
  unfold weight
  rw [← EReal.coe_sub]
  rfl

theorem weight_top (x : EReal) : weight x ⊤ = 0 := by
  unfold weight
  cases x <;> rfl

theorem weight_bot (m : EReal) : weight ⊥ m = 0 := by
  unfold weight
  rw [EReal.bot_sub]
  rfl

/-- A weight against a bound is a real number, not negative. -/
theorem weight_coe {x m : EReal} (h : x ≤ m) : ∃ r : ℝ, 0 ≤ r ∧ weight x m = (r : EReal) := by
  induction m with
  | bot => rw [le_bot_iff.mp h]; exact ⟨0, le_refl _, by rw [weight_bot]; rfl⟩
  | top => exact ⟨0, le_refl _, by rw [weight_top]; rfl⟩
  | coe m =>
    induction x with
    | bot => exact ⟨0, le_refl _, by rw [weight_bot]; rfl⟩
    | top => exact absurd h (by simp)
    | coe x => exact ⟨(2 : ℝ) ^ (x - m), by positivity, weight_real x m⟩

theorem weight_nonneg {x m : EReal} (h : x ≤ m) : 0 ≤ weight x m := by
  obtain ⟨r, hr, e⟩ := weight_coe h
  rw [e]; exact_mod_cast hr

theorem weight_ne_top {x m : EReal} (h : x ≤ m) : weight x m ≠ ⊤ := by
  obtain ⟨r, hr, e⟩ := weight_coe h
  rw [e]; exact EReal.coe_ne_top r

/-- Weights multiply along a chain of bounds. -/
theorem weight_mul {x m n : EReal} (h : x ≤ m) (k : m ≤ n) : weight x m * weight m n = weight x n := by
  induction n with
  | bot =>
    have e := le_bot_iff.mp k
    subst e
    rw [le_bot_iff.mp h, weight_bot, zero_mul]
  | top => rw [weight_top, weight_top, mul_zero]
  | coe n =>
    induction m with
    | bot => rw [le_bot_iff.mp h]; simp only [weight_bot, zero_mul]
    | top => exact absurd k (by simp)
    | coe m =>
      induction x with
      | bot => simp only [weight_bot, zero_mul]
      | top => exact absurd h (by simp)
      | coe x =>
        rw [weight_real, weight_real, weight_real, ← EReal.coe_mul, ← Real.rpow_add (by norm_num)]
        congr 2
        ring

/-- A factor that is a real number, not negative, goes into a sum. -/
theorem mul_sum {ι : Type} (S : Finset ι) (f : ι → EReal) {a : EReal} (h0 : 0 ≤ a) (h1 : a ≠ ⊤) :
    a * ∑ i ∈ S, f i = ∑ i ∈ S, a * f i := by
  classical
  induction S using Finset.induction_on with
  | empty => simp
  | insert i S hi ih => rw [Finset.sum_insert hi, Finset.sum_insert hi, EReal.left_distrib_of_nonneg_of_ne_top h0 h1, ih]

theorem sum_mul {ι : Type} (S : Finset ι) (f : ι → EReal) {a : EReal} (h0 : 0 ≤ a) (h1 : a ≠ ⊤) :
    (∑ i ∈ S, f i) * a = ∑ i ∈ S, f i * a := by
  rw [mul_comm, mul_sum S f h0 h1]
  exact Finset.sum_congr rfl fun i _ => mul_comm _ _

/-! ## A set of tokens -/

section Sets
variable {ι : Type} (s w : ι → EReal)

/-- The greatest score. -/
def top (S : Finset ι) : EReal := S.sup s
/-- The sum of the weights. -/
def mass (S : Finset ι) : EReal := ∑ i ∈ S, weight (s i) (top s S)
/-- The weighted sum of the values. -/
def blend (S : Finset ι) : EReal := ∑ i ∈ S, weight (s i) (top s S) * w i

theorem le_top {S : Finset ι} {i : ι} (h : i ∈ S) : s i ≤ top s S := Finset.le_sup h

variable [DecidableEq ι] {S T : Finset ι}

theorem top_union : top s (S ∪ T) = max (top s S) (top s T) := Finset.sup_union
theorem mass_union (hd : Disjoint S T) :
    mass s (S ∪ T) = mass s S * weight (top s S) (top s (S ∪ T)) + ∑ i ∈ T, weight (s i) (top s (S ∪ T)) := by
  have hm : top s S ≤ top s (S ∪ T) := by rw [top_union]; exact le_max_left _ _
  conv_lhs => unfold mass
  rw [Finset.sum_union hd]
  congr 1
  unfold mass
  rw [sum_mul _ _ (weight_nonneg hm) (weight_ne_top hm)]
  exact Finset.sum_congr rfl fun i hi => (weight_mul (le_top s hi) hm).symm
theorem blend_union (hd : Disjoint S T) :
    blend s w (S ∪ T) = blend s w S * weight (top s S) (top s (S ∪ T)) + ∑ i ∈ T, weight (s i) (top s (S ∪ T)) * w i := by
  have hm : top s S ≤ top s (S ∪ T) := by rw [top_union]; exact le_max_left _ _
  conv_lhs => unfold blend
  rw [Finset.sum_union hd]
  congr 1
  unfold blend
  rw [sum_mul _ _ (weight_nonneg hm) (weight_ne_top hm)]
  refine Finset.sum_congr rfl fun i hi => ?_
  rw [← weight_mul (le_top s hi) hm, mul_right_comm]

/-- Tokens whose score is `-∞` do not matter. -/
theorem top_superset (h : S ⊆ T) (hb : ∀ i ∈ T, i ∉ S → s i = ⊥) : top s T = top s S := by
  refine le_antisymm (Finset.sup_le fun i hi => ?_) (Finset.sup_mono h)
  by_cases hs : i ∈ S
  · exact le_top s hs
  · rw [hb i hi hs]; exact bot_le
theorem mass_superset (h : S ⊆ T) (hb : ∀ i ∈ T, i ∉ S → s i = ⊥) : mass s T = mass s S := by
  unfold mass
  rw [top_superset s h hb]
  exact (Finset.sum_subset h fun i hi hs => by rw [hb i hi hs, weight_bot]).symm
theorem blend_superset (h : S ⊆ T) (hb : ∀ i ∈ T, i ∉ S → s i = ⊥) : blend s w T = blend s w S := by
  unfold blend
  rw [top_superset s h hb]
  exact (Finset.sum_subset h fun i hi hs => by rw [hb i hi hs, weight_bot, zero_mul]).symm

end Sets

/-! ## The quotient -/

section Quotient
variable {ι : Type} [Fintype ι] [Nonempty ι] (s w : ι → EReal)

/-- Scaling by a positive real keeps the greatest score. -/
theorem top_mul {L : ℝ} (hL : 0 < L) (S : Finset ι) : top (fun i => s i * (L : EReal)) S = top s S * (L : EReal) := by
  unfold top
  have hm : Monotone fun x : EReal => x * (L : EReal) := fun x y h =>
    mul_le_mul_of_nonneg_right h (by exact_mod_cast hL.le)
  refine (Finset.comp_sup_eq_sup_comp_of_is_total (fun x : EReal => x * (L : EReal)) hm ?_).symm
  exact EReal.bot_mul_coe_of_pos hL

/-- Powers of 2 of scores scaled by `log₂ e` are powers of `e` of the scores. -/
theorem weight_scaled (x m : EReal) (h : x ≤ m) :
    weight (x * (((Real.log 2)⁻¹ : ℝ) : EReal)) (m * (((Real.log 2)⁻¹ : ℝ) : EReal)) = Ideal.exp (x - m) := by
  have hL : (0 : ℝ) < (Real.log 2)⁻¹ := inv_pos.mpr (Real.log_pos (by norm_num))
  induction m with
  | bot =>
    rw [le_bot_iff.mp h, EReal.bot_mul_coe_of_pos hL, weight_bot, EReal.bot_sub]; rfl
  | top =>
    rw [EReal.top_mul_coe_of_pos hL, weight_top]
    cases x <;> rfl
  | coe m =>
    induction x with
    | bot => rw [EReal.bot_mul_coe_of_pos hL, weight_bot, EReal.bot_sub]; rfl
    | top => exact absurd h (by simp)
    | coe x =>
      rw [← EReal.coe_mul, ← EReal.coe_mul, weight_real, ← EReal.coe_sub, Ideal.exp_coe, ← sub_mul, Real.rpow_def_of_pos (by norm_num)]
      congr 2
      field_simp

/-- The kernel's quotient of two sums is the reference's sum of quotients where the greatest score is a real number,
    and `-∞`, which stands for NaN, where it is not. -/
theorem quotient (κ : ι → EReal) (hκ : ∀ i, κ i = s i * (((Real.log 2)⁻¹ : ℝ) : EReal)) :
    Ideal.div (blend κ w Finset.univ) (mass κ Finset.univ)
      = if top s Finset.univ = ⊤ ∨ top s Finset.univ = ⊥ then ⊥
        else ∑ i, Ideal.div (Ideal.exp (s i - top s Finset.univ)) (∑ k, Ideal.exp (s k - top s Finset.univ)) * w i := by
  have hL : (0 : ℝ) < (Real.log 2)⁻¹ := inv_pos.mpr (Real.log_pos (by norm_num))
  have e : κ = fun i => s i * (((Real.log 2)⁻¹ : ℝ) : EReal) := funext hκ
  have hw : ∀ i, weight (κ i) (top κ Finset.univ) = Ideal.exp (s i - top s Finset.univ) := by
    intro i
    rw [e, top_mul s hL]
    exact weight_scaled _ _ (le_top s (Finset.mem_univ i))
  have hc : ∀ i, ∃ r : ℝ, 0 ≤ r ∧ Ideal.exp (s i - top s Finset.univ) = (r : EReal) := by
    intro i
    rw [← hw]
    exact weight_coe (le_top κ (Finset.mem_univ i))
  unfold blend mass
  simp only [hw]
  generalize htop : top s Finset.univ = M at hc
  split
  · rename_i h
    have hz : ∀ i, Ideal.exp (s i - M) = 0 := by
      intro i
      rcases h with h | h
      · rw [h]; cases s i <;> rfl
      · have : s i = ⊥ := by have := le_top s (Finset.mem_univ i); rw [htop, h] at this; exact le_bot_iff.mp this
        rw [this, EReal.bot_sub]; rfl
    simp [hz, Ideal.div]
  · rename_i h
    push Not at h
    choose r hr er using hc
    have hD : ∑ i, Ideal.exp (s i - M) = ((∑ i, r i : ℝ) : EReal) := by
      simp only [er]
      exact (map_sum (⟨⟨((↑) : ℝ → EReal), EReal.coe_zero⟩, EReal.coe_add⟩ : ℝ →+ EReal) r Finset.univ).symm
    obtain ⟨i, -, hi⟩ := Finset.exists_mem_eq_sup Finset.univ Finset.univ_nonempty s
    have hpos : 0 < ∑ i, r i := by
      refine lt_of_lt_of_le ?_ (Finset.single_le_sum (fun j _ => hr j) (Finset.mem_univ i))
      have hsi : s i = M := hi.symm.trans htop
      have : ((r i : ℝ) : EReal) = 1 := by
        rw [← er, hsi]
        obtain ⟨x, hx⟩ : ∃ x : ℝ, M = x := ⟨M.toReal, (EReal.coe_toReal h.1 h.2).symm⟩
        rw [hx, ← EReal.coe_sub, sub_self, Ideal.exp_coe, Real.exp_zero]
        rfl
      have h1 : r i = 1 := by exact_mod_cast this
      rw [h1]; norm_num
    rw [hD, Ideal.div_coe hpos.ne', sum_mul _ _ (by exact_mod_cast (by positivity : (0:ℝ) ≤ 1 / ∑ i, r i)) (EReal.coe_ne_top _)]
    refine Finset.sum_congr rfl fun i _ => ?_
    rw [Ideal.div_coe hpos.ne', mul_right_comm]

end Quotient

end Cert.Softmax
-- ==== Proof.Rows.lean ====
/- One chunk's step and a head's start, read at an index over the extended reals. -/
module

public import proofs.«01_k».proof.Proof.Read
public import proofs.«01_k».proof.Proof.Softmax

@[expose] public section

set_option maxRecDepth 16384

noncomputable section

namespace Cert.Gqa

open Idealize.ShloMosaic VecWindow Cert.Softmax
open scoped BigOperators

theorem ofBits_negInf : Ideal.ofBits FTy.f32 0xFF800000#32 = ⊥ := by
  simp [Ideal.ofBits, Ideal.ieee]

theorem newMax_apply (s : FVec Ideal S360x72 .f32) (r : Fin 360) (z : Fin 1) :
    newMax s (ix2 r z) = Finset.univ.sup fun j : Fin 72 => s (ix2 r j) := by
  pointwise [newMax]
  rw [ofBits_negInf]
  rfl

theorem startM_apply (s : FVec Ideal S360x72 .f32) (r : Fin 360) (l : Fin 128) :
    startM s (ix2 r l) = Finset.univ.sup fun j : Fin 72 => s (ix2 r j) := by
  pointwise [startM, newMax_apply]

theorem newWeights_apply (s : FVec Ideal S360x72 .f32) (r : Fin 360) (j : Fin 72) :
    newWeights s (ix2 r j) = weight (s (ix2 r j)) (Finset.univ.sup fun j : Fin 72 => s (ix2 r j)) := by
  pointwise [newWeights, newMax_apply]
  rfl

theorem startL_apply (s : FVec Ideal S360x72 .f32) (r : Fin 360) (l : Fin 128) :
    startL s (ix2 r l) = ∑ j : Fin 72, weight (s (ix2 r j)) (Finset.univ.sup fun j : Fin 72 => s (ix2 r j)) := by
  pointwise [startL, newWeights_apply]

theorem startA_apply (s : FVec Ideal S360x72 .f32) (v : Vec Ideal S1x72x1x128 .bf16) (r : Fin 360) (d : Fin 128) :
    startA s v (ix2 r d) = ∑ j : Fin 72, weight (s (ix2 r j)) (Finset.univ.sup fun j : Fin 72 => s (ix2 r j)) * v (ix4 0 j 0 d) := by
  pointwise [startA, newWeights_apply]

theorem stepM_apply (m : Vec Ideal S360x128 .f32) (s : FVec Ideal S360x512 .f32) (r : Fin 360) (l : Fin 128) :
    stepM m s (ix2 r l) = max (m (ix2 r l)) (Finset.univ.sup fun j : Fin 512 => s (ix2 r j)) := by
  pointwise [stepM]
  rw [ofBits_negInf]
  rfl

theorem stepP_apply (m : Vec Ideal S360x128 .f32) (s : FVec Ideal S360x512 .f32) (r : Fin 360) (j : Fin 512) :
    stepP m s (ix2 r j) = weight (s (ix2 r j)) (stepM m s (ix2 r 0)) := by
  pointwise [stepP]
  rfl

theorem stepL_apply (m l : Vec Ideal S360x128 .f32) (s : FVec Ideal S360x512 .f32) (r : Fin 360) (i : Fin 128) :
    stepL m l s (ix2 r i) = l (ix2 r i) * weight (m (ix2 r i)) (stepM m s (ix2 r i))
      + ∑ j : Fin 512, weight (s (ix2 r j)) (stepM m s (ix2 r 0)) := by
  pointwise [stepL, stepAlpha, stepP_apply]
  rfl

theorem stepA_apply (h : Nat) (hh : h < 8) (m a : Vec Ideal S360x128 .f32) (s : FVec Ideal S360x512 .f32) (v : Vec Ideal S1x512x128 .fp8e4m3)
    (vs : Vec Ideal S1x8x512 .f32) (r : Fin 360) (d : Fin 128) :
    stepA h hh m a s v vs (ix2 r d) = a (ix2 r d) * weight (m (ix2 r d)) (stepM m s (ix2 r d))
      + ∑ j : Fin 512, weight (s (ix2 r j)) (stepM m s (ix2 r 0)) * scaleRow h hh vs (ix2 0 j) * v (ix3 0 j d) := by
  pointwise [stepA, stepAlpha, stepP_apply]
  rfl

theorem newScores_apply (c mask : EReal) (q : FVec Ideal S360x128 .bf16) (kn : Vec Ideal S1x72x1x128 .bf16) (r : Fin 360) (j : Fin 72) :
    newScores (F := Ideal) c mask q kn (ix2 r j)
      = if j.val ≤ r.val % 72 then (∑ d : Fin 128, q (ix2 r d) * kn (ix4 0 j 0 d)) * c else mask := by
  pointwise [newScores, causal5_apply]
  split_ifs <;> rfl

/-- The word of a token of chunk `k`. -/
theorem trip_word {k : Nat} (hk : k < 8) (n : Nat) :
    IntOp.addi (Scalar.muli (trip k) 512#32) (BitVec.ofNat 32 n) = BitVec.ofNat 32 (512 * k + n) := by
  have e : Scalar.muli (trip k) 512#32 = BitVec.ofNat 32 (512 * k) := by interval_cases k <;> decide
  rw [e]
  exact (BitVec.ofNat_add ..).symm

theorem oldScores_apply (c mask : EReal) (h : Nat) (hh : h < 8) (q : FVec Ideal S360x128 .bf16) (v1 : BitVec 32) (n : Nat) (hn : n < 8)
    (k : Vec Ideal S1x512x128 .fp8e4m3) (ks : Vec Ideal S1x8x512 .f32) (r : Fin 360) (j : Fin 512) :
    oldScores (F := Ideal) c mask h hh q v1 (trip n) k ks (ix2 r j)
      = if ((512 * n + lane j.val : Nat) : Int) < v1.toInt then
          (∑ d : Fin 128, q (ix2 r d) * k (ix3 0 j d)) * (scaleRow h hh ks (ix2 0 j) * c) else mask := by
  pointwise [oldScores]
  rw [tokIn_apply, trip_word hn, slt_ofNat (by have := lane_lt j.isLt; omega)]
  split_ifs <;> rfl

end Cert.Gqa
-- ==== Proof.Online.lean ====
/- The online softmax: after `k` chunks a head's three sums are those of the new tokens and of the first `512 * k` tokens of
   the cache; after the last chunk, those of all tokens. -/
module

public import proofs.«01_k».proof.Proof.Rows
public import proofs.«01_k».proof.Proof.Range

@[expose] public section

set_option maxRecDepth 16384

noncomputable section

namespace Cert.Gqa

open Idealize.ShloMosaic VecWindow Cert.Softmax
open scoped BigOperators

/-- A row's tokens: the new ones and those of the cache. -/
abbrev Tok := Fin 72 ⊕ Fin 4096

/-- The tokens of chunk `k`. -/
def inChunk (k : Nat) : Finset Tok := Finset.univ.filter fun i => ∃ t : Fin 4096, i = .inr t ∧ t.val / 512 = k
/-- The tokens seen before chunk `k`. -/
def seen (k : Nat) : Finset Tok := Finset.univ.filter fun i => ∀ t : Fin 4096, i = .inr t → t.val / 512 < k

theorem seen_succ (k : Nat) : seen (k + 1) = seen k ∪ inChunk k := by
  ext i
  rcases i with j | t
  · simp [seen, inChunk]
  · simp [seen, inChunk]; omega

theorem seen_disjoint (k : Nat) : Disjoint (seen k) (inChunk k) := by
  rw [Finset.disjoint_left]
  rintro (j | t)
  · simp [seen, inChunk]
  · simp [seen, inChunk]; omega

/-- The lane at which a chunk's token lies. -/
def unlane (n : Nat) : Nat := 32 * (n / 32) + 4 * (n % 8) + n % 32 / 8

theorem unlane_lane (l : Nat) : unlane (lane l) = l := by
  obtain ⟨a, b, c, hb, hc, rfl⟩ : ∃ a b c, b < 8 ∧ c < 4 ∧ l = 32 * a + 4 * b + c :=
    ⟨l / 32, l % 32 / 4, l % 4, by omega, by omega, by omega⟩
  have e : lane (32 * a + 4 * b + c) = 32 * a + 8 * c + b := by unfold lane; omega
  rw [e]
  unfold unlane
  omega

theorem lane_unlane (n : Nat) : lane (unlane n) = n := by
  obtain ⟨a, b, c, hb, hc, rfl⟩ : ∃ a b c, b < 8 ∧ c < 4 ∧ n = 32 * a + 8 * c + b :=
    ⟨n / 32, n % 8, n % 32 / 8, by omega, by omega, by omega⟩
  have e : unlane (32 * a + 8 * c + b) = 32 * a + 4 * b + c := by unfold unlane; omega
  rw [e]
  unfold lane
  omega

theorem unlane_lt {n : Nat} (h : n < 512) : unlane n < 512 := by unfold unlane; omega

/-- The token at lane `l` of chunk `k`. -/
def tokenAt (k : Nat) (hk : k < 8) (l : Fin 512) : Tok := .inr ⟨512 * k + lane l.val, by have := lane_lt l.isLt; omega⟩

theorem tokenAt_injective (k : Nat) (hk : k < 8) : Function.Injective (tokenAt k hk) := by
  intro a b h
  simp only [tokenAt, Sum.inr.injEq, Fin.mk.injEq] at h
  have e : lane a.val = lane b.val := by omega
  apply Fin.ext
  rw [← unlane_lane a.val, e, unlane_lane]

theorem tokenAt_image (k : Nat) (hk : k < 8) : Finset.univ.map ⟨tokenAt k hk, tokenAt_injective k hk⟩ = inChunk k := by
  ext i
  simp only [Finset.mem_map, Finset.mem_univ, true_and, Function.Embedding.coeFn_mk, inChunk, Finset.mem_filter]
  constructor
  · rintro ⟨l, rfl⟩
    have := lane_lt l.isLt
    exact ⟨_, rfl, by simp only []; omega⟩
  · rintro ⟨t, rfl, ht⟩
    have ht' := t.isLt
    refine ⟨⟨unlane (t.val % 512), unlane_lt (by omega)⟩, ?_⟩
    unfold tokenAt
    refine congrArg Sum.inr (Fin.ext ?_)
    simp only [lane_unlane]
    omega

theorem sum_chunk (k : Nat) (hk : k < 8) (f : Tok → EReal) : ∑ i ∈ inChunk k, f i = ∑ l : Fin 512, f (tokenAt k hk l) := by
  rw [← tokenAt_image k hk, Finset.sum_map]; rfl
theorem sup_chunk (k : Nat) (hk : k < 8) (f : Tok → EReal) : (inChunk k).sup f = Finset.univ.sup fun l : Fin 512 => f (tokenAt k hk l) := by
  rw [← tokenAt_image k hk, Finset.sup_map]; rfl

theorem seen_zero : seen 0 = Finset.univ.map ⟨Sum.inl, Sum.inl_injective⟩ := by
  ext i
  rcases i with j | t <;> simp [seen]
theorem sum_new (f : Tok → EReal) : ∑ i ∈ seen 0, f i = ∑ j : Fin 72, f (.inl j) := by
  rw [seen_zero, Finset.sum_map]; rfl
theorem sup_new (f : Tok → EReal) : (seen 0).sup f = Finset.univ.sup fun j : Fin 72 => f (.inl j) := by
  rw [seen_zero, Finset.sup_map]; rfl

variable (c : EReal) (h : Nat) (hh : h < 8) (x2 : Vec Ideal S1x72x40x128 .bf16) (x3 x4 : Vec Ideal S1x72x8x128 .bf16)
  (x5 x6 : Vec Ideal S1x4096x8x128 .fp8e4m3) (x7 x8 : Vec Ideal S1x8x4096 .f32) (v1 : BitVec 32)

/-- The query of row `r`: head row `5 * h + r / 72` of new token `r % 72`. -/
def rowQuery (r : Fin 360) (d : Fin 128) : EReal :=
  x2 (ix4 0 ⟨r.val % 72, Nat.mod_lt _ (by decide)⟩ ⟨5 * h + r.val / 72, by omega⟩ d)

/-- A row's score against a token. -/
def score (r : Fin 360) : Tok → EReal
  | .inl j => if j.val ≤ r.val % 72 then (∑ d, rowQuery h hh x2 r d * x3 (ix4 0 j ⟨h, hh⟩ d)) * c else ⊥
  | .inr t => if ((t.val : Nat) : Int) < v1.toInt then (∑ d, rowQuery h hh x2 r d * x5 (ix4 0 t ⟨h, hh⟩ d)) * (x7 (ix3 0 ⟨h, hh⟩ t) * c) else ⊥

/-- A token's value. -/
def value (d : Fin 128) : Tok → EReal
  | .inl j => x4 (ix4 0 j ⟨h, hh⟩ d)
  | .inr t => x8 (ix3 0 ⟨h, hh⟩ t) * x6 (ix4 0 t ⟨h, hh⟩ d)

theorem newScores_score (r : Fin 360) (j : Fin 72) :
    newScores (F := Ideal) c ⊥ (headQueries x2 h hh) (newRow x3 h hh) (ix2 r j) = score c h hh x2 x3 x5 x7 v1 r (.inl j) := by
  rw [newScores_apply]
  simp only [headQueries_apply, newRow_apply]
  rfl

theorem chunkScores_score (k : Nat) (hk : k < 8) (ha : Fits (trip k)) (r : Fin 360) (l : Fin 512) :
    chunkScores (F := Ideal) c ⊥ h hh x2 x5 x7 v1 (trip k) ha (ix2 r l) = score c h hh x2 x3 x5 x7 v1 r (tokenAt k hk l) := by
  unfold chunkScores
  rw [oldScores_apply _ _ _ _ _ _ _ hk]
  simp only [headQueries_apply, cacheChunk_apply _ _ _ _ hk, scaleRow_apply _ _ _ _ hk]
  rfl

/-- The three sums are those of the tokens of `S`. -/
structure Has (T : Sums Ideal) (S : Finset Tok) : Prop where
  m : ∀ r l, T.m (ix2 r l) = top (score c h hh x2 x3 x5 x7 v1 r) S
  l : ∀ r l, T.l (ix2 r l) = mass (score c h hh x2 x3 x5 x7 v1 r) S
  a : ∀ r d, T.a (ix2 r d) = blend (score c h hh x2 x3 x5 x7 v1 r) (value h hh x4 x6 x8 d) S

theorem has_start : Has c h hh x2 x3 x4 x5 x6 x7 x8 v1 (startSums (F := Ideal) c ⊥ h hh x2 x3 x4) (seen 0) where
  m r l := by
    simp only [startSums, startM_apply, newScores_score c h hh x2 x3 x5 x7 v1]
    exact (sup_new _).symm
  l r l := by
    simp only [startSums, startL_apply, newScores_score c h hh x2 x3 x5 x7 v1]
    unfold mass top
    rw [sum_new, sup_new]
  a r d := by
    simp only [startSums, startA_apply, newScores_score c h hh x2 x3 x5 x7 v1, newRow_apply]
    unfold blend top
    rw [sum_new, sup_new]
    rfl

theorem has_step (k : Nat) (hk : k < 8) (ha : Fits (trip k)) (T : Sums Ideal) (hT : Has c h hh x2 x3 x4 x5 x6 x7 x8 v1 T (seen k)) :
    Has c h hh x2 x3 x4 x5 x6 x7 x8 v1
      (stepSums h hh (chunkScores (F := Ideal) c ⊥ h hh x2 x5 x7 v1 (trip k) ha) x6 x8 (trip k) ha T) (seen (k + 1)) := by
  have em : ∀ r l, stepM T.m (chunkScores (F := Ideal) c ⊥ h hh x2 x5 x7 v1 (trip k) ha) (ix2 r l)
      = top (score c h hh x2 x3 x5 x7 v1 r) (seen (k + 1)) := by
    intro r l
    rw [stepM_apply, hT.m, seen_succ, top_union]
    simp only [chunkScores_score c h hh x2 x3 x5 x7 v1 k hk ha]
    exact congrArg _ (sup_chunk k hk _).symm
  refine ⟨em, fun r l => ?_, fun r d => ?_⟩
  · simp only [stepSums]
    rw [stepL_apply, em, em, hT.m, hT.l]
    simp only [chunkScores_score c h hh x2 x3 x5 x7 v1 k hk ha]
    rw [seen_succ, mass_union _ (seen_disjoint k), sum_chunk k hk]
  · simp only [stepSums]
    rw [stepA_apply, em, em, hT.m, hT.a]
    simp only [chunkScores_score c h hh x2 x3 x5 x7 v1 k hk ha, scaleRow_apply _ _ _ _ hk, cacheChunk_apply _ _ _ _ hk]
    rw [seen_succ, blend_union _ _ (seen_disjoint k), sum_chunk k hk]
    refine congrArg _ (Finset.sum_congr rfl fun l _ => ?_)
    exact mul_assoc _ _ _

theorem has_sums (hok : Ok v1) (k : Nat) (hk : k ≤ (mainLoop v1).trips) :
    Has c h hh x2 x3 x4 x5 x6 x7 x8 v1 (sums (F := Ideal) c ⊥ h hh x2 x3 x4 x5 x6 x7 x8 hok k) (seen k) := by
  induction k with
  | zero => exact has_start ..
  | succ k ih =>
    have h8 := hok.trips_le
    have e : sums (F := Ideal) c ⊥ h hh x2 x3 x4 x5 x6 x7 x8 hok (k + 1)
        = stepSums h hh (chunkScores c ⊥ h hh x2 x5 x7 v1 (trip k) (hok.fits ⟨k, hk⟩)) x6 x8 (trip k) (hok.fits ⟨k, hk⟩)
            (sums c ⊥ h hh x2 x3 x4 x5 x6 x7 x8 hok k) := dif_pos hk
    rw [e]
    exact has_step c h hh x2 x3 x4 x5 x6 x7 x8 v1 k (by omega) _ _ (ih (by omega))

/-- After the last chunk. -/
theorem has_all (hok : Ok v1) (h0 : 0 ≤ v1.toInt) (h1 : v1.toInt ≤ 4096) :
    Has c h hh x2 x3 x4 x5 x6 x7 x8 v1 (sums (F := Ideal) c ⊥ h hh x2 x3 x4 x5 x6 x7 x8 hok (mainLoop v1).trips) Finset.univ := by
  obtain ⟨hn, hi⟩ := word_of_range h0 h1
  have hs := has_sums c h hh x2 x3 x4 x5 x6 x7 x8 v1 hok _ (le_refl _)
  have hb : ∀ r, ∀ i ∈ (Finset.univ : Finset Tok), i ∉ seen (mainLoop v1).trips → score c h hh x2 x3 x5 x7 v1 r i = ⊥ := by
    rintro r (j | t) - hi'
    · simp [seen] at hi'
    · simp [seen, trips_eq hn] at hi'
      unfold score
      simp only []
      rw [if_neg (by omega)]
  exact ⟨fun r l => by rw [hs.m, top_superset _ (Finset.subset_univ _) (hb r)],
    fun r l => by rw [hs.l, mass_superset _ (Finset.subset_univ _) (hb r)],
    fun r d => by rw [hs.a, blend_superset _ _ (Finset.subset_univ _) (hb r)]⟩

end Cert.Gqa
-- ==== Proof.Attention.lean ====
/- Plain softmax attention of one query row over the new tokens and the cached ones, and that an element of the kernel's
   output block is it. -/
module

public import proofs.«01_k».proof.Proof.Online
public import proofs.«01_k».proof.Proof.Body

@[expose] public section

set_option maxRecDepth 16384

noncomputable section

namespace Cert.Gqa

open Idealize.ShloMosaic VecWindow Cert.Softmax
open scoped BigOperators

section Plain
variable (C : EReal) (s : Nat) (len : Int) (x : Fin 128 → EReal) (kn : Fin 72 → Fin 128 → EReal) (ck : Fin 4096 → Fin 128 → EReal)
  (ks : Fin 4096 → EReal) (vn : Fin 72 → EReal) (cv vs : Fin 4096 → EReal)

/-- The scores of query row `x`, that of new token `s`: against the new tokens up to its own, and against the cache's first `len`. -/
def rowScore : Tok → EReal
  | .inl j => if j.val ≤ s then (∑ d, x d * kn j d) * C else ⊥
  | .inr t => if ((t.val : Nat) : Int) < len then (∑ d, x d * ck t d) * (ks t * C) else ⊥

/-- The tokens' values, at one coordinate. -/
def rowValue : Tok → EReal
  | .inl j => vn j
  | .inr t => vs t * cv t

/-- The attention: the average of the values by the softmax of the scores; `-∞`, which stands for NaN, where the greatest
    score is infinite. -/
def attend : EReal :=
  if top (rowScore C s len x kn ck ks) Finset.univ = ⊤ ∨ top (rowScore C s len x kn ck ks) Finset.univ = ⊥ then ⊥
  else ∑ i, Ideal.div (Ideal.exp (rowScore C s len x kn ck ks i - top (rowScore C s len x kn ck ks) Finset.univ))
    (∑ k, Ideal.exp (rowScore C s len x kn ck ks k - top (rowScore C s len x kn ck ks) Finset.univ)) * rowValue vn cv vs i
end Plain

theorem outRows_apply (a l : Vec Ideal S360x128 .f32) (r : Fin 360) (d : Fin 128) :
    outRows a l (ix2 r d) = Ideal.div (a (ix2 r d)) (l (ix2 r d)) := by
  pointwise [outRows]

theorem outGroup_apply (g : Nat) (hg : g < 5) (o : FVec Ideal S360x128 .bf16) (s : Fin 72) (d : Fin 128) :
    outGroup g hg o (ix4 0 s 0 d) = o (ix2 ⟨72 * g + s.val, by omega⟩ d) := by
  pointwise [outGroup]

variable (C : EReal) (x2 : Vec Ideal S1x72x40x128 .bf16) (x3 x4 : Vec Ideal S1x72x8x128 .bf16)
  (x5 x6 : Vec Ideal S1x4096x8x128 .fp8e4m3) (x7 x8 : Vec Ideal S1x8x4096 .f32) (v1 : BitVec 32)

/-- The kernel's scores, whose scale has the factor `1 / log 2`, are that multiple of the plain ones. -/
theorem score_row (s : Fin 72) (n : Fin 40) (hh : n.val / 5 < 8) (i : Tok) :
    score (C * (((Real.log 2)⁻¹ : ℝ) : EReal)) (n.val / 5) hh x2 x3 x5 x7 v1 ⟨72 * (n.val % 5) + s.val, by omega⟩ i
      = rowScore C s.val v1.toInt (fun d => x2 (ix4 0 s n d)) (fun j d => x3 (ix4 0 j ⟨n.val / 5, hh⟩ d))
          (fun t d => x5 (ix4 0 t ⟨n.val / 5, hh⟩ d)) (fun t => x7 (ix3 0 ⟨n.val / 5, hh⟩ t)) i * (((Real.log 2)⁻¹ : ℝ) : EReal) := by
  have hL : (0 : ℝ) < (Real.log 2)⁻¹ := inv_pos.mpr (Real.log_pos (by norm_num))
  have hq : ∀ d, rowQuery (n.val / 5) hh x2 ⟨72 * (n.val % 5) + s.val, by omega⟩ d = x2 (ix4 0 s n d) := by
    intro d
    unfold rowQuery
    refine congrArg₂ (fun (a : Fin 72) (b : Fin 40) => x2 (ix4 0 a b d)) (Fin.ext ?_) (Fin.ext ?_) <;> simp only [] <;> omega
  have hs : (72 * (n.val % 5) + s.val) % 72 = s.val := by omega
  rcases i with j | t
  · simp only [score, rowScore, hq, hs]
    split_ifs
    · exact (mul_assoc _ _ _).symm
    · exact (EReal.bot_mul_coe_of_pos hL).symm
  · simp only [score, rowScore, hq]
    split_ifs
    · rw [mul_assoc, mul_assoc]
    · exact (EReal.bot_mul_coe_of_pos hL).symm

/-- An element of the kernel's output block is plain attention. -/
theorem outBlock_apply (hok : Ok v1) (h0 : 0 ≤ v1.toInt) (h1 : v1.toInt ≤ 4096) (s : Fin 72) (n : Fin 40) (d : Fin 128)
    (hh : n.val / 5 < 8) :
    outBlock (F := Ideal) (C * (((Real.log 2)⁻¹ : ℝ) : EReal)) ⊥ x2 x3 x4 x5 x6 x7 x8 hok (ix4 0 s n d)
      = attend C s.val v1.toInt (fun d => x2 (ix4 0 s n d)) (fun j d => x3 (ix4 0 j ⟨n.val / 5, hh⟩ d))
          (fun t d => x5 (ix4 0 t ⟨n.val / 5, hh⟩ d)) (fun t => x7 (ix3 0 ⟨n.val / 5, hh⟩ t))
          (fun j => x4 (ix4 0 j ⟨n.val / 5, hh⟩ d)) (fun t => x6 (ix4 0 t ⟨n.val / 5, hh⟩ d)) (fun t => x8 (ix3 0 ⟨n.val / 5, hh⟩ t)) := by
  have H := has_all (C * (((Real.log 2)⁻¹ : ℝ) : EReal)) (n.val / 5) hh x2 x3 x4 x5 x6 x7 x8 v1 hok h0 h1
  have hg : n.val % 5 < 5 := Nat.mod_lt _ (by decide)
  have e : outBlock (F := Ideal) (C * (((Real.log 2)⁻¹ : ℝ) : EReal)) ⊥ x2 x3 x4 x5 x6 x7 x8 hok (ix4 0 s n d)
      = outGroup (F := Ideal) (n.val % 5) hg (outRows (F := Ideal) (sums (F := Ideal) (C * (((Real.log 2)⁻¹ : ℝ) : EReal)) ⊥ (n.val / 5) hh x2 x3 x4 x5 x6 x7 x8 hok (mainLoop v1).trips).a
          (sums (F := Ideal) (C * (((Real.log 2)⁻¹ : ℝ) : EReal)) ⊥ (n.val / 5) hh x2 x3 x4 x5 x6 x7 x8 hok (mainLoop v1).trips).l) (ix4 0 s 0 d) := by
    unfold outBlock
    refine congrArg (outGroup _ _ _) (funext fun a => ?_)
    fin_cases a <;> rfl
  rw [e, outGroup_apply, outRows_apply, H.a, H.l]
  rw [quotient _ _ _ (score_row C x2 x3 x5 x7 v1 s n hh)]
  unfold attend
  have hw : value (n.val / 5) hh x4 x6 x8 d = rowValue (fun j => x4 (ix4 0 j ⟨n.val / 5, hh⟩ d)) (fun t => x6 (ix4 0 t ⟨n.val / 5, hh⟩ d)) (fun t => x8 (ix3 0 ⟨n.val / 5, hh⟩ t)) := by
    funext i
    rcases i with j | t <;> rfl
  rw [hw]

end Cert.Gqa
-- ==== Proof.KernelIdealValue.lean ====
/- The idealized kernel's result array is plain attention, element by element. -/
module

public import proofs.«01_k».proof.Proof.KernelIdealLaunch
public import proofs.«01_k».proof.Proof.Attention
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ)

/-- The score scale before it is turned to base two. -/
theorem ofBits_scale : Ideal.ofBits FTy.f32 0x3DB504F3#32 = ((11863283 / 134217728 : ℝ) : EReal) := by
  simp [Ideal.ofBits, Ideal.ieee]
  rw [← EReal.coe_mul]
  norm_num

/-- The body's scale is it times the base-two logarithm of e, -/
theorem scale_eq : (scoreScale : Ideal .f32) = Ideal.ofBits FTy.f32 0x3DB504F3#32 * (((Real.log 2)⁻¹ : ℝ) : EReal) := by
  rw [ofBits_scale, ← EReal.coe_mul]
  rfl
/-- and a masked score is ⊥. -/
theorem mask_eq : (maskValue : Ideal .f32) = (⊥ : EReal) := rfl

/-- The grid's point `t` is batch `t`. -/
theorem coords_val : ∀ t : Fin grid0.N, (grid0.coords t 0).val = t.val := by decide +kernel
theorem off1_val : ∀ t : Fin grid0.N, k0_off1 (grid0.coords t) 0 = t.val := by decide +kernel

/-- The word the body reads at point `t` is batch `t`'s length. -/
theorem word_eq (x : Vec Ideal S32 .i32) (t : Fin grid0.N) (ht : t.val < 32) :
    Gqa.wordAt x (k0_off1 (grid0.coords t)) (k0_off1_inb _) = x (ix1 ⟨t.val, ht⟩) := by
  unfold Gqa.wordAt
  refine congrArg x ?_
  funext a
  obtain rfl : a = 0 := Subsingleton.elim _ _
  apply Fin.ext
  have := off1_val t
  show k0_off1 (grid0.coords t) 0 + _ = t.val
  rw [this]
  rfl

/-- Point `t`'s block of every array starts at batch `t`. -/
theorem index0 : ∀ t : Fin grid0.N, cc0_transform_0 (grid0.coords t) = ![t.val, 0, 0, 0] := by decide +kernel
theorem index1 : ∀ t : Fin grid0.N, cc0_transform_1 (grid0.coords t) = ![t.val, 0, 0, 0] := by decide +kernel
theorem index2 : ∀ t : Fin grid0.N, cc0_transform_2 (grid0.coords t) = ![t.val, 0, 0, 0] := by decide +kernel
theorem index3 : ∀ t : Fin grid0.N, cc0_transform_3 (grid0.coords t) = ![t.val, 0, 0, 0] := by decide +kernel
theorem index4 : ∀ t : Fin grid0.N, cc0_transform_4 (grid0.coords t) = ![t.val, 0, 0, 0] := by decide +kernel
theorem index5 : ∀ t : Fin grid0.N, cc0_transform_5 (grid0.coords t) = ![t.val, 0, 0] := by decide +kernel
theorem index6 : ∀ t : Fin grid0.N, cc0_transform_6 (grid0.coords t) = ![t.val, 0, 0] := by decide +kernel
theorem index7 : ∀ t : Fin grid0.N, cc0_transform_7 (grid0.coords t) = ![t.val, 0, 0, 0] := by decide +kernel

variable (c : Dev nD) (t : Fin (cfgA m).N) (ht : t.val < 32)

/-- Where the output block of point `t` lies in its array. -/
theorem emb7 (s : Fin 72) (n : Fin 40) (d : Fin 128) : (((cfgA m).win 7).blk t).view.emb (ix4 (0 : Fin 1) s n d) = (ix4 ⟨t.val, ht⟩ s n d : S32x72x40x128.Idx) := by
  funext a
  apply Fin.ext
  refine (Pipeline.Window.rect_emb_val _ _ _ _).trans ?_
  show cc0_transform_7 (grid0.coords t) a * S1x72x40x128.size a + _ = _
  rw [index7]
  fin_cases a <;> simp [ix4]

/-! Every input's block at point `t`, element by element. -/

theorem blk0 (s : Fin 72) (n : Fin 40) (d : Fin 128) : iblk m c 0 t (ix4 (0 : Fin 1) s n d) = V m c main_arg0 (ix4 ⟨t.val, ht⟩ s n d : S32x72x40x128.Idx) := by
  refine congrArg (V m c main_arg0) ?_
  funext a
  apply Fin.ext
  refine (Pipeline.Window.rect_emb_val _ _ _ _).trans ?_
  show cc0_transform_0 (grid0.coords t) a * S1x72x40x128.size a + _ = _
  rw [index0]
  fin_cases a <;> simp [ix4]
theorem blk1 (s : Fin 72) (n : Fin 8) (d : Fin 128) : iblk m c 1 t (ix4 (0 : Fin 1) s n d) = V m c main_arg1 (ix4 ⟨t.val, ht⟩ s n d : S32x72x8x128.Idx) := by
  refine congrArg (V m c main_arg1) ?_
  funext a
  apply Fin.ext
  refine (Pipeline.Window.rect_emb_val _ _ _ _).trans ?_
  show cc0_transform_1 (grid0.coords t) a * S1x72x8x128.size a + _ = _
  rw [index1]
  fin_cases a <;> simp [ix4]
theorem blk2 (s : Fin 72) (n : Fin 8) (d : Fin 128) : iblk m c 2 t (ix4 (0 : Fin 1) s n d) = V m c main_arg2 (ix4 ⟨t.val, ht⟩ s n d : S32x72x8x128.Idx) := by
  refine congrArg (V m c main_arg2) ?_
  funext a
  apply Fin.ext
  refine (Pipeline.Window.rect_emb_val _ _ _ _).trans ?_
  show cc0_transform_2 (grid0.coords t) a * S1x72x8x128.size a + _ = _
  rw [index2]
  fin_cases a <;> simp [ix4]
theorem blk3 (s : Fin 4096) (n : Fin 8) (d : Fin 128) : iblk m c 3 t (ix4 (0 : Fin 1) s n d) = V m c main_arg3 (ix4 ⟨t.val, ht⟩ s n d : S32x4096x8x128.Idx) := by
  refine congrArg (V m c main_arg3) ?_
  funext a
  apply Fin.ext
  refine (Pipeline.Window.rect_emb_val _ _ _ _).trans ?_
  show cc0_transform_3 (grid0.coords t) a * S1x4096x8x128.size a + _ = _
  rw [index3]
  fin_cases a <;> simp [ix4]
theorem blk4 (s : Fin 4096) (n : Fin 8) (d : Fin 128) : iblk m c 4 t (ix4 (0 : Fin 1) s n d) = V m c main_arg4 (ix4 ⟨t.val, ht⟩ s n d : S32x4096x8x128.Idx) := by
  refine congrArg (V m c main_arg4) ?_
  funext a
  apply Fin.ext
  refine (Pipeline.Window.rect_emb_val _ _ _ _).trans ?_
  show cc0_transform_4 (grid0.coords t) a * S1x4096x8x128.size a + _ = _
  rw [index4]
  fin_cases a <;> simp [ix4]
theorem blk5 (h : Fin 8) (u : Fin 4096) : iblk m c 5 t (ix3 (0 : Fin 1) h u) = V m c main_v0 (ix3 ⟨t.val, ht⟩ h u : S32x8x4096.Idx) := by
  refine congrArg (V m c main_v0) ?_
  funext a
  apply Fin.ext
  refine (Pipeline.Window.rect_emb_val _ _ _ _).trans ?_
  show cc0_transform_5 (grid0.coords t) a * S1x8x4096.size a + _ = _
  rw [index5]
  fin_cases a <;> simp [ix3]
theorem blk6 (h : Fin 8) (u : Fin 4096) : iblk m c 6 t (ix3 (0 : Fin 1) h u) = V m c main_v1 (ix3 ⟨t.val, ht⟩ h u : S32x8x4096.Idx) := by
  refine congrArg (V m c main_v1) ?_
  funext a
  apply Fin.ext
  refine (Pipeline.Window.rect_emb_val _ _ _ _).trans ?_
  show cc0_transform_6 (grid0.coords t) a * S1x8x4096.size a + _ = _
  rw [index6]
  fin_cases a <;> simp [ix3]

/-! The host's transposes of the two scale arrays. -/

theorem V_v0 (b : Fin 32) (h : Fin 8) (u : Fin 4096) : V m c main_v0 (ix3 b h u : S32x8x4096.Idx) = m ((c.tc : Thread nD τ).loc main_arg5) (ix3 b u h : S32x4096x8.Idx) := by
  have e : V m c main_v0 = ((transpose S32x8x4096 [0, 2, 1] · transposes_S32x4096x8_S32x8x4096_0_2_1) : FVec Ideal S32x4096x8 .f32 → FVec Ideal S32x8x4096 .f32) (m ((c.tc : Thread nD τ).loc main_arg5)) := by
    show StableHlo.after hostOps0 _ _ = _
    unfold hostOps0
    after_results
  rw [e]
  generalize m ((c.tc : Thread nD τ).loc main_arg5) = x
  revert x
  intro (x : FVec Ideal S32x4096x8 .f32)
  show transpose S32x8x4096 [0, 2, 1] x _ _ = _
  pointwise
theorem V_v1 (b : Fin 32) (h : Fin 8) (u : Fin 4096) : V m c main_v1 (ix3 b h u : S32x8x4096.Idx) = m ((c.tc : Thread nD τ).loc main_arg6) (ix3 b u h : S32x4096x8.Idx) := by
  have e : V m c main_v1 = ((transpose S32x8x4096 [0, 2, 1] · transposes_S32x4096x8_S32x8x4096_0_2_1) : FVec Ideal S32x4096x8 .f32 → FVec Ideal S32x8x4096 .f32) (m ((c.tc : Thread nD τ).loc main_arg6)) := by
    show StableHlo.after hostOps0 _ _ = _
    unfold hostOps0
    after_results
  rw [e]
  generalize m ((c.tc : Thread nD τ).loc main_arg6) = x
  revert x
  intro (x : FVec Ideal S32x4096x8 .f32)
  show transpose S32x8x4096 [0, 2, 1] x _ _ = _
  pointwise

theorem scale5 (h : Fin 8) (u : Fin 4096) : iblk m c 5 t (ix3 (0 : Fin 1) h u) = m ((c.tc : Thread nD τ).loc main_arg5) (ix3 ⟨t.val, ht⟩ u h : S32x4096x8.Idx) :=
  (blk5 m c t ht h u).trans (V_v0 m c _ h u)
theorem scale6 (h : Fin 8) (u : Fin 4096) : iblk m c 6 t (ix3 (0 : Fin 1) h u) = m ((c.tc : Thread nD τ).loc main_arg6) (ix3 ⟨t.val, ht⟩ u h : S32x4096x8.Idx) :=
  (blk6 m c t ht h u).trans (V_v1 m c _ h u)

/-! ## The result array -/

/-- The output's blocks cover its array. -/
theorem covers7 : ((cfgA m).win 7).Covers :=
  Pipeline.Window.covers_of_index_surj _ rfl (fun a => (by decide : ∀ a, 0 < S1x72x40x128.size a) a) fun β => by
    have h0 : (β (0 : Fin 4)).val < 32 := lt_of_lt_of_eq (β (0 : Fin 4)).isLt (show (S32x72x40x128.size 0 + S1x72x40x128.size 0 - 1) / S1x72x40x128.size 0 = 32 by decide)
    have h1 : (β (1 : Fin 4)).val < 1 := lt_of_lt_of_eq (β (1 : Fin 4)).isLt (show (S32x72x40x128.size 1 + S1x72x40x128.size 1 - 1) / S1x72x40x128.size 1 = 1 by decide)
    have h2 : (β (2 : Fin 4)).val < 1 := lt_of_lt_of_eq (β (2 : Fin 4)).isLt (show (S32x72x40x128.size 2 + S1x72x40x128.size 2 - 1) / S1x72x40x128.size 2 = 1 by decide)
    have h3 : (β (3 : Fin 4)).val < 1 := lt_of_lt_of_eq (β (3 : Fin 4)).isLt (show (S32x72x40x128.size 3 + S1x72x40x128.size 3 - 1) / S1x72x40x128.size 3 = 1 by decide)
    refine ⟨⟨(β (0 : Fin 4)).val, h0⟩, fun a => ?_⟩
    show cc0_transform_7 (grid0.coords _) a = _
    rw [index7]
    revert a
    intro (a : Fin 4)
    match a with
    | ⟨0, _⟩ => rfl
    | ⟨1, _⟩ => exact (Nat.lt_one_iff.mp h1).symm
    | ⟨2, _⟩ => exact (Nat.lt_one_iff.mp h2).symm
    | ⟨3, _⟩ => exact (Nat.lt_one_iff.mp h3).symm

/-- An element of the result, of the arguments: row `n` of new token `s` of batch `b`, coordinate `d`. -/
def element (m : (ℓ : Loc nD τ sig) → Buf (Elt Ideal) ℓ) (c : Dev nD) (b : Fin 32) (s : Fin 72) (n : Fin 40) (d : Fin 128) (hh : n.val / 5 < 8) : EReal :=
  Gqa.attend (Ideal.ofBits FTy.f32 0x3DB504F3#32) s.val ((m ((c.tc : Thread nD τ).loc main_arg7) : IVec S32 32) (ix1 b)).toInt
    (fun d => m ((c.tc : Thread nD τ).loc main_arg0) (ix4 b s n d : S32x72x40x128.Idx))
    (fun j d => m ((c.tc : Thread nD τ).loc main_arg1) (ix4 b j ⟨n.val / 5, hh⟩ d : S32x72x8x128.Idx))
    (fun t d => m ((c.tc : Thread nD τ).loc main_arg3) (ix4 b t ⟨n.val / 5, hh⟩ d : S32x4096x8x128.Idx))
    (fun t => m ((c.tc : Thread nD τ).loc main_arg5) (ix3 b t ⟨n.val / 5, hh⟩ : S32x4096x8.Idx))
    (fun j => m ((c.tc : Thread nD τ).loc main_arg2) (ix4 b j ⟨n.val / 5, hh⟩ d : S32x72x8x128.Idx))
    (fun t => m ((c.tc : Thread nD τ).loc main_arg4) (ix4 b t ⟨n.val / 5, hh⟩ d : S32x4096x8x128.Idx))
    (fun t => m ((c.tc : Thread nD τ).loc main_arg6) (ix3 b t ⟨n.val / 5, hh⟩ : S32x4096x8.Idx))

/-- A row of the result belongs to one of the eight heads. -/
theorem head_lt (n : Fin 40) : n.val / 5 < 8 := by have := n.isLt; omega

/-- The output block's element at point `t` is batch `t`'s. -/
theorem oblk_apply (hO : Admits m) (hlen : ∀ i, 0 ≤ (lens m i).toInt ∧ (lens m i).toInt ≤ 4096) (s : Fin 72) (n : Fin 40) (d : Fin 128) :
    oblk m hO c t (ix4 (0 : Fin 1) s n d) = element m c ⟨t.val, ht⟩ s n d (head_lt n) := by
  unfold oblk element
  rw [scale_eq, mask_eq]
  have hw := word_eq (lens m) t ht
  have hr : 0 ≤ (Gqa.wordAt (lens m) (k0_off1 (grid0.coords t)) (k0_off1_inb _)).toInt ∧ (Gqa.wordAt (lens m) (k0_off1 (grid0.coords t)) (k0_off1_inb _)).toInt ≤ 4096 := by
    rw [hw]; exact hlen _
  refine (Gqa.outBlock_apply (v1 := Gqa.wordAt (lens m) (k0_off1 (grid0.coords t)) (k0_off1_inb _)) _ _ _ _ _ _ _ _ _ hr.1 hr.2 s n d (head_lt n)).trans ?_
  rw [hw]
  simp only [blk0 m c t ht, blk1 m c t ht, blk2 m c t ht, blk3 m c t ht, blk4 m c t ht, scale5 m c t ht, scale6 m c t ht]
  unfold lens
  obtain rfl : c = (0 : Dev nD) := Subsingleton.elim _ _
  rw [V_of_ne m 0 main_arg0 (by decide) (by decide), V_of_ne m 0 main_arg1 (by decide) (by decide), V_of_ne m 0 main_arg2 (by decide) (by decide),
    V_of_ne m 0 main_arg3 (by decide) (by decide), V_of_ne m 0 main_arg4 (by decide) (by decide), V_of_ne m 0 main_arg7 (by decide) (by decide)]

/-- The result array, element by element. -/
theorem array_eq (hO : Admits m) (hlen : ∀ i, 0 ≤ (lens m i).toInt ∧ (lens m i).toInt ≤ 4096) (c : Dev nD) :
    (dats m hO 0 c).arrAt 7 (cfgA m).N = fun y : S32x72x40x128.Idx => element m c (y 0) (y 1) (y 2) (y 3) (head_lt (y 2)) := by
  refine (dats m hO 0 c).arrAt_eq_of_covers 7 _ (covers7 m) fun t hf y => ?_
  have ht : t.val < 32 := t.isLt
  obtain ⟨s, n, d, rfl⟩ : ∃ (s : Fin 72) (n : Fin 40) (d : Fin 128), y = (ix4 (0 : Fin 1) s n d : S1x72x40x128.Idx) :=
    ⟨y (1 : Fin 4), y (2 : Fin 4), y (3 : Fin 4), (eq_ix4 _).trans (by congr 1; exact Subsingleton.elim (α := Fin 1) _ _)⟩
  rw [emb7 m t ht s n d]
  exact oblk_apply m c t ht hO hlen s n d

end Cert.KernelIdeal.Run
-- ==== Proof.RefScores.lean ====
/- The reference's scores read at an index, over the extended reals: against the cache and against the new tokens. -/
module

public import proofs.«01_k».proof.Proof.Gen.ReferenceIdeal.Run
public import Idealize.ShloMosaic.Lib.Pointwise

@[expose] public section

set_option maxRecDepth 16384

noncomputable section

namespace Cert.ReferenceIdeal.Elem

open Cert.ReferenceIdeal Cert.ReferenceIdeal.Gen Cert.ReferenceIdeal.Value Idealize.ShloMosaic Idealize.ShloMosaic.TcCoe Idealize.SL.Sem
open scoped BigOperators

theorem toInt_ofNat {n : Nat} (h : n < 65536) : (BitVec.ofNat 32 n).toInt = n := by
  rw [BitVec.toInt_eq_toNat_cond, BitVec.toNat_ofNat, Nat.mod_eq_of_lt (by omega), if_pos (by omega)]

theorem slt_ofNat {n : Nat} (h : n < 65536) (v : BitVec 32) :
    IntOp.cmpi CmpIPredicate.slt (BitVec.ofNat 32 n) v = if (n : Int) < v.toInt then 1#1 else 0#1 := by
  unfold IntOp.cmpi
  simp only [BitVec.slt_eq_decide, toInt_ofNat h]
  by_cases h : (n : Int) < v.toInt <;> simp [h]

theorem sge_ofNat {n k : Nat} (h : n < 65536) (hk : k < 65536) :
    IntOp.cmpi CmpIPredicate.sge (BitVec.ofNat 32 n) (BitVec.ofNat 32 k) = if k ≤ n then 1#1 else 0#1 := by
  unfold IntOp.cmpi
  simp only [BitVec.sle_eq_decide, toInt_ofNat h, toInt_ofNat hk]
  by_cases h : k ≤ n <;> simp [h]

/-- The scores against the cache, of the queries, the widened keys, their scales and the cache lengths. -/
def oldScores (q : FVec Ideal S32x72x8x5x128 .bf16) (ck : FVec Ideal S32x4096x8x128 .bf16) (ks : FVec Ideal S32x4096x8 .f32) (len : IVec S32 32) : FVec Ideal S32x72x8x5x4096 .f32 :=
  select (broadcastInDim S32x72x8x5x4096 ![0, 4] bcast_S32x4096_S32x72x8x5x4096_0_4 (cmpi .slt (broadcastInDim S32x4096 ![0, 1] bcast_S1x4096_S32x4096_0_1 (broadcastInDim S1x4096 ![1] bcast_S4096_S1x4096_1 (iotaInDim S4096 32 0))) (broadcastInDim S32x4096 ![0, 1] bcast_S32x1_S32x4096_0_1 (broadcastInDim S32x1 ![0] bcast_S32_S32x1_0 len)))) (mulf (mulf (transpose S32x72x8x5x4096 [0, 3, 1, 4, 2] (Host.dotGeneral dot_S32x4096x8x128_S32x72x8x5x128_S32x8x4096x72x5_3_4_1_13_02_02 none ck q) transposes_S32x8x4096x72x5_S32x72x8x5x4096_0_3_1_4_2) (broadcastInDim S32x72x8x5x4096 ![0, 1, 2, 3, 4] bcast_S32x1x8x1x4096_S32x72x8x5x4096_0_1_2_3_4 (broadcastInDim S32x1x8x1x4096 ![0, 2, 4] bcast_S32x8x4096_S32x1x8x1x4096_0_2_4 (transpose S32x8x4096 [0, 2, 1] ks transposes_S32x4096x8_S32x8x4096_0_2_1)))) (broadcastInDim S32x72x8x5x4096 ![] bcast_S_S32x72x8x5x4096 (constant S_ .f32 0x3DB504F3#32))) (broadcastInDim S32x72x8x5x4096 ![1, 2, 3, 4] bcast_S72x8x5x4096_S32x72x8x5x4096_1_2_3_4 (broadcastInDim S72x8x5x4096 ![] bcast_S_S72x8x5x4096 (id (constant S_ .f32 0xFF800000#32))))

/-- The scores against the new tokens. -/
def newScores (q : FVec Ideal S32x72x8x5x128 .bf16) (kn : FVec Ideal S32x72x8x128 .bf16) : FVec Ideal S32x72x8x5x72 .f32 :=
  select (broadcastInDim S32x72x8x5x72 ![1, 2, 3, 4] bcast_S72x8x5x72_S32x72x8x5x72_1_2_3_4 (broadcastInDim S72x8x5x72 ![0, 1, 2, 3] bcast_S72x1x1x72_S72x8x5x72_0_1_2_3 (broadcastInDim S72x1x1x72 ![0, 3] bcast_S72x72_S72x1x1x72_0_3 (cmpi .sge (broadcastInDim S72x72 ![0, 1] bcast_S72x1_S72x72_0_1 (broadcastInDim S72x1 ![0] bcast_S72_S72x1_0 (iotaInDim S72 32 0))) (broadcastInDim S72x72 ![0, 1] bcast_S1x72_S72x72_0_1 (broadcastInDim S1x72 ![1] bcast_S72_S1x72_1 (iotaInDim S72 32 0))))))) (mulf (transpose S32x72x8x5x72 [0, 3, 1, 4, 2] (Host.dotGeneral dot_S32x72x8x128_S32x72x8x5x128_S32x8x72x72x5_3_4_1_13_02_02 none kn q) transposes_S32x8x72x72x5_S32x72x8x5x72_0_3_1_4_2) (broadcastInDim S32x72x8x5x72 ![] bcast_S_S32x72x8x5x72 (constant S_ .f32 0x3DB504F3#32))) (broadcastInDim S32x72x8x5x72 ![1, 2, 3, 4] bcast_S72x8x5x72_S32x72x8x5x72_1_2_3_4 (broadcastInDim S72x8x5x72 ![] bcast_S_S72x8x5x72 (id (constant S_ .f32 0xFF800000#32))))

theorem oldScores_apply (q : FVec Ideal S32x72x8x5x128 .bf16) (ck : FVec Ideal S32x4096x8x128 .bf16) (ks : FVec Ideal S32x4096x8 .f32) (len : IVec S32 32)
    (b : Fin 32) (s : Fin 72) (h : Fin 8) (g : Fin 5) (t : Fin 4096) :
    oldScores q ck ks len (ix5 b s h g t)
      = if ((t.val : Nat) : Int) < (len (ix1 b)).toInt then
          (∑ d : Fin 128, ck (ix4 b t h d) * q (ix5 b s h g d)) * ks (ix3 b t h) * Ideal.ofBits .f32 0x3DB504F3#32
        else Ideal.ofBits .f32 0xFF800000#32 := by
  unfold oldScores
  pointwise
  rw [slt_ofNat (by omega)]
  split_ifs <;> rfl

theorem newScores_apply (q : FVec Ideal S32x72x8x5x128 .bf16) (kn : FVec Ideal S32x72x8x128 .bf16)
    (b : Fin 32) (s : Fin 72) (h : Fin 8) (g : Fin 5) (j : Fin 72) :
    newScores q kn (ix5 b s h g j)
      = if j.val ≤ s.val then
          (∑ d : Fin 128, kn (ix4 b j h d) * q (ix5 b s h g d)) * Ideal.ofBits .f32 0x3DB504F3#32
        else Ideal.ofBits .f32 0xFF800000#32 := by
  unfold newScores
  pointwise
  rw [sge_ofNat (by omega) (by omega)]
  split_ifs <;> rfl

end Cert.ReferenceIdeal.Elem
-- ==== Proof.RefSums.lean ====
/- The reference's row maxima and sums of weights read at an index, over the extended reals. -/
module

public import proofs.«01_k».proof.Proof.Gen.ReferenceIdeal.Run
public import Idealize.ShloMosaic.Lib.Pointwise

@[expose] public section

set_option maxRecDepth 16384

noncomputable section

namespace Cert.ReferenceIdeal.Elem

open Cert.ReferenceIdeal Cert.ReferenceIdeal.Gen Cert.ReferenceIdeal.Value Idealize.ShloMosaic Idealize.ShloMosaic.TcCoe Idealize.SL.Sem
open scoped BigOperators

/-- The row maxima, of the two arrays of scores. -/
def rowMax (a : FVec Ideal S32x72x8x5x4096 .f32) (n : FVec Ideal S32x72x8x5x72 .f32) : FVec Ideal S32x72x8x5x1 .f32 :=
  maximumf (broadcastInDim S32x72x8x5x1 ![0, 1, 2, 3] bcast_S32x72x8x5_S32x72x8x5x1_0_1_2_3 (Host.reduce FloatOps.maximumf a (constant S_ .f32 0xFF800000#32) reducesTo_S32x72x8x5x4096_S32x72x8x5_d4 h_S_)) (broadcastInDim S32x72x8x5x1 ![0, 1, 2, 3] bcast_S32x72x8x5_S32x72x8x5x1_0_1_2_3 (Host.reduce FloatOps.maximumf n (constant S_ .f32 0xFF800000#32) reducesTo_S32x72x8x5x72_S32x72x8x5_d4 h_S_))

/-- The weights of the cache's tokens. -/
def oldWeights (a : FVec Ideal S32x72x8x5x4096 .f32) (M : FVec Ideal S32x72x8x5x1 .f32) : FVec Ideal S32x72x8x5x4096 .f32 :=
  Host.exp (subf a (broadcastInDim S32x72x8x5x4096 ![0, 1, 2, 3, 4] bcast_S32x72x8x5x1_S32x72x8x5x4096_0_1_2_3_4 M))

/-- The weights of the new tokens. -/
def newWeights (n : FVec Ideal S32x72x8x5x72 .f32) (M : FVec Ideal S32x72x8x5x1 .f32) : FVec Ideal S32x72x8x5x72 .f32 :=
  Host.exp (subf n (broadcastInDim S32x72x8x5x72 ![0, 1, 2, 3, 4] bcast_S32x72x8x5x1_S32x72x8x5x72_0_1_2_3_4 M))

/-- The sums of the weights. -/
def denom (e : FVec Ideal S32x72x8x5x4096 .f32) (f : FVec Ideal S32x72x8x5x72 .f32) : FVec Ideal S32x72x8x5x1 .f32 :=
  addf (broadcastInDim S32x72x8x5x1 ![0, 1, 2, 3] bcast_S32x72x8x5_S32x72x8x5x1_0_1_2_3 (Host.reduceAdd e (constant S_ .f32 0x00000000#32) reducesTo_S32x72x8x5x4096_S32x72x8x5_d4 h_S_)) (broadcastInDim S32x72x8x5x1 ![0, 1, 2, 3] bcast_S32x72x8x5_S32x72x8x5x1_0_1_2_3 (Host.reduceAdd f (constant S_ .f32 0x00000000#32) reducesTo_S32x72x8x5x72_S32x72x8x5_d4 h_S_))

theorem ofBits_negInf : Ideal.ofBits FTy.f32 0xFF800000#32 = ⊥ := by
  simp [Ideal.ofBits, Ideal.ieee]

theorem fold_max {k : Nat} (x : Fin k → EReal) : (Finset.univ : Finset (Fin k)).fold max ⊥ x = Finset.univ.sup x := rfl

/-- A host maximum over the last of five axes, from `-∞`. -/
theorem reduceMax {n0 n1 n2 n3 n4 : Nat} {u : Shape} (x : FVec Ideal (⟨5, ![n0, n1, n2, n3, n4]⟩ : Shape) .f32) (init : FVec Ideal u .f32)
    (h' : (⟨5, ![n0, n1, n2, n3, n4]⟩ : Shape).ReducesTo [4] (⟨4, ![n0, n1, n2, n3]⟩ : Shape)) (hu : 0 < u.numel)
    (hb : init (Shape.Idx.first hu) = (⊥ : EReal)) (b : Fin n0) (s : Fin n1) (h : Fin n2) (g : Fin n3) :
    Host.reduce FloatOps.maximumf x init h' hu (ix4 b s h g) = Finset.univ.sup fun k : Fin n4 => x (ix5 b s h g k) := by
  rw [Host.reduce_eq_fold, Shape.ReducesTo.fold_fiber_r5_a4, hb]
  rfl

/-- Two arrays with a last axis of size one put on, and their maximum. -/
theorem keep_max (A N : FVec Ideal S32x72x8x5 .f32) (b : Fin 32) (s : Fin 72) (h : Fin 8) (g : Fin 5) (z : Fin 1) :
    maximumf (broadcastInDim S32x72x8x5x1 ![0, 1, 2, 3] bcast_S32x72x8x5_S32x72x8x5x1_0_1_2_3 A)
      (broadcastInDim S32x72x8x5x1 ![0, 1, 2, 3] bcast_S32x72x8x5_S32x72x8x5x1_0_1_2_3 N) (ix5 b s h g z)
      = max (A (ix4 b s h g)) (N (ix4 b s h g)) := by
  pointwise

theorem rowMax_apply (a : FVec Ideal S32x72x8x5x4096 .f32) (n : FVec Ideal S32x72x8x5x72 .f32) (b : Fin 32) (s : Fin 72) (h : Fin 8) (g : Fin 5) (z : Fin 1) :
    rowMax a n (ix5 b s h g z) = max (Finset.univ.sup fun t : Fin 4096 => a (ix5 b s h g t)) (Finset.univ.sup fun j : Fin 72 => n (ix5 b s h g j)) := by
  unfold rowMax
  rw [keep_max, reduceMax _ _ _ _ ofBits_negInf, reduceMax _ _ _ _ ofBits_negInf]

theorem oldWeights_apply (a : FVec Ideal S32x72x8x5x4096 .f32) (M : FVec Ideal S32x72x8x5x1 .f32) (b : Fin 32) (s : Fin 72) (h : Fin 8) (g : Fin 5) (t : Fin 4096) :
    oldWeights a M (ix5 b s h g t) = Ideal.exp (a (ix5 b s h g t) - M (ix5 b s h g 0)) := by
  unfold oldWeights
  pointwise

theorem newWeights_apply (n : FVec Ideal S32x72x8x5x72 .f32) (M : FVec Ideal S32x72x8x5x1 .f32) (b : Fin 32) (s : Fin 72) (h : Fin 8) (g : Fin 5) (j : Fin 72) :
    newWeights n M (ix5 b s h g j) = Ideal.exp (n (ix5 b s h g j) - M (ix5 b s h g 0)) := by
  unfold newWeights
  pointwise

theorem denom_apply (e : FVec Ideal S32x72x8x5x4096 .f32) (f : FVec Ideal S32x72x8x5x72 .f32) (b : Fin 32) (s : Fin 72) (h : Fin 8) (g : Fin 5) (z : Fin 1) :
    denom e f (ix5 b s h g z) = (∑ t : Fin 4096, e (ix5 b s h g t)) + ∑ j : Fin 72, f (ix5 b s h g j) := by
  unfold denom
  pointwise

end Cert.ReferenceIdeal.Elem
-- ==== Proof.RefOut.lean ====
/- The reference's result read at an index, over the extended reals. -/
module

public import proofs.«01_k».proof.Proof.RefSums
public import Idealize.ShloMosaic.Lib.Pointwise

@[expose] public section

set_option maxRecDepth 16384

noncomputable section

namespace Cert.ReferenceIdeal.Elem

open Cert.ReferenceIdeal Cert.ReferenceIdeal.Gen Cert.ReferenceIdeal.Value Idealize.ShloMosaic Idealize.ShloMosaic.TcCoe Idealize.SL.Sem
open scoped BigOperators

/-- The result, of the widened cached values, the new values, the scales, the weights, the row maxima and the sums. -/
def result (cv : FVec Ideal S32x4096x8x128 .bf16) (vn : FVec Ideal S32x72x8x128 .bf16) (vs : FVec Ideal S32x4096x8 .f32)
    (e : FVec Ideal S32x72x8x5x4096 .f32) (f : FVec Ideal S32x72x8x5x72 .f32) (M L : FVec Ideal S32x72x8x5x1 .f32) : FVec Ideal S32x72x40x128 .bf16 :=
  shapeCast S32x72x40x128 (truncf .bf16 (select (broadcastInDim S32x72x8x5x128 ![0, 1, 2, 3, 4] bcast_S32x72x8x5x1_S32x72x8x5x128_0_1_2_3_4 (andi (cmpf .ogt M (broadcastInDim S32x72x8x5x1 ![] bcast_S_S32x72x8x5x1 (constant S_ .f32 0xFF800000#32))) (cmpf .olt M (broadcastInDim S32x72x8x5x1 ![] bcast_S_S32x72x8x5x1 (constant S_ .f32 0x7F800000#32))))) (addf (transpose S32x72x8x5x128 [0, 3, 1, 4, 2] (Host.dotGeneral dot_S32x4096x8x128_S32x72x8x5x4096_S32x8x128x72x5_1_4_3_13_02_02 none cv (truncf .bf16 (mulf (Host.divf e (broadcastInDim S32x72x8x5x4096 ![0, 1, 2, 3, 4] bcast_S32x72x8x5x1_S32x72x8x5x4096_0_1_2_3_4 L)) (broadcastInDim S32x72x8x5x4096 ![0, 1, 2, 3, 4] bcast_S32x1x8x1x4096_S32x72x8x5x4096_0_1_2_3_4 (broadcastInDim S32x1x8x1x4096 ![0, 2, 4] bcast_S32x8x4096_S32x1x8x1x4096_0_2_4 (transpose S32x8x4096 [0, 2, 1] vs transposes_S32x4096x8_S32x8x4096_0_2_1)))) bitsLt_bf16_f32)) transposes_S32x8x128x72x5_S32x72x8x5x128_0_3_1_4_2) (transpose S32x72x8x5x128 [0, 3, 1, 4, 2] (Host.dotGeneral dot_S32x72x8x128_S32x72x8x5x72_S32x8x128x72x5_1_4_3_13_02_02 none vn (truncf .bf16 (Host.divf f (broadcastInDim S32x72x8x5x72 ![0, 1, 2, 3, 4] bcast_S32x72x8x5x1_S32x72x8x5x72_0_1_2_3_4 L)) bitsLt_bf16_f32)) transposes_S32x8x128x72x5_S32x72x8x5x128_0_3_1_4_2)) (broadcastInDim S32x72x8x5x128 ![1, 2, 3, 4] bcast_S72x8x5x128_S32x72x8x5x128_1_2_3_4 (broadcastInDim S72x8x5x128 ![] bcast_S_S72x8x5x128 (id (constant S_ .f32 0x7FC00000#32))))) bitsLt_bf16_f32) shapeCasts_S32x72x8x5x128_S32x72x40x128

theorem ofBits_posInf : Ideal.ofBits FTy.f32 0x7F800000#32 = ⊤ := by
  simp [Ideal.ofBits, Ideal.ieee]
theorem ofBits_nan : Ideal.ofBits FTy.f32 0x7FC00000#32 = ⊥ := by
  simp [Ideal.ofBits, Ideal.ieee]

/-- The choice between a value and NaN by the row maximum. -/
theorem select_finite (M x y : EReal) :
    Scalar.select (IntOp.andi (BitVec.ofBool (decide ((⊥ : EReal) < M))) (BitVec.ofBool (decide (M < (⊤ : EReal))))) x y
      = if M = ⊤ ∨ M = ⊥ then y else x := by
  by_cases h0 : M = ⊥
  · subst h0
    simp [Scalar.select, IntOp.andi]
  · by_cases h1 : M = ⊤
    · subst h1
      simp [Scalar.select, IntOp.andi]
    · rw [if_neg (by tauto)]
      have e0 : (⊥ : EReal) < M := bot_lt_iff_ne_bot.mpr h0
      have e1 : M < (⊤ : EReal) := lt_top_iff_ne_top.mpr h1
      simp [Scalar.select, IntOp.andi, e0, e1]

theorem result_apply (cv : FVec Ideal S32x4096x8x128 .bf16) (vn : FVec Ideal S32x72x8x128 .bf16) (vs : FVec Ideal S32x4096x8 .f32)
    (e : FVec Ideal S32x72x8x5x4096 .f32) (f : FVec Ideal S32x72x8x5x72 .f32) (M L : FVec Ideal S32x72x8x5x1 .f32) (b : Fin 32) (s : Fin 72) (n : Fin 40) (d : Fin 128) :
    result cv vn vs e f M L (ix4 b s n d)
      = (let h : Fin 8 := ⟨n.val / 5, by omega⟩
         let g : Fin 5 := ⟨n.val % 5, by omega⟩
         if M (ix5 b s h g 0) = ⊤ ∨ M (ix5 b s h g 0) = ⊥ then ⊥
         else (∑ t : Fin 4096, cv (ix4 b t h d) * (Ideal.div (e (ix5 b s h g t)) (L (ix5 b s h g 0)) * vs (ix3 b t h)))
          + ∑ j : Fin 72, vn (ix4 b j h d) * Ideal.div (f (ix5 b s h g j)) (L (ix5 b s h g 0))) := by
  unfold result
  pointwise
  rw [ofBits_negInf, ofBits_posInf, select_finite]
  refine if_congr Iff.rfl ?_ rfl
  exact ofBits_nan

end Cert.ReferenceIdeal.Elem
-- ==== Proof.RefValue.lean ====
/- The reference's result is plain attention, element by element. -/
module

public import proofs.«01_k».proof.Proof.RefScores
public import proofs.«01_k».proof.Proof.RefSums
public import proofs.«01_k».proof.Proof.RefOut
public import proofs.«01_k».proof.Proof.Attention

@[expose] public section

set_option maxRecDepth 16384

noncomputable section

namespace Cert.ReferenceIdeal.Elem

open Cert.ReferenceIdeal Idealize.ShloMosaic Cert.Softmax
open Cert.Gqa (Tok rowScore rowValue attend)
open scoped BigOperators

/-- The greatest of the scores is that of the greatest of either kind. -/
theorem top_tok (S : Tok → EReal) :
    max (Finset.univ.sup fun t : Fin 4096 => S (.inr t)) (Finset.univ.sup fun j : Fin 72 => S (.inl j)) = top S Finset.univ := by
  unfold top
  refine le_antisymm (max_le ?_ ?_) (Finset.sup_le ?_)
  · exact Finset.sup_le fun t _ => Finset.le_sup (f := S) (Finset.mem_univ (Sum.inr t))
  · exact Finset.sup_le fun j _ => Finset.le_sup (f := S) (Finset.mem_univ (Sum.inl j))
  · rintro (j | t) -
    · exact le_max_of_le_right (Finset.le_sup (f := fun j : Fin 72 => S (.inl j)) (Finset.mem_univ j))
    · exact le_max_of_le_left (Finset.le_sup (f := fun t : Fin 4096 => S (.inr t)) (Finset.mem_univ t))

/-- A sum over the tokens. -/
theorem sum_tok (f : Tok → EReal) : (∑ t : Fin 4096, f (.inr t)) + ∑ j : Fin 72, f (.inl j) = ∑ i, f i := by
  rw [Fintype.sum_sum_type, add_comm]

variable (q : FVec Ideal S32x72x8x5x128 .bf16) (kn vn : FVec Ideal S32x72x8x128 .bf16) (ck cv : FVec Ideal S32x4096x8x128 .bf16)
  (ks vs : FVec Ideal S32x4096x8 .f32) (len : IVec S32 32)

/-- The whole of the reference after the caches are widened. -/
def whole : FVec Ideal S32x72x40x128 .bf16 :=
  result cv vn vs (oldWeights (oldScores q ck ks len) (rowMax (oldScores q ck ks len) (newScores q kn)))
    (newWeights (newScores q kn) (rowMax (oldScores q ck ks len) (newScores q kn)))
    (rowMax (oldScores q ck ks len) (newScores q kn))
    (denom (oldWeights (oldScores q ck ks len) (rowMax (oldScores q ck ks len) (newScores q kn)))
      (newWeights (newScores q kn) (rowMax (oldScores q ck ks len) (newScores q kn))))

/-- Its element: head row `n` of new token `s` of batch `b`, coordinate `d`. -/
theorem whole_apply (b : Fin 32) (s : Fin 72) (n : Fin 40) (d : Fin 128) (hh : n.val / 5 < 8) (hg : n.val % 5 < 5) :
    whole q kn vn ck cv ks vs len (ix4 b s n d)
      = attend (Ideal.ofBits .f32 0x3DB504F3#32) s.val (len (ix1 b)).toInt
          (fun d => q (ix5 b s ⟨n.val / 5, hh⟩ ⟨n.val % 5, hg⟩ d)) (fun j d => kn (ix4 b j ⟨n.val / 5, hh⟩ d))
          (fun t d => ck (ix4 b t ⟨n.val / 5, hh⟩ d)) (fun t => ks (ix3 b t ⟨n.val / 5, hh⟩))
          (fun j => vn (ix4 b j ⟨n.val / 5, hh⟩ d)) (fun t => cv (ix4 b t ⟨n.val / 5, hh⟩ d)) (fun t => vs (ix3 b t ⟨n.val / 5, hh⟩)) := by
  unfold whole
  rw [result_apply]
  dsimp only
  simp only [denom_apply, oldWeights_apply, newWeights_apply, rowMax_apply]
  unfold attend
  generalize hS : rowScore (Ideal.ofBits .f32 0x3DB504F3#32) s.val (len (ix1 b)).toInt
          (fun d => q (ix5 b s ⟨n.val / 5, hh⟩ ⟨n.val % 5, hg⟩ d)) (fun j d => kn (ix4 b j ⟨n.val / 5, hh⟩ d))
          (fun t d => ck (ix4 b t ⟨n.val / 5, hh⟩ d)) (fun t => ks (ix3 b t ⟨n.val / 5, hh⟩)) = S
  have hA : ∀ t : Fin 4096, oldScores q ck ks len (ix5 b s ⟨n.val / 5, hh⟩ ⟨n.val % 5, hg⟩ t) = S (.inr t) := by
    intro t
    rw [oldScores_apply, ofBits_negInf, ← hS]
    simp only [rowScore]
    split_ifs
    · rw [mul_assoc]
      refine congrArg (· * _) (Finset.sum_congr rfl fun d _ => mul_comm _ _)
    · rfl
  have hN : ∀ j : Fin 72, newScores q kn (ix5 b s ⟨n.val / 5, hh⟩ ⟨n.val % 5, hg⟩ j) = S (.inl j) := by
    intro j
    rw [newScores_apply, ofBits_negInf, ← hS]
    simp only [rowScore]
    split_ifs
    · refine congrArg (· * _) (Finset.sum_congr rfl fun d _ => mul_comm _ _)
    · rfl
  simp only [hA, hN]
  rw [top_tok S, sum_tok fun i => Ideal.exp (S i - top S Finset.univ)]
  refine if_congr Iff.rfl rfl ?_
  refine Eq.trans ?_ (sum_tok _)
  refine congrArg₂ (· + ·) (Finset.sum_congr rfl fun t _ => ?_) (Finset.sum_congr rfl fun j _ => mul_comm _ _)
  simp only [rowValue]
  rw [mul_comm, mul_assoc]

end Cert.ReferenceIdeal.Elem
-- ==== Proof.Widen.lean ====
/- What the reference's region leaves: the two caches, widened, are the caches. -/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Elem

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ) (c : Dev nD)

/-- The widened cached keys are the cached keys. -/
theorem widened_keys : (reg_main_v1_0 m c : FVec Ideal S32x4096x8x128 .bf16) = (m ((c.tc : Thread nD τ).loc main_arg3) : FVec Ideal S32x4096x8x128 .fp8e4m3) := by
  unfold reg_main_v1_0
  refine (Gen.dats m 0 c).arrAt_eq_of_covers 2 _ (by decide +kernel) fun t hf y => ?_
  blk_simp
  rw [after0_2]
  frame_out
  show V m c main_arg3 (((cfg0.win 0).blk t).view.emb y) = _
  rw [V_main_arg3 m c]
  refine congrArg (m (c.tc.loc main_arg3)) ?_
  funext a
  apply Fin.ext
  refine (Pipeline.Window.rect_emb_val _ _ _ _).trans (Eq.trans ?_ (Pipeline.Window.rect_emb_val _ _ _ _).symm)
  rfl

/-- The widened cached values are the cached values. -/
theorem widened_values : (reg_main_v1_1 m c : FVec Ideal S32x4096x8x128 .bf16) = (m ((c.tc : Thread nD τ).loc main_arg4) : FVec Ideal S32x4096x8x128 .fp8e4m3) := by
  unfold reg_main_v1_1
  refine (Gen.dats m 0 c).arrAt_eq_of_covers 3 _ (by decide +kernel) fun t hf y => ?_
  blk_simp
  rw [after0_3]
  frame_out
  show V m c main_arg4 (((cfg0.win 1).blk t).view.emb y) = _
  rw [V_main_arg4 m c]
  refine congrArg (m (c.tc.loc main_arg4)) ?_
  funext a
  apply Fin.ext
  refine (Pipeline.Window.rect_emb_val _ _ _ _).trans (Eq.trans ?_ (Pipeline.Window.rect_emb_val _ _ _ _).symm)
  rfl

end Cert.ReferenceIdeal.Elem
-- ==== Proof.RefRun.lean ====
/- The reference's run: its result is `whole` of the arguments. -/
module

public import proofs.«01_k».proof.Proof.RefValue
public import proofs.«01_k».proof.Proof.Widen

@[expose] public section

set_option maxRecDepth 16384

noncomputable section

namespace Cert.ReferenceIdeal.Elem

open Cert.ReferenceIdeal Cert.ReferenceIdeal.Gen Cert.ReferenceIdeal.Value Idealize.ShloMosaic Idealize.ShloMosaic.TcCoe Idealize.SL.Sem

/-- The host's operations after the region compute `whole` of what they find. -/
theorem val7_whole (W : Valuation τ sig (Elt Ideal)) : val7 W (Proc.devRef .tc main_v68)
    = whole (W (Proc.devRef .tc main_v0)) (W (Proc.devRef .tc main_arg1)) (W (Proc.devRef .tc main_arg2)) (W (Proc.devRef .tc main_v1_0))
        (W (Proc.devRef .tc main_v1_1)) (W (Proc.devRef .tc main_arg5)) (W (Proc.devRef .tc main_arg6)) (W (Proc.devRef .tc main_arg7)) :=
  (val7_main_v68 W).trans rfl

variable (m : (ℓ : Loc nD τ sig) → Buf (Elt Ideal) ℓ) (ρ : Dev nD → PrngReg)

/-- The queries by head and group. -/
abbrev heads (x : FVec Ideal S32x72x40x128 .bf16) : FVec Ideal S32x72x8x5x128 .bf16 := shapeCast _ x shapeCasts_S32x72x40x128_S32x72x8x5x128

/-- Row `n` of the queries is group `n % 5` of head `n / 5`. -/
theorem heads_apply (x : FVec Ideal S32x72x40x128 .bf16) (b : Fin 32) (s : Fin 72) (n : Fin 40) (d : Fin 128) (hh : n.val / 5 < 8) (hg : n.val % 5 < 5) :
    heads x (ix5 b s ⟨n.val / 5, hh⟩ ⟨n.val % 5, hg⟩ d) = x (ix4 b s n d) := by
  unfold heads
  pointwise

/-- The result found at exit. -/
theorem exit_whole (c : Dev nD) : val7 (exitV m c) (Proc.devRef .tc main_v68)
    = whole (heads (m ((c.tc : Thread nD τ).loc main_arg0))) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  rw [val7_whole, exit_main_v0, exit_main_arg1, exit_main_arg2, exit_main_v1_0, exit_main_v1_1, exit_main_arg5, exit_main_arg6, exit_main_arg7,
    widened_keys, widened_values]

end Cert.ReferenceIdeal.Elem
-- ==== Proof.Join.lean ====
/- The algebraic claim: over the extended reals the idealized kernel's result is the reference's. -/
module

public import proofs.«01_k».proof.Defs
public import proofs.«01_k».proof.Proof.Lengths
public import proofs.«01_k».proof.Proof.KernelIdealValue
public import proofs.«01_k».proof.Proof.RefRun

@[expose] public section

noncomputable section

namespace Cert.Gqa

open Idealize.ShloMosaic Idealize.ShloMosaic.TcCoe Idealize.SL.Sem

/-- The two results are one, the arguments agreeing. -/
theorem results_eq (m : (ℓ : Loc Cert.KernelIdeal.nD Cert.KernelIdeal.τ Cert.KernelIdeal.sig) → Buf (Elt Ideal) ℓ) (c : Dev Cert.KernelIdeal.nD) :
    (Cert.ReferenceIdeal.Elem.whole (Cert.ReferenceIdeal.Elem.heads (m ((c.tc : Thread Cert.KernelIdeal.nD Cert.KernelIdeal.τ).loc Cert.KernelIdeal.main_arg0)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) : FVec Ideal Cert.ReferenceIdeal.S32x72x40x128 .bf16)
      = fun y : Cert.KernelIdeal.S32x72x40x128.Idx => Cert.KernelIdeal.Run.element m c (y 0) (y 1) (y 2) (y 3) (Cert.KernelIdeal.Run.head_lt (y 2)) := by
  funext y
  obtain ⟨b, s, n, d, rfl⟩ : ∃ (b : Fin 32) (s : Fin 72) (n : Fin 40) (d : Fin 128), y = ix4 b s n d := ⟨_, _, _, _, eq_ix4 y⟩
  refine (Cert.ReferenceIdeal.Elem.whole_apply _ _ _ _ _ _ _ _ b s n d (Cert.KernelIdeal.Run.head_lt n) (Nat.mod_lt _ (by decide))).trans ?_
  simp only [Cert.ReferenceIdeal.Elem.heads_apply]
  rfl

/-- The algebraic claim. -/
theorem algebraic : Cert.algebraic_KernelIdeal_ReferenceIdeal := by
  intro m g m' g' hpre hargs
  have hlen := Cert.KernelIdeal.Run.lens_range m hpre
  have hO := Cert.KernelIdeal.Run.admits m hpre
  refine ⟨fun c => (Cert.KernelIdeal.Run.dats m hO 0 c).arrAt 7 (Cert.KernelIdeal.Run.cfgA m).N, ?_, ?_⟩
  · exact (θ_run _ _ _).mono (fun _ e => e.1) (Cert.KernelIdeal.Run.run m g hO)
  · refine (θ_run _ _ _).mono (fun _ e c => ⟨?_, (e c).2⟩) (Cert.ReferenceIdeal.Value.run m' g')
    obtain ⟨a0, a1, a2, a3, a4, a5, a6, a7⟩ := hargs c
    have w := Cert.ReferenceIdeal.Elem.exit_whole m' c
    rw [a0, a1, a2, a3, a4, a5, a6, a7] at w
    exact (e c).1.trans ((Cert.ReferenceIdeal.Value.val7_main_v68 _).symm.trans
      (w.trans ((results_eq m c).trans (Cert.KernelIdeal.Run.array_eq m hO hlen c).symm)))

end Cert.Gqa
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.Pre_in_cache
public import proofs.«01_k».proof.Proof.Lengths
public import proofs.«01_k».proof.Proof.Join
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_cache.Gen.facts,
  fun m ρ h => (θ_run _ _ _).mono (fun _ e => ⟨fun c => (e.1 c).2, e.2⟩) (Cert.Kernel.Run.run m ρ (Cert.Kernel.Run.admits m h)),
  fun m ρ h => (θ_run _ _ _).mono (fun _ e => ⟨fun c => (e.1 c).2, e.2⟩) (Cert.KernelIdeal.Run.run m ρ (Cert.KernelIdeal.Run.admits m h)),
  fun m ρ _ => Cert.ReferenceIdeal.Gen.frame m ρ,
  fun m ρ _ => Cert.ReferenceIdeal.Gen.frame m ρ,
  ⟨IdealRules.named_const.statement Cert.KernelIdeal.κ "scale_log2e" .f32 0x3E0293EE#32 _ rfl,
    IdealRules.named_const.statement Cert.KernelIdeal.κ "mask" .f32 0xF149F2CA#32 _ rfl⟩,
  Cert.Gqa.algebraic⟩

end Cert.Proof

end
